-- ==== Defs.lean ====
def Pre_Linear2 (m : (ℓ : Loc Cert.Linear2.nD Cert.Linear2.τ Cert.Linear2.sig) → Buf (Elt Bits) ℓ) : Prop :=
  True

def Pre_Linear2Ideal (m : (ℓ : Loc Cert.Linear2Ideal.nD Cert.Linear2Ideal.τ Cert.Linear2Ideal.sig) → Buf (Elt Ideal) ℓ) : Prop :=
  True

def Pre_Linear2Ideal_segments_of_256 [hPre_segments_of_256 : Cert.Pre_segments_of_256.Facts] (m : (ℓ : Loc Cert.Linear2Ideal.nD Cert.Linear2Ideal.τ Cert.Linear2Ideal.sig) → Buf (Elt Ideal) ℓ) : Prop :=
  ∀ c : Dev Cert.Linear2Ideal.nD,
    (Cert.Pre_segments_of_256.fn (F := Ideal) (m ((c.tc : Thread Cert.Linear2Ideal.nD Cert.Linear2Ideal.τ).loc Cert.Linear2Ideal.main_arg0)) (m ((c.tc : Thread Cert.Linear2Ideal.nD Cert.Linear2Ideal.τ).loc Cert.Linear2Ideal.main_arg1)) (m ((c.tc : Thread Cert.Linear2Ideal.nD Cert.Linear2Ideal.τ).loc Cert.Linear2Ideal.main_arg2)) (m ((c.tc : Thread Cert.Linear2Ideal.nD Cert.Linear2Ideal.τ).loc Cert.Linear2Ideal.main_arg3)) (m ((c.tc : Thread Cert.Linear2Ideal.nD Cert.Linear2Ideal.τ).loc Cert.Linear2Ideal.main_arg4)) (m ((c.tc : Thread Cert.Linear2Ideal.nD Cert.Linear2Ideal.τ).loc Cert.Linear2Ideal.main_arg5)) (m ((c.tc : Thread Cert.Linear2Ideal.nD Cert.Linear2Ideal.τ).loc Cert.Linear2Ideal.main_arg6)) (m ((c.tc : Thread Cert.Linear2Ideal.nD Cert.Linear2Ideal.τ).loc Cert.Linear2Ideal.main_arg7)) (m ((c.tc : Thread Cert.Linear2Ideal.nD Cert.Linear2Ideal.τ).loc Cert.Linear2Ideal.main_arg8)) (m ((c.tc : Thread Cert.Linear2Ideal.nD Cert.Linear2Ideal.τ).loc Cert.Linear2Ideal.main_arg9))) = (fun _ => 1#1)

def Pre_Linear2RefIdeal (m : (ℓ : Loc Cert.Linear2RefIdeal.nD Cert.Linear2RefIdeal.τ Cert.Linear2RefIdeal.sig) → Buf (Elt Ideal) ℓ) : Prop :=
  True

def Pre_Linear2RefIdeal_segments_of_256 [hPre_segments_of_256 : Cert.Pre_segments_of_256.Facts] (m : (ℓ : Loc Cert.Linear2RefIdeal.nD Cert.Linear2RefIdeal.τ Cert.Linear2RefIdeal.sig) → Buf (Elt Ideal) ℓ) : Prop :=
  ∀ c : Dev Cert.Linear2RefIdeal.nD,
    (Cert.Pre_segments_of_256.fn (F := Ideal) (m ((c.tc : Thread Cert.Linear2RefIdeal.nD Cert.Linear2RefIdeal.τ).loc Cert.Linear2RefIdeal.main_arg0)) (m ((c.tc : Thread Cert.Linear2RefIdeal.nD Cert.Linear2RefIdeal.τ).loc Cert.Linear2RefIdeal.main_arg1)) (m ((c.tc : Thread Cert.Linear2RefIdeal.nD Cert.Linear2RefIdeal.τ).loc Cert.Linear2RefIdeal.main_arg2)) (m ((c.tc : Thread Cert.Linear2RefIdeal.nD Cert.Linear2RefIdeal.τ).loc Cert.Linear2RefIdeal.main_arg3)) (m ((c.tc : Thread Cert.Linear2RefIdeal.nD Cert.Linear2RefIdeal.τ).loc Cert.Linear2RefIdeal.main_arg4)) (m ((c.tc : Thread Cert.Linear2RefIdeal.nD Cert.Linear2RefIdeal.τ).loc Cert.Linear2RefIdeal.main_arg5)) (m ((c.tc : Thread Cert.Linear2RefIdeal.nD Cert.Linear2RefIdeal.τ).loc Cert.Linear2RefIdeal.main_arg6)) (m ((c.tc : Thread Cert.Linear2RefIdeal.nD Cert.Linear2RefIdeal.τ).loc Cert.Linear2RefIdeal.main_arg7)) (m ((c.tc : Thread Cert.Linear2RefIdeal.nD Cert.Linear2RefIdeal.τ).loc Cert.Linear2RefIdeal.main_arg8)) (m ((c.tc : Thread Cert.Linear2RefIdeal.nD Cert.Linear2RefIdeal.τ).loc Cert.Linear2RefIdeal.main_arg9))) = (fun _ => 1#1)

def Pre_Linear1 (m : (ℓ : Loc Cert.Linear1.nD Cert.Linear1.τ Cert.Linear1.sig) → Buf (Elt Bits) ℓ) : Prop :=
  True

def Pre_Linear1Ideal (m : (ℓ : Loc Cert.Linear1Ideal.nD Cert.Linear1Ideal.τ Cert.Linear1Ideal.sig) → Buf (Elt Ideal) ℓ) : Prop :=
  True

def Pre_Linear1RefIdeal (m : (ℓ : Loc Cert.Linear1RefIdeal.nD Cert.Linear1RefIdeal.τ Cert.Linear1RefIdeal.sig) → Buf (Elt Ideal) ℓ) : Prop :=
  True

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesIdeal_segments_of_32 [hPre_segments_of_32 : Cert.Pre_segments_of_32.Facts] (m : (ℓ : Loc Cert.CodesIdeal.nD Cert.CodesIdeal.τ Cert.CodesIdeal.sig) → Buf (Elt Ideal) ℓ) : Prop :=
  ∀ c : Dev Cert.CodesIdeal.nD,
    (Cert.Pre_segments_of_32.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4))) = (fun _ => 1#1)

def Pre_CodesRefIdeal (m : (ℓ : Loc Cert.CodesRefIdeal.nD Cert.CodesRefIdeal.τ Cert.CodesRefIdeal.sig) → Buf (Elt Ideal) ℓ) : Prop :=
  True

def Pre_CodesRefIdeal_segments_of_32 [hPre_segments_of_32 : Cert.Pre_segments_of_32.Facts] (m : (ℓ : Loc Cert.CodesRefIdeal.nD Cert.CodesRefIdeal.τ Cert.CodesRefIdeal.sig) → Buf (Elt Ideal) ℓ) : Prop :=
  ∀ c : Dev Cert.CodesRefIdeal.nD,
    (Cert.Pre_segments_of_32.fn (F := Ideal) (m ((c.tc : Thread Cert.CodesRefIdeal.nD Cert.CodesRefIdeal.τ).loc Cert.CodesRefIdeal.main_arg0)) (m ((c.tc : Thread Cert.CodesRefIdeal.nD Cert.CodesRefIdeal.τ).loc Cert.CodesRefIdeal.main_arg1)) (m ((c.tc : Thread Cert.CodesRefIdeal.nD Cert.CodesRefIdeal.τ).loc Cert.CodesRefIdeal.main_arg2)) (m ((c.tc : Thread Cert.CodesRefIdeal.nD Cert.CodesRefIdeal.τ).loc Cert.CodesRefIdeal.main_arg3)) (m ((c.tc : Thread Cert.CodesRefIdeal.nD Cert.CodesRefIdeal.τ).loc Cert.CodesRefIdeal.main_arg4))) = (fun _ => 1#1)

def quiescent_Linear2 [hLinear2 : Cert.Linear2.Facts] : Prop :=
  ∀ (m : (ℓ : Loc Cert.Linear2.nD Cert.Linear2.τ Cert.Linear2.sig) → Buf (Elt Bits) ℓ) (g : Dev Cert.Linear2.nD → PrngReg), Pre_Linear2 m →
    θ_run (Cert.Linear2.defs (F := Bits)) (onTc (τ := Cert.Linear2.τ) (Cert.Linear2.main (F := Bits))) ⟨m, fun _ => 0, g⟩ (fun r => (∀ c : Dev Cert.Linear2.nD,
      r.2.mem ((c.tc : Thread Cert.Linear2.nD Cert.Linear2.τ).loc Cert.Linear2.main_arg0) = m ((c.tc : Thread Cert.Linear2.nD Cert.Linear2.τ).loc Cert.Linear2.main_arg0)
      ∧ r.2.mem ((c.tc : Thread Cert.Linear2.nD Cert.Linear2.τ).loc Cert.Linear2.main_arg1) = m ((c.tc : Thread Cert.Linear2.nD Cert.Linear2.τ).loc Cert.Linear2.main_arg1)
      ∧ r.2.mem ((c.tc : Thread Cert.Linear2.nD Cert.Linear2.τ).loc Cert.Linear2.main_arg2) = m ((c.tc : Thread Cert.Linear2.nD Cert.Linear2.τ).loc Cert.Linear2.main_arg2)
      ∧ r.2.mem ((c.tc : Thread Cert.Linear2.nD Cert.Linear2.τ).loc Cert.Linear2.main_arg3) = m ((c.tc : Thread Cert.Linear2.nD Cert.Linear2.τ).loc Cert.Linear2.main_arg3)
      ∧ r.2.mem ((c.tc : Thread Cert.Linear2.nD Cert.Linear2.τ).loc Cert.Linear2.main_arg4) = m ((c.tc : Thread Cert.Linear2.nD Cert.Linear2.τ).loc Cert.Linear2.main_arg4)
      ∧ r.2.mem ((c.tc : Thread Cert.Linear2.nD Cert.Linear2.τ).loc Cert.Linear2.main_arg5) = m ((c.tc : Thread Cert.Linear2.nD Cert.Linear2.τ).loc Cert.Linear2.main_arg5)
      ∧ r.2.mem ((c.tc : Thread Cert.Linear2.nD Cert.Linear2.τ).loc Cert.Linear2.main_arg6) = m ((c.tc : Thread Cert.Linear2.nD Cert.Linear2.τ).loc Cert.Linear2.main_arg6)
      ∧ r.2.mem ((c.tc : Thread Cert.Linear2.nD Cert.Linear2.τ).loc Cert.Linear2.main_arg7) = m ((c.tc : Thread Cert.Linear2.nD Cert.Linear2.τ).loc Cert.Linear2.main_arg7)
      ∧ r.2.mem ((c.tc : Thread Cert.Linear2.nD Cert.Linear2.τ).loc Cert.Linear2.main_arg8) = m ((c.tc : Thread Cert.Linear2.nD Cert.Linear2.τ).loc Cert.Linear2.main_arg8)
      ∧ r.2.mem ((c.tc : Thread Cert.Linear2.nD Cert.Linear2.τ).loc Cert.Linear2.main_arg9) = m ((c.tc : Thread Cert.Linear2.nD Cert.Linear2.τ).loc Cert.Linear2.main_arg9))
      ∧ r.2.sem = fun _ => 0)

def quiescent_Linear2Ideal [hLinear2Ideal : Cert.Linear2Ideal.Facts] : Prop :=
  ∀ (m : (ℓ : Loc Cert.Linear2Ideal.nD Cert.Linear2Ideal.τ Cert.Linear2Ideal.sig) → Buf (Elt Ideal) ℓ) (g : Dev Cert.Linear2Ideal.nD → PrngReg), Pre_Linear2Ideal m →
    θ_run (Cert.Linear2Ideal.defs (F := Ideal)) (onTc (τ := Cert.Linear2Ideal.τ) (Cert.Linear2Ideal.main (F := Ideal))) ⟨m, fun _ => 0, g⟩ (fun r => (∀ c : Dev Cert.Linear2Ideal.nD,
      r.2.mem ((c.tc : Thread Cert.Linear2Ideal.nD Cert.Linear2Ideal.τ).loc Cert.Linear2Ideal.main_arg0) = m ((c.tc : Thread Cert.Linear2Ideal.nD Cert.Linear2Ideal.τ).loc Cert.Linear2Ideal.main_arg0)
      ∧ r.2.mem ((c.tc : Thread Cert.Linear2Ideal.nD Cert.Linear2Ideal.τ).loc Cert.Linear2Ideal.main_arg1) = m ((c.tc : Thread Cert.Linear2Ideal.nD Cert.Linear2Ideal.τ).loc Cert.Linear2Ideal.main_arg1)
      ∧ r.2.mem ((c.tc : Thread Cert.Linear2Ideal.nD Cert.Linear2Ideal.τ).loc Cert.Linear2Ideal.main_arg2) = m ((c.tc : Thread Cert.Linear2Ideal.nD Cert.Linear2Ideal.τ).loc Cert.Linear2Ideal.main_arg2)
      ∧ r.2.mem ((c.tc : Thread Cert.Linear2Ideal.nD Cert.Linear2Ideal.τ).loc Cert.Linear2Ideal.main_arg3) = m ((c.tc : Thread Cert.Linear2Ideal.nD Cert.Linear2Ideal.τ).loc Cert.Linear2Ideal.main_arg3)
      ∧ r.2.mem ((c.tc : Thread Cert.Linear2Ideal.nD Cert.Linear2Ideal.τ).loc Cert.Linear2Ideal.main_arg4) = m ((c.tc : Thread Cert.Linear2Ideal.nD Cert.Linear2Ideal.τ).loc Cert.Linear2Ideal.main_arg4)
      ∧ r.2.mem ((c.tc : Thread Cert.Linear2Ideal.nD Cert.Linear2Ideal.τ).loc Cert.Linear2Ideal.main_arg5) = m ((c.tc : Thread Cert.Linear2Ideal.nD Cert.Linear2Ideal.τ).loc Cert.Linear2Ideal.main_arg5)
      ∧ r.2.mem ((c.tc : Thread Cert.Linear2Ideal.nD Cert.Linear2Ideal.τ).loc Cert.Linear2Ideal.main_arg6) = m ((c.tc : Thread Cert.Linear2Ideal.nD Cert.Linear2Ideal.τ).loc Cert.Linear2Ideal.main_arg6)
      ∧ r.2.mem ((c.tc : Thread Cert.Linear2Ideal.nD Cert.Linear2Ideal.τ).loc Cert.Linear2Ideal.main_arg7) = m ((c.tc : Thread Cert.Linear2Ideal.nD Cert.Linear2Ideal.τ).loc Cert.Linear2Ideal.main_arg7)
      ∧ r.2.mem ((c.tc : Thread Cert.Linear2Ideal.nD Cert.Linear2Ideal.τ).loc Cert.Linear2Ideal.main_arg8) = m ((c.tc : Thread Cert.Linear2Ideal.nD Cert.Linear2Ideal.τ).loc Cert.Linear2Ideal.main_arg8)
      ∧ r.2.mem ((c.tc : Thread Cert.Linear2Ideal.nD Cert.Linear2Ideal.τ).loc Cert.Linear2Ideal.main_arg9) = m ((c.tc : Thread Cert.Linear2Ideal.nD Cert.Linear2Ideal.τ).loc Cert.Linear2Ideal.main_arg9))
      ∧ r.2.sem = fun _ => 0)

def quiescent_Linear2Ideal_pre_segments_of_256 [hLinear2Ideal : Cert.Linear2Ideal.Facts] [hPre_segments_of_256 : Cert.Pre_segments_of_256.Facts] : Prop :=
  ∀ (m : (ℓ : Loc Cert.Linear2Ideal.nD Cert.Linear2Ideal.τ Cert.Linear2Ideal.sig) → Buf (Elt Ideal) ℓ) (g : Dev Cert.Linear2Ideal.nD → PrngReg), Pre_Linear2Ideal_segments_of_256 m →
    θ_run (Cert.Linear2Ideal.defs (F := Ideal)) (onTc (τ := Cert.Linear2Ideal.τ) (Cert.Linear2Ideal.main (F := Ideal))) ⟨m, fun _ => 0, g⟩ (fun r => (∀ c : Dev Cert.Linear2Ideal.nD,
      r.2.mem ((c.tc : Thread Cert.Linear2Ideal.nD Cert.Linear2Ideal.τ).loc Cert.Linear2Ideal.main_arg0) = m ((c.tc : Thread Cert.Linear2Ideal.nD Cert.Linear2Ideal.τ).loc Cert.Linear2Ideal.main_arg0)
      ∧ r.2.mem ((c.tc : Thread Cert.Linear2Ideal.nD Cert.Linear2Ideal.τ).loc Cert.Linear2Ideal.main_arg1) = m ((c.tc : Thread Cert.Linear2Ideal.nD Cert.Linear2Ideal.τ).loc Cert.Linear2Ideal.main_arg1)
      ∧ r.2.mem ((c.tc : Thread Cert.Linear2Ideal.nD Cert.Linear2Ideal.τ).loc Cert.Linear2Ideal.main_arg2) = m ((c.tc : Thread Cert.Linear2Ideal.nD Cert.Linear2Ideal.τ).loc Cert.Linear2Ideal.main_arg2)
      ∧ r.2.mem ((c.tc : Thread Cert.Linear2Ideal.nD Cert.Linear2Ideal.τ).loc Cert.Linear2Ideal.main_arg3) = m ((c.tc : Thread Cert.Linear2Ideal.nD Cert.Linear2Ideal.τ).loc Cert.Linear2Ideal.main_arg3)
      ∧ r.2.mem ((c.tc : Thread Cert.Linear2Ideal.nD Cert.Linear2Ideal.τ).loc Cert.Linear2Ideal.main_arg4) = m ((c.tc : Thread Cert.Linear2Ideal.nD Cert.Linear2Ideal.τ).loc Cert.Linear2Ideal.main_arg4)
      ∧ r.2.mem ((c.tc : Thread Cert.Linear2Ideal.nD Cert.Linear2Ideal.τ).loc Cert.Linear2Ideal.main_arg5) = m ((c.tc : Thread Cert.Linear2Ideal.nD Cert.Linear2Ideal.τ).loc Cert.Linear2Ideal.main_arg5)
      ∧ r.2.mem ((c.tc : Thread Cert.Linear2Ideal.nD Cert.Linear2Ideal.τ).loc Cert.Linear2Ideal.main_arg6) = m ((c.tc : Thread Cert.Linear2Ideal.nD Cert.Linear2Ideal.τ).loc Cert.Linear2Ideal.main_arg6)
      ∧ r.2.mem ((c.tc : Thread Cert.Linear2Ideal.nD Cert.Linear2Ideal.τ).loc Cert.Linear2Ideal.main_arg7) = m ((c.tc : Thread Cert.Linear2Ideal.nD Cert.Linear2Ideal.τ).loc Cert.Linear2Ideal.main_arg7)
      ∧ r.2.mem ((c.tc : Thread Cert.Linear2Ideal.nD Cert.Linear2Ideal.τ).loc Cert.Linear2Ideal.main_arg8) = m ((c.tc : Thread Cert.Linear2Ideal.nD Cert.Linear2Ideal.τ).loc Cert.Linear2Ideal.main_arg8)
      ∧ r.2.mem ((c.tc : Thread Cert.Linear2Ideal.nD Cert.Linear2Ideal.τ).loc Cert.Linear2Ideal.main_arg9) = m ((c.tc : Thread Cert.Linear2Ideal.nD Cert.Linear2Ideal.τ).loc Cert.Linear2Ideal.main_arg9))
      ∧ r.2.sem = fun _ => 0)

def quiescent_Linear2RefIdeal [hLinear2RefIdeal : Cert.Linear2RefIdeal.Facts] : Prop :=
  ∀ (m : (ℓ : Loc Cert.Linear2RefIdeal.nD Cert.Linear2RefIdeal.τ Cert.Linear2RefIdeal.sig) → Buf (Elt Ideal) ℓ) (g : Dev Cert.Linear2RefIdeal.nD → PrngReg), Pre_Linear2RefIdeal m →
    θ_run (Cert.Linear2RefIdeal.defs (F := Ideal)) (onTc (τ := Cert.Linear2RefIdeal.τ) (Cert.Linear2RefIdeal.main (F := Ideal))) ⟨m, fun _ => 0, g⟩ (fun r => (∀ c : Dev Cert.Linear2RefIdeal.nD,
      r.2.mem ((c.tc : Thread Cert.Linear2RefIdeal.nD Cert.Linear2RefIdeal.τ).loc Cert.Linear2RefIdeal.main_arg0) = m ((c.tc : Thread Cert.Linear2RefIdeal.nD Cert.Linear2RefIdeal.τ).loc Cert.Linear2RefIdeal.main_arg0)
      ∧ r.2.mem ((c.tc : Thread Cert.Linear2RefIdeal.nD Cert.Linear2RefIdeal.τ).loc Cert.Linear2RefIdeal.main_arg1) = m ((c.tc : Thread Cert.Linear2RefIdeal.nD Cert.Linear2RefIdeal.τ).loc Cert.Linear2RefIdeal.main_arg1)
      ∧ r.2.mem ((c.tc : Thread Cert.Linear2RefIdeal.nD Cert.Linear2RefIdeal.τ).loc Cert.Linear2RefIdeal.main_arg2) = m ((c.tc : Thread Cert.Linear2RefIdeal.nD Cert.Linear2RefIdeal.τ).loc Cert.Linear2RefIdeal.main_arg2)
      ∧ r.2.mem ((c.tc : Thread Cert.Linear2RefIdeal.nD Cert.Linear2RefIdeal.τ).loc Cert.Linear2RefIdeal.main_arg3) = m ((c.tc : Thread Cert.Linear2RefIdeal.nD Cert.Linear2RefIdeal.τ).loc Cert.Linear2RefIdeal.main_arg3)
      ∧ r.2.mem ((c.tc : Thread Cert.Linear2RefIdeal.nD Cert.Linear2RefIdeal.τ).loc Cert.Linear2RefIdeal.main_arg4) = m ((c.tc : Thread Cert.Linear2RefIdeal.nD Cert.Linear2RefIdeal.τ).loc Cert.Linear2RefIdeal.main_arg4)
      ∧ r.2.mem ((c.tc : Thread Cert.Linear2RefIdeal.nD Cert.Linear2RefIdeal.τ).loc Cert.Linear2RefIdeal.main_arg5) = m ((c.tc : Thread Cert.Linear2RefIdeal.nD Cert.Linear2RefIdeal.τ).loc Cert.Linear2RefIdeal.main_arg5)
      ∧ r.2.mem ((c.tc : Thread Cert.Linear2RefIdeal.nD Cert.Linear2RefIdeal.τ).loc Cert.Linear2RefIdeal.main_arg6) = m ((c.tc : Thread Cert.Linear2RefIdeal.nD Cert.Linear2RefIdeal.τ).loc Cert.Linear2RefIdeal.main_arg6)
      ∧ r.2.mem ((c.tc : Thread Cert.Linear2RefIdeal.nD Cert.Linear2RefIdeal.τ).loc Cert.Linear2RefIdeal.main_arg7) = m ((c.tc : Thread Cert.Linear2RefIdeal.nD Cert.Linear2RefIdeal.τ).loc Cert.Linear2RefIdeal.main_arg7)
      ∧ r.2.mem ((c.tc : Thread Cert.Linear2RefIdeal.nD Cert.Linear2RefIdeal.τ).loc Cert.Linear2RefIdeal.main_arg8) = m ((c.tc : Thread Cert.Linear2RefIdeal.nD Cert.Linear2RefIdeal.τ).loc Cert.Linear2RefIdeal.main_arg8)
      ∧ r.2.mem ((c.tc : Thread Cert.Linear2RefIdeal.nD Cert.Linear2RefIdeal.τ).loc Cert.Linear2RefIdeal.main_arg9) = m ((c.tc : Thread Cert.Linear2RefIdeal.nD Cert.Linear2RefIdeal.τ).loc Cert.Linear2RefIdeal.main_arg9))
      ∧ r.2.sem = fun _ => 0)

def quiescent_Linear2RefIdeal_pre_segments_of_256 [hLinear2RefIdeal : Cert.Linear2RefIdeal.Facts] [hPre_segments_of_256 : Cert.Pre_segments_of_256.Facts] : Prop :=
  ∀ (m : (ℓ : Loc Cert.Linear2RefIdeal.nD Cert.Linear2RefIdeal.τ Cert.Linear2RefIdeal.sig) → Buf (Elt Ideal) ℓ) (g : Dev Cert.Linear2RefIdeal.nD → PrngReg), Pre_Linear2RefIdeal_segments_of_256 m →
    θ_run (Cert.Linear2RefIdeal.defs (F := Ideal)) (onTc (τ := Cert.Linear2RefIdeal.τ) (Cert.Linear2RefIdeal.main (F := Ideal))) ⟨m, fun _ => 0, g⟩ (fun r => (∀ c : Dev Cert.Linear2RefIdeal.nD,
      r.2.mem ((c.tc : Thread Cert.Linear2RefIdeal.nD Cert.Linear2RefIdeal.τ).loc Cert.Linear2RefIdeal.main_arg0) = m ((c.tc : Thread Cert.Linear2RefIdeal.nD Cert.Linear2RefIdeal.τ).loc Cert.Linear2RefIdeal.main_arg0)
      ∧ r.2.mem ((c.tc : Thread Cert.Linear2RefIdeal.nD Cert.Linear2RefIdeal.τ).loc Cert.Linear2RefIdeal.main_arg1) = m ((c.tc : Thread Cert.Linear2RefIdeal.nD Cert.Linear2RefIdeal.τ).loc Cert.Linear2RefIdeal.main_arg1)
      ∧ r.2.mem ((c.tc : Thread Cert.Linear2RefIdeal.nD Cert.Linear2RefIdeal.τ).loc Cert.Linear2RefIdeal.main_arg2) = m ((c.tc : Thread Cert.Linear2RefIdeal.nD Cert.Linear2RefIdeal.τ).loc Cert.Linear2RefIdeal.main_arg2)
      ∧ r.2.mem ((c.tc : Thread Cert.Linear2RefIdeal.nD Cert.Linear2RefIdeal.τ).loc Cert.Linear2RefIdeal.main_arg3) = m ((c.tc : Thread Cert.Linear2RefIdeal.nD Cert.Linear2RefIdeal.τ).loc Cert.Linear2RefIdeal.main_arg3)
      ∧ r.2.mem ((c.tc : Thread Cert.Linear2RefIdeal.nD Cert.Linear2RefIdeal.τ).loc Cert.Linear2RefIdeal.main_arg4) = m ((c.tc : Thread Cert.Linear2RefIdeal.nD Cert.Linear2RefIdeal.τ).loc Cert.Linear2RefIdeal.main_arg4)
      ∧ r.2.mem ((c.tc : Thread Cert.Linear2RefIdeal.nD Cert.Linear2RefIdeal.τ).loc Cert.Linear2RefIdeal.main_arg5) = m ((c.tc : Thread Cert.Linear2RefIdeal.nD Cert.Linear2RefIdeal.τ).loc Cert.Linear2RefIdeal.main_arg5)
      ∧ r.2.mem ((c.tc : Thread Cert.Linear2RefIdeal.nD Cert.Linear2RefIdeal.τ).loc Cert.Linear2RefIdeal.main_arg6) = m ((c.tc : Thread Cert.Linear2RefIdeal.nD Cert.Linear2RefIdeal.τ).loc Cert.Linear2RefIdeal.main_arg6)
      ∧ r.2.mem ((c.tc : Thread Cert.Linear2RefIdeal.nD Cert.Linear2RefIdeal.τ).loc Cert.Linear2RefIdeal.main_arg7) = m ((c.tc : Thread Cert.Linear2RefIdeal.nD Cert.Linear2RefIdeal.τ).loc Cert.Linear2RefIdeal.main_arg7)
      ∧ r.2.mem ((c.tc : Thread Cert.Linear2RefIdeal.nD Cert.Linear2RefIdeal.τ).loc Cert.Linear2RefIdeal.main_arg8) = m ((c.tc : Thread Cert.Linear2RefIdeal.nD Cert.Linear2RefIdeal.τ).loc Cert.Linear2RefIdeal.main_arg8)
      ∧ r.2.mem ((c.tc : Thread Cert.Linear2RefIdeal.nD Cert.Linear2RefIdeal.τ).loc Cert.Linear2RefIdeal.main_arg9) = m ((c.tc : Thread Cert.Linear2RefIdeal.nD Cert.Linear2RefIdeal.τ).loc Cert.Linear2RefIdeal.main_arg9))
      ∧ r.2.sem = fun _ => 0)

def quiescent_Linear1 [hLinear1 : Cert.Linear1.Facts] : Prop :=
  ∀ (m : (ℓ : Loc Cert.Linear1.nD Cert.Linear1.τ Cert.Linear1.sig) → Buf (Elt Bits) ℓ) (g : Dev Cert.Linear1.nD → PrngReg), Pre_Linear1 m →
    θ_run (Cert.Linear1.defs (F := Bits)) (onTc (τ := Cert.Linear1.τ) (Cert.Linear1.main (F := Bits))) ⟨m, fun _ => 0, g⟩ (fun r => (∀ c : Dev Cert.Linear1.nD,
      r.2.mem ((c.tc : Thread Cert.Linear1.nD Cert.Linear1.τ).loc Cert.Linear1.main_arg0) = m ((c.tc : Thread Cert.Linear1.nD Cert.Linear1.τ).loc Cert.Linear1.main_arg0)
      ∧ r.2.mem ((c.tc : Thread Cert.Linear1.nD Cert.Linear1.τ).loc Cert.Linear1.main_arg1) = m ((c.tc : Thread Cert.Linear1.nD Cert.Linear1.τ).loc Cert.Linear1.main_arg1)
      ∧ r.2.mem ((c.tc : Thread Cert.Linear1.nD Cert.Linear1.τ).loc Cert.Linear1.main_arg2) = m ((c.tc : Thread Cert.Linear1.nD Cert.Linear1.τ).loc Cert.Linear1.main_arg2)
      ∧ r.2.mem ((c.tc : Thread Cert.Linear1.nD Cert.Linear1.τ).loc Cert.Linear1.main_arg3) = m ((c.tc : Thread Cert.Linear1.nD Cert.Linear1.τ).loc Cert.Linear1.main_arg3)
      ∧ r.2.mem ((c.tc : Thread Cert.Linear1.nD Cert.Linear1.τ).loc Cert.Linear1.main_arg4) = m ((c.tc : Thread Cert.Linear1.nD Cert.Linear1.τ).loc Cert.Linear1.main_arg4)
      ∧ r.2.mem ((c.tc : Thread Cert.Linear1.nD Cert.Linear1.τ).loc Cert.Linear1.main_arg5) = m ((c.tc : Thread Cert.Linear1.nD Cert.Linear1.τ).loc Cert.Linear1.main_arg5)
      ∧ r.2.mem ((c.tc : Thread Cert.Linear1.nD Cert.Linear1.τ).loc Cert.Linear1.main_arg6) = m ((c.tc : Thread Cert.Linear1.nD Cert.Linear1.τ).loc Cert.Linear1.main_arg6)
      ∧ r.2.mem ((c.tc : Thread Cert.Linear1.nD Cert.Linear1.τ).loc Cert.Linear1.main_arg7) = m ((c.tc : Thread Cert.Linear1.nD Cert.Linear1.τ).loc Cert.Linear1.main_arg7)
      ∧ r.2.mem ((c.tc : Thread Cert.Linear1.nD Cert.Linear1.τ).loc Cert.Linear1.main_arg8) = m ((c.tc : Thread Cert.Linear1.nD Cert.Linear1.τ).loc Cert.Linear1.main_arg8)
      ∧ r.2.mem ((c.tc : Thread Cert.Linear1.nD Cert.Linear1.τ).loc Cert.Linear1.main_arg9) = m ((c.tc : Thread Cert.Linear1.nD Cert.Linear1.τ).loc Cert.Linear1.main_arg9))
      ∧ r.2.sem = fun _ => 0)

def quiescent_Linear1Ideal [hLinear1Ideal : Cert.Linear1Ideal.Facts] : Prop :=
  ∀ (m : (ℓ : Loc Cert.Linear1Ideal.nD Cert.Linear1Ideal.τ Cert.Linear1Ideal.sig) → Buf (Elt Ideal) ℓ) (g : Dev Cert.Linear1Ideal.nD → PrngReg), Pre_Linear1Ideal m →
    θ_run (Cert.Linear1Ideal.defs (F := Ideal)) (onTc (τ := Cert.Linear1Ideal.τ) (Cert.Linear1Ideal.main (F := Ideal))) ⟨m, fun _ => 0, g⟩ (fun r => (∀ c : Dev Cert.Linear1Ideal.nD,
      r.2.mem ((c.tc : Thread Cert.Linear1Ideal.nD Cert.Linear1Ideal.τ).loc Cert.Linear1Ideal.main_arg0) = m ((c.tc : Thread Cert.Linear1Ideal.nD Cert.Linear1Ideal.τ).loc Cert.Linear1Ideal.main_arg0)
      ∧ r.2.mem ((c.tc : Thread Cert.Linear1Ideal.nD Cert.Linear1Ideal.τ).loc Cert.Linear1Ideal.main_arg1) = m ((c.tc : Thread Cert.Linear1Ideal.nD Cert.Linear1Ideal.τ).loc Cert.Linear1Ideal.main_arg1)
      ∧ r.2.mem ((c.tc : Thread Cert.Linear1Ideal.nD Cert.Linear1Ideal.τ).loc Cert.Linear1Ideal.main_arg2) = m ((c.tc : Thread Cert.Linear1Ideal.nD Cert.Linear1Ideal.τ).loc Cert.Linear1Ideal.main_arg2)
      ∧ r.2.mem ((c.tc : Thread Cert.Linear1Ideal.nD Cert.Linear1Ideal.τ).loc Cert.Linear1Ideal.main_arg3) = m ((c.tc : Thread Cert.Linear1Ideal.nD Cert.Linear1Ideal.τ).loc Cert.Linear1Ideal.main_arg3)
      ∧ r.2.mem ((c.tc : Thread Cert.Linear1Ideal.nD Cert.Linear1Ideal.τ).loc Cert.Linear1Ideal.main_arg4) = m ((c.tc : Thread Cert.Linear1Ideal.nD Cert.Linear1Ideal.τ).loc Cert.Linear1Ideal.main_arg4)
      ∧ r.2.mem ((c.tc : Thread Cert.Linear1Ideal.nD Cert.Linear1Ideal.τ).loc Cert.Linear1Ideal.main_arg5) = m ((c.tc : Thread Cert.Linear1Ideal.nD Cert.Linear1Ideal.τ).loc Cert.Linear1Ideal.main_arg5)
      ∧ r.2.mem ((c.tc : Thread Cert.Linear1Ideal.nD Cert.Linear1Ideal.τ).loc Cert.Linear1Ideal.main_arg6) = m ((c.tc : Thread Cert.Linear1Ideal.nD Cert.Linear1Ideal.τ).loc Cert.Linear1Ideal.main_arg6)
      ∧ r.2.mem ((c.tc : Thread Cert.Linear1Ideal.nD Cert.Linear1Ideal.τ).loc Cert.Linear1Ideal.main_arg7) = m ((c.tc : Thread Cert.Linear1Ideal.nD Cert.Linear1Ideal.τ).loc Cert.Linear1Ideal.main_arg7)
      ∧ r.2.mem ((c.tc : Thread Cert.Linear1Ideal.nD Cert.Linear1Ideal.τ).loc Cert.Linear1Ideal.main_arg8) = m ((c.tc : Thread Cert.Linear1Ideal.nD Cert.Linear1Ideal.τ).loc Cert.Linear1Ideal.main_arg8)
      ∧ r.2.mem ((c.tc : Thread Cert.Linear1Ideal.nD Cert.Linear1Ideal.τ).loc Cert.Linear1Ideal.main_arg9) = m ((c.tc : Thread Cert.Linear1Ideal.nD Cert.Linear1Ideal.τ).loc Cert.Linear1Ideal.main_arg9))
      ∧ r.2.sem = fun _ => 0)

def quiescent_Linear1RefIdeal [hLinear1RefIdeal : Cert.Linear1RefIdeal.Facts] : Prop :=
  ∀ (m : (ℓ : Loc Cert.Linear1RefIdeal.nD Cert.Linear1RefIdeal.τ Cert.Linear1RefIdeal.sig) → Buf (Elt Ideal) ℓ) (g : Dev Cert.Linear1RefIdeal.nD → PrngReg), Pre_Linear1RefIdeal m →
    θ_run (Cert.Linear1RefIdeal.defs (F := Ideal)) (onTc (τ := Cert.Linear1RefIdeal.τ) (Cert.Linear1RefIdeal.main (F := Ideal))) ⟨m, fun _ => 0, g⟩ (fun r => (∀ c : Dev Cert.Linear1RefIdeal.nD,
      r.2.mem ((c.tc : Thread Cert.Linear1RefIdeal.nD Cert.Linear1RefIdeal.τ).loc Cert.Linear1RefIdeal.main_arg0) = m ((c.tc : Thread Cert.Linear1RefIdeal.nD Cert.Linear1RefIdeal.τ).loc Cert.Linear1RefIdeal.main_arg0)
      ∧ r.2.mem ((c.tc : Thread Cert.Linear1RefIdeal.nD Cert.Linear1RefIdeal.τ).loc Cert.Linear1RefIdeal.main_arg1) = m ((c.tc : Thread Cert.Linear1RefIdeal.nD Cert.Linear1RefIdeal.τ).loc Cert.Linear1RefIdeal.main_arg1)
      ∧ r.2.mem ((c.tc : Thread Cert.Linear1RefIdeal.nD Cert.Linear1RefIdeal.τ).loc Cert.Linear1RefIdeal.main_arg2) = m ((c.tc : Thread Cert.Linear1RefIdeal.nD Cert.Linear1RefIdeal.τ).loc Cert.Linear1RefIdeal.main_arg2)
      ∧ r.2.mem ((c.tc : Thread Cert.Linear1RefIdeal.nD Cert.Linear1RefIdeal.τ).loc Cert.Linear1RefIdeal.main_arg3) = m ((c.tc : Thread Cert.Linear1RefIdeal.nD Cert.Linear1RefIdeal.τ).loc Cert.Linear1RefIdeal.main_arg3)
      ∧ r.2.mem ((c.tc : Thread Cert.Linear1RefIdeal.nD Cert.Linear1RefIdeal.τ).loc Cert.Linear1RefIdeal.main_arg4) = m ((c.tc : Thread Cert.Linear1RefIdeal.nD Cert.Linear1RefIdeal.τ).loc Cert.Linear1RefIdeal.main_arg4)
      ∧ r.2.mem ((c.tc : Thread Cert.Linear1RefIdeal.nD Cert.Linear1RefIdeal.τ).loc Cert.Linear1RefIdeal.main_arg5) = m ((c.tc : Thread Cert.Linear1RefIdeal.nD Cert.Linear1RefIdeal.τ).loc Cert.Linear1RefIdeal.main_arg5)
      ∧ r.2.mem ((c.tc : Thread Cert.Linear1RefIdeal.nD Cert.Linear1RefIdeal.τ).loc Cert.Linear1RefIdeal.main_arg6) = m ((c.tc : Thread Cert.Linear1RefIdeal.nD Cert.Linear1RefIdeal.τ).loc Cert.Linear1RefIdeal.main_arg6)
      ∧ r.2.mem ((c.tc : Thread Cert.Linear1RefIdeal.nD Cert.Linear1RefIdeal.τ).loc Cert.Linear1RefIdeal.main_arg7) = m ((c.tc : Thread Cert.Linear1RefIdeal.nD Cert.Linear1RefIdeal.τ).loc Cert.Linear1RefIdeal.main_arg7)
      ∧ r.2.mem ((c.tc : Thread Cert.Linear1RefIdeal.nD Cert.Linear1RefIdeal.τ).loc Cert.Linear1RefIdeal.main_arg8) = m ((c.tc : Thread Cert.Linear1RefIdeal.nD Cert.Linear1RefIdeal.τ).loc Cert.Linear1RefIdeal.main_arg8)
      ∧ r.2.mem ((c.tc : Thread Cert.Linear1RefIdeal.nD Cert.Linear1RefIdeal.τ).loc Cert.Linear1RefIdeal.main_arg9) = m ((c.tc : Thread Cert.Linear1RefIdeal.nD Cert.Linear1RefIdeal.τ).loc Cert.Linear1RefIdeal.main_arg9))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3)
      ∧ r.2.mem ((c.tc : Thread Cert.Codes.nD Cert.Codes.τ).loc Cert.Codes.main_arg4) = m ((c.tc : Thread Cert.Codes.nD Cert.Codes.τ).loc Cert.Codes.main_arg4))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
      ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4))
      ∧ r.2.sem = fun _ => 0)

def quiescent_CodesIdeal_pre_segments_of_32 [hCodesIdeal : Cert.CodesIdeal.Facts] [hPre_segments_of_32 : Cert.Pre_segments_of_32.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal_segments_of_32 m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
      ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4))
      ∧ r.2.sem = fun _ => 0)

def quiescent_CodesRefIdeal [hCodesRefIdeal : Cert.CodesRefIdeal.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1)
      ∧ r.2.mem ((c.tc : Thread Cert.CodesRefIdeal.nD Cert.CodesRefIdeal.τ).loc Cert.CodesRefIdeal.main_arg2) = m ((c.tc : Thread Cert.CodesRefIdeal.nD Cert.CodesRefIdeal.τ).loc Cert.CodesRefIdeal.main_arg2)
      ∧ r.2.mem ((c.tc : Thread Cert.CodesRefIdeal.nD Cert.CodesRefIdeal.τ).loc Cert.CodesRefIdeal.main_arg3) = m ((c.tc : Thread Cert.CodesRefIdeal.nD Cert.CodesRefIdeal.τ).loc Cert.CodesRefIdeal.main_arg3)
      ∧ r.2.mem ((c.tc : Thread Cert.CodesRefIdeal.nD Cert.CodesRefIdeal.τ).loc Cert.CodesRefIdeal.main_arg4) = m ((c.tc : Thread Cert.CodesRefIdeal.nD Cert.CodesRefIdeal.τ).loc Cert.CodesRefIdeal.main_arg4))
      ∧ r.2.sem = fun _ => 0)

def quiescent_CodesRefIdeal_pre_segments_of_32 [hCodesRefIdeal : Cert.CodesRefIdeal.Facts] [hPre_segments_of_32 : Cert.Pre_segments_of_32.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal_segments_of_32 m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1)
      ∧ r.2.mem ((c.tc : Thread Cert.CodesRefIdeal.nD Cert.CodesRefIdeal.τ).loc Cert.CodesRefIdeal.main_arg2) = m ((c.tc : Thread Cert.CodesRefIdeal.nD Cert.CodesRefIdeal.τ).loc Cert.CodesRefIdeal.main_arg2)
      ∧ r.2.mem ((c.tc : Thread Cert.CodesRefIdeal.nD Cert.CodesRefIdeal.τ).loc Cert.CodesRefIdeal.main_arg3) = m ((c.tc : Thread Cert.CodesRefIdeal.nD Cert.CodesRefIdeal.τ).loc Cert.CodesRefIdeal.main_arg3)
      ∧ r.2.mem ((c.tc : Thread Cert.CodesRefIdeal.nD Cert.CodesRefIdeal.τ).loc Cert.CodesRefIdeal.main_arg4) = m ((c.tc : Thread Cert.CodesRefIdeal.nD Cert.CodesRefIdeal.τ).loc Cert.CodesRefIdeal.main_arg4))
      ∧ r.2.sem = fun _ => 0)

def preserves_Linear2_Linear2Ideal : Prop :=
  True

def algebraic_Linear2Ideal_Linear2RefIdeal_pre_segments_of_256 [hLinear2Ideal : Cert.Linear2Ideal.Facts] [hLinear2RefIdeal : Cert.Linear2RefIdeal.Facts] [hPre_segments_of_256 : Cert.Pre_segments_of_256.Facts] : Prop :=
  ∀ (m : (ℓ : Loc Cert.Linear2Ideal.nD Cert.Linear2Ideal.τ Cert.Linear2Ideal.sig) → Buf (Elt Ideal) ℓ) (g : Dev Cert.Linear2Ideal.nD → PrngReg)
    (m' : (ℓ : Loc Cert.Linear2RefIdeal.nD Cert.Linear2RefIdeal.τ Cert.Linear2RefIdeal.sig) → Buf (Elt Ideal) ℓ) (g' : Dev Cert.Linear2RefIdeal.nD → PrngReg), Pre_Linear2Ideal_segments_of_256 m →
    (∀ c : Dev Cert.Linear2Ideal.nD,
      m' ((c.tc : Thread Cert.Linear2RefIdeal.nD Cert.Linear2RefIdeal.τ).loc Cert.Linear2RefIdeal.main_arg0) = m ((c.tc : Thread Cert.Linear2Ideal.nD Cert.Linear2Ideal.τ).loc Cert.Linear2Ideal.main_arg0)
      ∧ m' ((c.tc : Thread Cert.Linear2RefIdeal.nD Cert.Linear2RefIdeal.τ).loc Cert.Linear2RefIdeal.main_arg1) = m ((c.tc : Thread Cert.Linear2Ideal.nD Cert.Linear2Ideal.τ).loc Cert.Linear2Ideal.main_arg1)
      ∧ m' ((c.tc : Thread Cert.Linear2RefIdeal.nD Cert.Linear2RefIdeal.τ).loc Cert.Linear2RefIdeal.main_arg2) = m ((c.tc : Thread Cert.Linear2Ideal.nD Cert.Linear2Ideal.τ).loc Cert.Linear2Ideal.main_arg2)
      ∧ m' ((c.tc : Thread Cert.Linear2RefIdeal.nD Cert.Linear2RefIdeal.τ).loc Cert.Linear2RefIdeal.main_arg3) = m ((c.tc : Thread Cert.Linear2Ideal.nD Cert.Linear2Ideal.τ).loc Cert.Linear2Ideal.main_arg3)
      ∧ m' ((c.tc : Thread Cert.Linear2RefIdeal.nD Cert.Linear2RefIdeal.τ).loc Cert.Linear2RefIdeal.main_arg4) = m ((c.tc : Thread Cert.Linear2Ideal.nD Cert.Linear2Ideal.τ).loc Cert.Linear2Ideal.main_arg4)
      ∧ m' ((c.tc : Thread Cert.Linear2RefIdeal.nD Cert.Linear2RefIdeal.τ).loc Cert.Linear2RefIdeal.main_arg5) = m ((c.tc : Thread Cert.Linear2Ideal.nD Cert.Linear2Ideal.τ).loc Cert.Linear2Ideal.main_arg5)
      ∧ m' ((c.tc : Thread Cert.Linear2RefIdeal.nD Cert.Linear2RefIdeal.τ).loc Cert.Linear2RefIdeal.main_arg6) = m ((c.tc : Thread Cert.Linear2Ideal.nD Cert.Linear2Ideal.τ).loc Cert.Linear2Ideal.main_arg6)
      ∧ m' ((c.tc : Thread Cert.Linear2RefIdeal.nD Cert.Linear2RefIdeal.τ).loc Cert.Linear2RefIdeal.main_arg7) = m ((c.tc : Thread Cert.Linear2Ideal.nD Cert.Linear2Ideal.τ).loc Cert.Linear2Ideal.main_arg7)
      ∧ m' ((c.tc : Thread Cert.Linear2RefIdeal.nD Cert.Linear2RefIdeal.τ).loc Cert.Linear2RefIdeal.main_arg8) = m ((c.tc : Thread Cert.Linear2Ideal.nD Cert.Linear2Ideal.τ).loc Cert.Linear2Ideal.main_arg8)
      ∧ m' ((c.tc : Thread Cert.Linear2RefIdeal.nD Cert.Linear2RefIdeal.τ).loc Cert.Linear2RefIdeal.main_arg9) = m ((c.tc : Thread Cert.Linear2Ideal.nD Cert.Linear2Ideal.τ).loc Cert.Linear2Ideal.main_arg9)) →
    ∃ (v0 : (c : Dev Cert.Linear2Ideal.nD) → Buf (Elt Ideal) ((c.tc : Thread Cert.Linear2Ideal.nD Cert.Linear2Ideal.τ).loc Cert.Linear2Ideal.main_v4)),
      θ_run (Cert.Linear2Ideal.defs (F := Ideal)) (onTc (τ := Cert.Linear2Ideal.τ) (Cert.Linear2Ideal.main (F := Ideal))) ⟨m, fun _ => 0, g⟩ (fun r => ∀ c : Dev Cert.Linear2Ideal.nD,
          r.2.mem ((c.tc : Thread Cert.Linear2Ideal.nD Cert.Linear2Ideal.τ).loc Cert.Linear2Ideal.main_v4) = v0 c
          ∧ r.2.mem ((c.tc : Thread Cert.Linear2Ideal.nD Cert.Linear2Ideal.τ).loc Cert.Linear2Ideal.main_arg0) = m ((c.tc : Thread Cert.Linear2Ideal.nD Cert.Linear2Ideal.τ).loc Cert.Linear2Ideal.main_arg0)
          ∧ r.2.mem ((c.tc : Thread Cert.Linear2Ideal.nD Cert.Linear2Ideal.τ).loc Cert.Linear2Ideal.main_arg1) = m ((c.tc : Thread Cert.Linear2Ideal.nD Cert.Linear2Ideal.τ).loc Cert.Linear2Ideal.main_arg1)
          ∧ r.2.mem ((c.tc : Thread Cert.Linear2Ideal.nD Cert.Linear2Ideal.τ).loc Cert.Linear2Ideal.main_arg2) = m ((c.tc : Thread Cert.Linear2Ideal.nD Cert.Linear2Ideal.τ).loc Cert.Linear2Ideal.main_arg2)
          ∧ r.2.mem ((c.tc : Thread Cert.Linear2Ideal.nD Cert.Linear2Ideal.τ).loc Cert.Linear2Ideal.main_arg3) = m ((c.tc : Thread Cert.Linear2Ideal.nD Cert.Linear2Ideal.τ).loc Cert.Linear2Ideal.main_arg3)
          ∧ r.2.mem ((c.tc : Thread Cert.Linear2Ideal.nD Cert.Linear2Ideal.τ).loc Cert.Linear2Ideal.main_arg4) = m ((c.tc : Thread Cert.Linear2Ideal.nD Cert.Linear2Ideal.τ).loc Cert.Linear2Ideal.main_arg4)
          ∧ r.2.mem ((c.tc : Thread Cert.Linear2Ideal.nD Cert.Linear2Ideal.τ).loc Cert.Linear2Ideal.main_arg5) = m ((c.tc : Thread Cert.Linear2Ideal.nD Cert.Linear2Ideal.τ).loc Cert.Linear2Ideal.main_arg5)
          ∧ r.2.mem ((c.tc : Thread Cert.Linear2Ideal.nD Cert.Linear2Ideal.τ).loc Cert.Linear2Ideal.main_arg6) = m ((c.tc : Thread Cert.Linear2Ideal.nD Cert.Linear2Ideal.τ).loc Cert.Linear2Ideal.main_arg6)
          ∧ r.2.mem ((c.tc : Thread Cert.Linear2Ideal.nD Cert.Linear2Ideal.τ).loc Cert.Linear2Ideal.main_arg7) = m ((c.tc : Thread Cert.Linear2Ideal.nD Cert.Linear2Ideal.τ).loc Cert.Linear2Ideal.main_arg7)
          ∧ r.2.mem ((c.tc : Thread Cert.Linear2Ideal.nD Cert.Linear2Ideal.τ).loc Cert.Linear2Ideal.main_arg8) = m ((c.tc : Thread Cert.Linear2Ideal.nD Cert.Linear2Ideal.τ).loc Cert.Linear2Ideal.main_arg8)
          ∧ r.2.mem ((c.tc : Thread Cert.Linear2Ideal.nD Cert.Linear2Ideal.τ).loc Cert.Linear2Ideal.main_arg9) = m ((c.tc : Thread Cert.Linear2Ideal.nD Cert.Linear2Ideal.τ).loc Cert.Linear2Ideal.main_arg9))
      ∧ θ_run (Cert.Linear2RefIdeal.defs (F := Ideal)) (onTc (τ := Cert.Linear2RefIdeal.τ) (Cert.Linear2RefIdeal.main (F := Ideal))) ⟨m', fun _ => 0, g'⟩ (fun r => ∀ c : Dev Cert.Linear2RefIdeal.nD,
          r.2.mem ((c.tc : Thread Cert.Linear2RefIdeal.nD Cert.Linear2RefIdeal.τ).loc Cert.Linear2RefIdeal.main_v22) = v0 c
          ∧ r.2.mem ((c.tc : Thread Cert.Linear2RefIdeal.nD Cert.Linear2RefIdeal.τ).loc Cert.Linear2RefIdeal.main_arg0) = m' ((c.tc : Thread Cert.Linear2RefIdeal.nD Cert.Linear2RefIdeal.τ).loc Cert.Linear2RefIdeal.main_arg0)
          ∧ r.2.mem ((c.tc : Thread Cert.Linear2RefIdeal.nD Cert.Linear2RefIdeal.τ).loc Cert.Linear2RefIdeal.main_arg1) = m' ((c.tc : Thread Cert.Linear2RefIdeal.nD Cert.Linear2RefIdeal.τ).loc Cert.Linear2RefIdeal.main_arg1)
          ∧ r.2.mem ((c.tc : Thread Cert.Linear2RefIdeal.nD Cert.Linear2RefIdeal.τ).loc Cert.Linear2RefIdeal.main_arg2) = m' ((c.tc : Thread Cert.Linear2RefIdeal.nD Cert.Linear2RefIdeal.τ).loc Cert.Linear2RefIdeal.main_arg2)
          ∧ r.2.mem ((c.tc : Thread Cert.Linear2RefIdeal.nD Cert.Linear2RefIdeal.τ).loc Cert.Linear2RefIdeal.main_arg3) = m' ((c.tc : Thread Cert.Linear2RefIdeal.nD Cert.Linear2RefIdeal.τ).loc Cert.Linear2RefIdeal.main_arg3)
          ∧ r.2.mem ((c.tc : Thread Cert.Linear2RefIdeal.nD Cert.Linear2RefIdeal.τ).loc Cert.Linear2RefIdeal.main_arg4) = m' ((c.tc : Thread Cert.Linear2RefIdeal.nD Cert.Linear2RefIdeal.τ).loc Cert.Linear2RefIdeal.main_arg4)
          ∧ r.2.mem ((c.tc : Thread Cert.Linear2RefIdeal.nD Cert.Linear2RefIdeal.τ).loc Cert.Linear2RefIdeal.main_arg5) = m' ((c.tc : Thread Cert.Linear2RefIdeal.nD Cert.Linear2RefIdeal.τ).loc Cert.Linear2RefIdeal.main_arg5)
          ∧ r.2.mem ((c.tc : Thread Cert.Linear2RefIdeal.nD Cert.Linear2RefIdeal.τ).loc Cert.Linear2RefIdeal.main_arg6) = m' ((c.tc : Thread Cert.Linear2RefIdeal.nD Cert.Linear2RefIdeal.τ).loc Cert.Linear2RefIdeal.main_arg6)
          ∧ r.2.mem ((c.tc : Thread Cert.Linear2RefIdeal.nD Cert.Linear2RefIdeal.τ).loc Cert.Linear2RefIdeal.main_arg7) = m' ((c.tc : Thread Cert.Linear2RefIdeal.nD Cert.Linear2RefIdeal.τ).loc Cert.Linear2RefIdeal.main_arg7)
          ∧ r.2.mem ((c.tc : Thread Cert.Linear2RefIdeal.nD Cert.Linear2RefIdeal.τ).loc Cert.Linear2RefIdeal.main_arg8) = m' ((c.tc : Thread Cert.Linear2RefIdeal.nD Cert.Linear2RefIdeal.τ).loc Cert.Linear2RefIdeal.main_arg8)
          ∧ r.2.mem ((c.tc : Thread Cert.Linear2RefIdeal.nD Cert.Linear2RefIdeal.τ).loc Cert.Linear2RefIdeal.main_arg9) = m' ((c.tc : Thread Cert.Linear2RefIdeal.nD Cert.Linear2RefIdeal.τ).loc Cert.Linear2RefIdeal.main_arg9))

def preserves_Linear1_Linear1Ideal : Prop :=
  IdealRules.bf16_pair.PackStatement Cert.Linear1Ideal.S256x128
  ∧ IdealRules.bf16_pair.Statement Cert.Linear1Ideal.S256x2x128 Cert.Linear1Ideal.S256x1x128

def algebraic_Linear1Ideal_Linear1RefIdeal [hLinear1Ideal : Cert.Linear1Ideal.Facts] [hLinear1RefIdeal : Cert.Linear1RefIdeal.Facts] : Prop :=
  ∀ (m : (ℓ : Loc Cert.Linear1Ideal.nD Cert.Linear1Ideal.τ Cert.Linear1Ideal.sig) → Buf (Elt Ideal) ℓ) (g : Dev Cert.Linear1Ideal.nD → PrngReg)
    (m' : (ℓ : Loc Cert.Linear1RefIdeal.nD Cert.Linear1RefIdeal.τ Cert.Linear1RefIdeal.sig) → Buf (Elt Ideal) ℓ) (g' : Dev Cert.Linear1RefIdeal.nD → PrngReg), Pre_Linear1Ideal m →
    (∀ c : Dev Cert.Linear1Ideal.nD,
      m' ((c.tc : Thread Cert.Linear1RefIdeal.nD Cert.Linear1RefIdeal.τ).loc Cert.Linear1RefIdeal.main_arg0) = m ((c.tc : Thread Cert.Linear1Ideal.nD Cert.Linear1Ideal.τ).loc Cert.Linear1Ideal.main_arg0)
      ∧ m' ((c.tc : Thread Cert.Linear1RefIdeal.nD Cert.Linear1RefIdeal.τ).loc Cert.Linear1RefIdeal.main_arg1) = m ((c.tc : Thread Cert.Linear1Ideal.nD Cert.Linear1Ideal.τ).loc Cert.Linear1Ideal.main_arg1)
      ∧ m' ((c.tc : Thread Cert.Linear1RefIdeal.nD Cert.Linear1RefIdeal.τ).loc Cert.Linear1RefIdeal.main_arg2) = m ((c.tc : Thread Cert.Linear1Ideal.nD Cert.Linear1Ideal.τ).loc Cert.Linear1Ideal.main_arg2)
      ∧ m' ((c.tc : Thread Cert.Linear1RefIdeal.nD Cert.Linear1RefIdeal.τ).loc Cert.Linear1RefIdeal.main_arg3) = m ((c.tc : Thread Cert.Linear1Ideal.nD Cert.Linear1Ideal.τ).loc Cert.Linear1Ideal.main_arg3)
      ∧ m' ((c.tc : Thread Cert.Linear1RefIdeal.nD Cert.Linear1RefIdeal.τ).loc Cert.Linear1RefIdeal.main_arg4) = m ((c.tc : Thread Cert.Linear1Ideal.nD Cert.Linear1Ideal.τ).loc Cert.Linear1Ideal.main_arg4)
      ∧ m' ((c.tc : Thread Cert.Linear1RefIdeal.nD Cert.Linear1RefIdeal.τ).loc Cert.Linear1RefIdeal.main_arg5) = m ((c.tc : Thread Cert.Linear1Ideal.nD Cert.Linear1Ideal.τ).loc Cert.Linear1Ideal.main_arg5)
      ∧ m' ((c.tc : Thread Cert.Linear1RefIdeal.nD Cert.Linear1RefIdeal.τ).loc Cert.Linear1RefIdeal.main_arg6) = m ((c.tc : Thread Cert.Linear1Ideal.nD Cert.Linear1Ideal.τ).loc Cert.Linear1Ideal.main_arg6)
      ∧ m' ((c.tc : Thread Cert.Linear1RefIdeal.nD Cert.Linear1RefIdeal.τ).loc Cert.Linear1RefIdeal.main_arg7) = m ((c.tc : Thread Cert.Linear1Ideal.nD Cert.Linear1Ideal.τ).loc Cert.Linear1Ideal.main_arg7)
      ∧ m' ((c.tc : Thread Cert.Linear1RefIdeal.nD Cert.Linear1RefIdeal.τ).loc Cert.Linear1RefIdeal.main_arg8) = m ((c.tc : Thread Cert.Linear1Ideal.nD Cert.Linear1Ideal.τ).loc Cert.Linear1Ideal.main_arg8)
      ∧ m' ((c.tc : Thread Cert.Linear1RefIdeal.nD Cert.Linear1RefIdeal.τ).loc Cert.Linear1RefIdeal.main_arg9) = m ((c.tc : Thread Cert.Linear1Ideal.nD Cert.Linear1Ideal.τ).loc Cert.Linear1Ideal.main_arg9)) →
    ∃ (v0 : (c : Dev Cert.Linear1Ideal.nD) → Buf (Elt Ideal) ((c.tc : Thread Cert.Linear1Ideal.nD Cert.Linear1Ideal.τ).loc Cert.Linear1Ideal.main_v13_0)) (v1 : (c : Dev Cert.Linear1Ideal.nD) → Buf (Elt Ideal) ((c.tc : Thread Cert.Linear1Ideal.nD Cert.Linear1Ideal.τ).loc Cert.Linear1Ideal.main_v13_1)) (v2 : (c : Dev Cert.Linear1Ideal.nD) → Buf (Elt Ideal) ((c.tc : Thread Cert.Linear1Ideal.nD Cert.Linear1Ideal.τ).loc Cert.Linear1Ideal.main_v13_5)),
      θ_run (Cert.Linear1Ideal.defs (F := Ideal)) (onTc (τ := Cert.Linear1Ideal.τ) (Cert.Linear1Ideal.main (F := Ideal))) ⟨m, fun _ => 0, g⟩ (fun r => ∀ c : Dev Cert.Linear1Ideal.nD,
          r.2.mem ((c.tc : Thread Cert.Linear1Ideal.nD Cert.Linear1Ideal.τ).loc Cert.Linear1Ideal.main_v13_0) = v0 c
          ∧ r.2.mem ((c.tc : Thread Cert.Linear1Ideal.nD Cert.Linear1Ideal.τ).loc Cert.Linear1Ideal.main_v13_1) = v1 c
          ∧ r.2.mem ((c.tc : Thread Cert.Linear1Ideal.nD Cert.Linear1Ideal.τ).loc Cert.Linear1Ideal.main_v13_5) = v2 c
          ∧ r.2.mem ((c.tc : Thread Cert.Linear1Ideal.nD Cert.Linear1Ideal.τ).loc Cert.Linear1Ideal.main_arg0) = m ((c.tc : Thread Cert.Linear1Ideal.nD Cert.Linear1Ideal.τ).loc Cert.Linear1Ideal.main_arg0)
          ∧ r.2.mem ((c.tc : Thread Cert.Linear1Ideal.nD Cert.Linear1Ideal.τ).loc Cert.Linear1Ideal.main_arg1) = m ((c.tc : Thread Cert.Linear1Ideal.nD Cert.Linear1Ideal.τ).loc Cert.Linear1Ideal.main_arg1)
          ∧ r.2.mem ((c.tc : Thread Cert.Linear1Ideal.nD Cert.Linear1Ideal.τ).loc Cert.Linear1Ideal.main_arg2) = m ((c.tc : Thread Cert.Linear1Ideal.nD Cert.Linear1Ideal.τ).loc Cert.Linear1Ideal.main_arg2)
          ∧ r.2.mem ((c.tc : Thread Cert.Linear1Ideal.nD Cert.Linear1Ideal.τ).loc Cert.Linear1Ideal.main_arg3) = m ((c.tc : Thread Cert.Linear1Ideal.nD Cert.Linear1Ideal.τ).loc Cert.Linear1Ideal.main_arg3)
          ∧ r.2.mem ((c.tc : Thread Cert.Linear1Ideal.nD Cert.Linear1Ideal.τ).loc Cert.Linear1Ideal.main_arg4) = m ((c.tc : Thread Cert.Linear1Ideal.nD Cert.Linear1Ideal.τ).loc Cert.Linear1Ideal.main_arg4)
          ∧ r.2.mem ((c.tc : Thread Cert.Linear1Ideal.nD Cert.Linear1Ideal.τ).loc Cert.Linear1Ideal.main_arg5) = m ((c.tc : Thread Cert.Linear1Ideal.nD Cert.Linear1Ideal.τ).loc Cert.Linear1Ideal.main_arg5)
          ∧ r.2.mem ((c.tc : Thread Cert.Linear1Ideal.nD Cert.Linear1Ideal.τ).loc Cert.Linear1Ideal.main_arg6) = m ((c.tc : Thread Cert.Linear1Ideal.nD Cert.Linear1Ideal.τ).loc Cert.Linear1Ideal.main_arg6)
          ∧ r.2.mem ((c.tc : Thread Cert.Linear1Ideal.nD Cert.Linear1Ideal.τ).loc Cert.Linear1Ideal.main_arg7) = m ((c.tc : Thread Cert.Linear1Ideal.nD Cert.Linear1Ideal.τ).loc Cert.Linear1Ideal.main_arg7)
          ∧ r.2.mem ((c.tc : Thread Cert.Linear1Ideal.nD Cert.Linear1Ideal.τ).loc Cert.Linear1Ideal.main_arg8) = m ((c.tc : Thread Cert.Linear1Ideal.nD Cert.Linear1Ideal.τ).loc Cert.Linear1Ideal.main_arg8)
          ∧ r.2.mem ((c.tc : Thread Cert.Linear1Ideal.nD Cert.Linear1Ideal.τ).loc Cert.Linear1Ideal.main_arg9) = m ((c.tc : Thread Cert.Linear1Ideal.nD Cert.Linear1Ideal.τ).loc Cert.Linear1Ideal.main_arg9))
      ∧ θ_run (Cert.Linear1RefIdeal.defs (F := Ideal)) (onTc (τ := Cert.Linear1RefIdeal.τ) (Cert.Linear1RefIdeal.main (F := Ideal))) ⟨m', fun _ => 0, g'⟩ (fun r => ∀ c : Dev Cert.Linear1RefIdeal.nD,
          r.2.mem ((c.tc : Thread Cert.Linear1RefIdeal.nD Cert.Linear1RefIdeal.τ).loc Cert.Linear1RefIdeal.main_v6_0) = v0 c
          ∧ r.2.mem ((c.tc : Thread Cert.Linear1RefIdeal.nD Cert.Linear1RefIdeal.τ).loc Cert.Linear1RefIdeal.main_v6_1) = v1 c
          ∧ r.2.mem ((c.tc : Thread Cert.Linear1RefIdeal.nD Cert.Linear1RefIdeal.τ).loc Cert.Linear1RefIdeal.main_v6_2) = v2 c
          ∧ r.2.mem ((c.tc : Thread Cert.Linear1RefIdeal.nD Cert.Linear1RefIdeal.τ).loc Cert.Linear1RefIdeal.main_arg0) = m' ((c.tc : Thread Cert.Linear1RefIdeal.nD Cert.Linear1RefIdeal.τ).loc Cert.Linear1RefIdeal.main_arg0)
          ∧ r.2.mem ((c.tc : Thread Cert.Linear1RefIdeal.nD Cert.Linear1RefIdeal.τ).loc Cert.Linear1RefIdeal.main_arg1) = m' ((c.tc : Thread Cert.Linear1RefIdeal.nD Cert.Linear1RefIdeal.τ).loc Cert.Linear1RefIdeal.main_arg1)
          ∧ r.2.mem ((c.tc : Thread Cert.Linear1RefIdeal.nD Cert.Linear1RefIdeal.τ).loc Cert.Linear1RefIdeal.main_arg2) = m' ((c.tc : Thread Cert.Linear1RefIdeal.nD Cert.Linear1RefIdeal.τ).loc Cert.Linear1RefIdeal.main_arg2)
          ∧ r.2.mem ((c.tc : Thread Cert.Linear1RefIdeal.nD Cert.Linear1RefIdeal.τ).loc Cert.Linear1RefIdeal.main_arg3) = m' ((c.tc : Thread Cert.Linear1RefIdeal.nD Cert.Linear1RefIdeal.τ).loc Cert.Linear1RefIdeal.main_arg3)
          ∧ r.2.mem ((c.tc : Thread Cert.Linear1RefIdeal.nD Cert.Linear1RefIdeal.τ).loc Cert.Linear1RefIdeal.main_arg4) = m' ((c.tc : Thread Cert.Linear1RefIdeal.nD Cert.Linear1RefIdeal.τ).loc Cert.Linear1RefIdeal.main_arg4)
          ∧ r.2.mem ((c.tc : Thread Cert.Linear1RefIdeal.nD Cert.Linear1RefIdeal.τ).loc Cert.Linear1RefIdeal.main_arg5) = m' ((c.tc : Thread Cert.Linear1RefIdeal.nD Cert.Linear1RefIdeal.τ).loc Cert.Linear1RefIdeal.main_arg5)
          ∧ r.2.mem ((c.tc : Thread Cert.Linear1RefIdeal.nD Cert.Linear1RefIdeal.τ).loc Cert.Linear1RefIdeal.main_arg6) = m' ((c.tc : Thread Cert.Linear1RefIdeal.nD Cert.Linear1RefIdeal.τ).loc Cert.Linear1RefIdeal.main_arg6)
          ∧ r.2.mem ((c.tc : Thread Cert.Linear1RefIdeal.nD Cert.Linear1RefIdeal.τ).loc Cert.Linear1RefIdeal.main_arg7) = m' ((c.tc : Thread Cert.Linear1RefIdeal.nD Cert.Linear1RefIdeal.τ).loc Cert.Linear1RefIdeal.main_arg7)
          ∧ r.2.mem ((c.tc : Thread Cert.Linear1RefIdeal.nD Cert.Linear1RefIdeal.τ).loc Cert.Linear1RefIdeal.main_arg8) = m' ((c.tc : Thread Cert.Linear1RefIdeal.nD Cert.Linear1RefIdeal.τ).loc Cert.Linear1RefIdeal.main_arg8)
          ∧ r.2.mem ((c.tc : Thread Cert.Linear1RefIdeal.nD Cert.Linear1RefIdeal.τ).loc Cert.Linear1RefIdeal.main_arg9) = m' ((c.tc : Thread Cert.Linear1RefIdeal.nD Cert.Linear1RefIdeal.τ).loc Cert.Linear1RefIdeal.main_arg9))

def preserves_Codes_CodesIdeal : Prop :=
  IdealRules.named_const.Statement Cert.CodesIdeal.κ "inv_d" .f32 0x39AAAAAB#32 ((1 / 3072 : ℝ) : EReal)

def algebraic_CodesIdeal_CodesRefIdeal_pre_segments_of_32 [hCodesIdeal : Cert.CodesIdeal.Facts] [hCodesRefIdeal : Cert.CodesRefIdeal.Facts] [hPre_segments_of_32 : Cert.Pre_segments_of_32.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesRefIdeal.nD Cert.CodesRefIdeal.τ Cert.CodesRefIdeal.sig) → Buf (Elt Ideal) ℓ) (g' : Dev Cert.CodesRefIdeal.nD → PrngReg), Pre_CodesIdeal_segments_of_32 m →
    (∀ c : Dev Cert.CodesIdeal.nD,
      m' ((c.tc : Thread Cert.CodesRefIdeal.nD Cert.CodesRefIdeal.τ).loc Cert.CodesRefIdeal.main_arg0) = m ((c.tc : Thread Cert.CodesIdeal.nD Cert.CodesIdeal.τ).loc Cert.CodesIdeal.main_arg0)
      ∧ m' ((c.tc : Thread Cert.CodesRefIdeal.nD Cert.CodesRefIdeal.τ).loc Cert.CodesRefIdeal.main_arg1) = m ((c.tc : Thread Cert.CodesIdeal.nD Cert.CodesIdeal.τ).loc Cert.CodesIdeal.main_arg1)
      ∧ m' ((c.tc : Thread Cert.CodesRefIdeal.nD Cert.CodesRefIdeal.τ).loc Cert.CodesRefIdeal.main_arg2) = m ((c.tc : Thread Cert.CodesIdeal.nD Cert.CodesIdeal.τ).loc Cert.CodesIdeal.main_arg2)
      ∧ m' ((c.tc : Thread Cert.CodesRefIdeal.nD Cert.CodesRefIdeal.τ).loc Cert.CodesRefIdeal.main_arg3) = m ((c.tc : Thread Cert.CodesIdeal.nD Cert.CodesIdeal.τ).loc Cert.CodesIdeal.main_arg3)
      ∧ m' ((c.tc : Thread Cert.CodesRefIdeal.nD Cert.CodesRefIdeal.τ).loc Cert.CodesRefIdeal.main_arg4) = m ((c.tc : Thread Cert.CodesIdeal.nD Cert.CodesIdeal.τ).loc Cert.CodesIdeal.main_arg4)) →
    ∃ (v0 : (c : Dev Cert.CodesIdeal.nD) → Buf (Elt Ideal) ((c.tc : Thread Cert.CodesIdeal.nD Cert.CodesIdeal.τ).loc Cert.CodesIdeal.main_v1)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v1) = v0 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
          ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4))
      ∧ θ_run (Cert.CodesRefIdeal.defs (F := Ideal)) (onTc (τ := Cert.CodesRefIdeal.τ) (Cert.CodesRefIdeal.main (F := Ideal))) ⟨m', fun _ => 0, g'⟩ (fun r => ∀ c : Dev Cert.CodesRefIdeal.nD,
          r.2.mem ((c.tc : Thread Cert.CodesRefIdeal.nD Cert.CodesRefIdeal.τ).loc Cert.CodesRefIdeal.main_v26) = v0 c
          ∧ r.2.mem ((c.tc : Thread Cert.CodesRefIdeal.nD Cert.CodesRefIdeal.τ).loc Cert.CodesRefIdeal.main_arg0) = m' ((c.tc : Thread Cert.CodesRefIdeal.nD Cert.CodesRefIdeal.τ).loc Cert.CodesRefIdeal.main_arg0)
          ∧ r.2.mem ((c.tc : Thread Cert.CodesRefIdeal.nD Cert.CodesRefIdeal.τ).loc Cert.CodesRefIdeal.main_arg1) = m' ((c.tc : Thread Cert.CodesRefIdeal.nD Cert.CodesRefIdeal.τ).loc Cert.CodesRefIdeal.main_arg1)
          ∧ r.2.mem ((c.tc : Thread Cert.CodesRefIdeal.nD Cert.CodesRefIdeal.τ).loc Cert.CodesRefIdeal.main_arg2) = m' ((c.tc : Thread Cert.CodesRefIdeal.nD Cert.CodesRefIdeal.τ).loc Cert.CodesRefIdeal.main_arg2)
          ∧ r.2.mem ((c.tc : Thread Cert.CodesRefIdeal.nD Cert.CodesRefIdeal.τ).loc Cert.CodesRefIdeal.main_arg3) = m' ((c.tc : Thread Cert.CodesRefIdeal.nD Cert.CodesRefIdeal.τ).loc Cert.CodesRefIdeal.main_arg3)
          ∧ r.2.mem ((c.tc : Thread Cert.CodesRefIdeal.nD Cert.CodesRefIdeal.τ).loc Cert.CodesRefIdeal.main_arg4) = m' ((c.tc : Thread Cert.CodesRefIdeal.nD Cert.CodesRefIdeal.τ).loc Cert.CodesRefIdeal.main_arg4))

def Claim : Prop :=
  ∃ (hLinear2 : Cert.Linear2.Facts) (hLinear2Ideal : Cert.Linear2Ideal.Facts) (hLinear2RefIdeal : Cert.Linear2RefIdeal.Facts) (hLinear1 : Cert.Linear1.Facts) (hLinear1Ideal : Cert.Linear1Ideal.Facts) (hLinear1RefIdeal : Cert.Linear1RefIdeal.Facts) (hCodes : Cert.Codes.Facts) (hCodesIdeal : Cert.CodesIdeal.Facts) (hCodesRefIdeal : Cert.CodesRefIdeal.Facts) (hPre_segments_of_256 : Cert.Pre_segments_of_256.Facts) (hPre_segments_of_32 : Cert.Pre_segments_of_32.Facts),
    quiescent_Linear2 (hLinear2 := hLinear2)
    ∧ quiescent_Linear2Ideal (hLinear2Ideal := hLinear2Ideal)
    ∧ quiescent_Linear2Ideal_pre_segments_of_256 (hLinear2Ideal := hLinear2Ideal) (hPre_segments_of_256 := hPre_segments_of_256)
    ∧ quiescent_Linear2RefIdeal (hLinear2RefIdeal := hLinear2RefIdeal)
    ∧ quiescent_Linear2RefIdeal_pre_segments_of_256 (hLinear2RefIdeal := hLinear2RefIdeal) (hPre_segments_of_256 := hPre_segments_of_256)
    ∧ quiescent_Linear1 (hLinear1 := hLinear1)
    ∧ quiescent_Linear1Ideal (hLinear1Ideal := hLinear1Ideal)
    ∧ quiescent_Linear1RefIdeal (hLinear1RefIdeal := hLinear1RefIdeal)
    ∧ quiescent_Codes (hCodes := hCodes)
    ∧ quiescent_CodesIdeal (hCodesIdeal := hCodesIdeal)
    ∧ quiescent_CodesIdeal_pre_segments_of_32 (hCodesIdeal := hCodesIdeal) (hPre_segments_of_32 := hPre_segments_of_32)
    ∧ quiescent_CodesRefIdeal (hCodesRefIdeal := hCodesRefIdeal)
    ∧ quiescent_CodesRefIdeal_pre_segments_of_32 (hCodesRefIdeal := hCodesRefIdeal) (hPre_segments_of_32 := hPre_segments_of_32)
    ∧ preserves_Linear2_Linear2Ideal
    ∧ algebraic_Linear2Ideal_Linear2RefIdeal_pre_segments_of_256 (hLinear2Ideal := hLinear2Ideal) (hLinear2RefIdeal := hLinear2RefIdeal) (hPre_segments_of_256 := hPre_segments_of_256)
    ∧ preserves_Linear1_Linear1Ideal
    ∧ algebraic_Linear1Ideal_Linear1RefIdeal (hLinear1Ideal := hLinear1Ideal) (hLinear1RefIdeal := hLinear1RefIdeal)
    ∧ preserves_Codes_CodesIdeal
    ∧ algebraic_CodesIdeal_CodesRefIdeal_pre_segments_of_32 (hCodesIdeal := hCodesIdeal) (hCodesRefIdeal := hCodesRefIdeal) (hPre_segments_of_32 := hPre_segments_of_32)
-- ==== Pre_segments_of_256.lean ====
abbrev S7680x3072 : Shape := ⟨2, ![7680, 3072]⟩
abbrev S7680x12288 : Shape := ⟨2, ![7680, 12288]⟩
abbrev S15360x3072 : Shape := ⟨2, ![15360, 3072]⟩
abbrev S3072 : Shape := ⟨1, ![3072]⟩
abbrev S6x3072 : Shape := ⟨2, ![6, 3072]⟩
abbrev S7 : Shape := ⟨1, ![7]⟩
abbrev S_ : Shape := ⟨0, ![]⟩
abbrev S6 : Shape := ⟨1, ![6]⟩

class Facts : Prop where
  bcast_S_S7 : S_.BroadcastsInDim S7 (![] : Fin 0 → Fin S7.rank)
  slices_S7_S6_1 : S7.Slices ![1] S6
  slices_S7_S6_0 : S7.Slices ![0] S6
  bcast_S_S6 : S_.BroadcastsInDim S6 (![] : Fin 0 → Fin S6.rank)
  reducesTo_S7_S_d0 : S7.ReducesTo [0] S_
  h_S_ : 0 < S_.numel
  reducesTo_S6_S_d0 : S6.ReducesTo [0] S_

variable [Facts]

def fn {F : FTy → Type} [FloatOps F] (main_arg0 : FVec F S7680x3072 .fp8e4m3) (main_arg1 : FVec F S7680x12288 .fp8e4m3) (main_arg2 : FVec F S15360x3072 .fp8e4m3) (main_arg3 : FVec F S3072 .f32) (main_arg4 : FVec F S3072 .f32) (main_arg5 : FVec F S6x3072 .f32) (main_arg6 : FVec F S7680x3072 .bf16) (main_arg7 : IVec S7 32) (main_arg8 : FVec F S_ .f32) (main_arg9 : FVec F S_ .f32) : IVec S_ 1 :=
  let main_c : IVec S_ 32 := constantI S_ 32 0#32
  let main_v0 : IVec S7 32 := broadcastInDim S7 ![] bcast_S_S7 main_c
  let main_v1 : IVec S7 1 := cmpi .sge main_arg7 main_v0
  let main_c_0 : IVec S_ 32 := constantI S_ 32 7680#32
  let main_v2 : IVec S7 32 := broadcastInDim S7 ![] bcast_S_S7 main_c_0
  let main_v3 : IVec S7 1 := cmpi .sle main_arg7 main_v2
  let main_v4 : IVec S7 1 := andi main_v1 main_v3
  let main_v5 : IVec S6 32 := (extractStridedSlice S6 ![1] · slices_S7_S6_1) main_arg7
  let main_v6 : IVec S6 32 := (extractStridedSlice S6 ![0] · slices_S7_S6_0) main_arg7
  let main_v7 : IVec S6 32 := subi main_v5 main_v6
  let main_c_1 : IVec S_ 32 := constantI S_ 32 256#32
  let main_v8 : IVec S6 32 := broadcastInDim S6 ![] bcast_S_S6 main_c_1
  let main_v9 : IVec S6 1 := cmpi .sge main_v7 main_v8
  let main_c_2 : IVec S_ 1 := constantI S_ 1 1#1
  let main_v10 : IVec S_ 1 := (fun x v => Host.reduce IntOp.andi x v reducesTo_S7_S_d0 h_S_) main_v4 main_c_2
  let main_c_3 : IVec S_ 1 := constantI S_ 1 1#1
  let main_v11 : IVec S_ 1 := (fun x v => Host.reduce IntOp.andi x v reducesTo_S6_S_d0 h_S_) main_v9 main_c_3
  let main_v12 : IVec S_ 1 := andi main_v10 main_v11
  main_v12
-- ==== Pre_segments_of_32.lean ====
abbrev S7680x3072 : Shape := ⟨2, ![7680, 3072]⟩
abbrev S6x3072 : Shape := ⟨2, ![6, 3072]⟩
abbrev S7 : Shape := ⟨1, ![7]⟩
abbrev S_ : Shape := ⟨0, ![]⟩
abbrev S6 : Shape := ⟨1, ![6]⟩

class Facts : Prop where
  bcast_S_S7 : S_.BroadcastsInDim S7 (![] : Fin 0 → Fin S7.rank)
  slices_S7_S6_1 : S7.Slices ![1] S6
  slices_S7_S6_0 : S7.Slices ![0] S6
  bcast_S_S6 : S_.BroadcastsInDim S6 (![] : Fin 0 → Fin S6.rank)
  reducesTo_S7_S_d0 : S7.ReducesTo [0] S_
  h_S_ : 0 < S_.numel
  reducesTo_S6_S_d0 : S6.ReducesTo [0] S_

variable [Facts]

def fn {F : FTy → Type} [FloatOps F] (main_arg0 : FVec F S7680x3072 .bf16) (main_arg1 : FVec F S6x3072 .f32) (main_arg2 : FVec F S6x3072 .f32) (main_arg3 : IVec S7 32) (main_arg4 : FVec F S_ .f32) : IVec S_ 1 :=
  let main_c : IVec S_ 32 := constantI S_ 32 0#32
  let main_v0 : IVec S7 32 := broadcastInDim S7 ![] bcast_S_S7 main_c
  let main_v1 : IVec S7 1 := cmpi .sge main_arg3 main_v0
  let main_c_0 : IVec S_ 32 := constantI S_ 32 7680#32
  let main_v2 : IVec S7 32 := broadcastInDim S7 ![] bcast_S_S7 main_c_0
  let main_v3 : IVec S7 1 := cmpi .sle main_arg3 main_v2
  let main_v4 : IVec S7 1 := andi main_v1 main_v3
  let main_v5 : IVec S6 32 := (extractStridedSlice S6 ![1] · slices_S7_S6_1) main_arg3
  let main_v6 : IVec S6 32 := (extractStridedSlice S6 ![0] · slices_S7_S6_0) main_arg3
  let main_v7 : IVec S6 32 := subi main_v5 main_v6
  let main_c_1 : IVec S_ 32 := constantI S_ 32 32#32
  let main_v8 : IVec S6 32 := broadcastInDim S6 ![] bcast_S_S6 main_c_1
  let main_v9 : IVec S6 1 := cmpi .sge main_v7 main_v8
  let main_c_2 : IVec S_ 1 := constantI S_ 1 1#1
  let main_v10 : IVec S_ 1 := (fun x v => Host.reduce IntOp.andi x v reducesTo_S7_S_d0 h_S_) main_v4 main_c_2
  let main_c_3 : IVec S_ 1 := constantI S_ 1 1#1
  let main_v11 : IVec S_ 1 := (fun x v => Host.reduce IntOp.andi x v reducesTo_S6_S_d0 h_S_) main_v9 main_c_3
  let main_v12 : IVec S_ 1 := andi main_v10 main_v11
  main_v12
-- ==== Linear2.lean ====
abbrev S7680x3072 : Shape := ⟨2, ![7680, 3072]⟩
abbrev S7680x12288 : Shape := ⟨2, ![7680, 12288]⟩
abbrev S15360x3072 : Shape := ⟨2, ![15360, 3072]⟩
abbrev S3072 : Shape := ⟨1, ![3072]⟩
abbrev S6x3072 : Shape := ⟨2, ![6, 3072]⟩
abbrev S7 : Shape := ⟨1, ![7]⟩
abbrev S_ : Shape := ⟨0, ![]⟩
abbrev S1 : Shape := ⟨1, ![1]⟩
abbrev S1x3072 : Shape := ⟨2, ![1, 3072]⟩
abbrev S768x3072 : Shape := ⟨2, ![768, 3072]⟩
abbrev S768x12288 : Shape := ⟨2, ![768, 12288]⟩
abbrev S3072x512 : Shape := ⟨2, ![3072, 512]⟩
abbrev S12288x512 : Shape := ⟨2, ![12288, 512]⟩
abbrev S1x512 : Shape := ⟨2, ![1, 512]⟩
abbrev S6x512 : Shape := ⟨2, ![6, 512]⟩
abbrev S768x512 : Shape := ⟨2, ![768, 512]⟩
abbrev S256x3072 : Shape := ⟨2, ![256, 3072]⟩
abbrev S256x512 : Shape := ⟨2, ![256, 512]⟩
abbrev S256x12288 : Shape := ⟨2, ![256, 12288]⟩
abbrev S256x1 : Shape := ⟨2, ![256, 1]⟩

abbrev nBuf : Space → Nat
  | .hbm => 15
  | .vmem => 18
  | .smem => 3
  | _ => 0

abbrev bufTy : (tb : Table) → Fin (tcTables nBuf tb) → BufTy
  | .hbm, ⟨0, _⟩ => ⟨S7680x3072, .fp8e4m3⟩
  | .hbm, ⟨1, _⟩ => ⟨S7680x12288, .fp8e4m3⟩
  | .hbm, ⟨2, _⟩ => ⟨S15360x3072, .fp8e4m3⟩
  | .hbm, ⟨3, _⟩ => ⟨S3072, .f32⟩
  | .hbm, ⟨4, _⟩ => ⟨S3072, .f32⟩
  | .hbm, ⟨5, _⟩ => ⟨S6x3072, .f32⟩
  | .hbm, ⟨6, _⟩ => ⟨S7680x3072, .bf16⟩
  | .hbm, ⟨7, _⟩ => ⟨S7, .i32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1x3072, .f32⟩
  | .hbm, ⟨13, _⟩ => ⟨S1x3072, .f32⟩
  | .hbm, ⟨14, _⟩ => ⟨S7680x3072, .bf16⟩
  | .local _ .vmem, ⟨0, _⟩ => ⟨S768x3072, .fp8e4m3⟩
  | .local _ .vmem, ⟨1, _⟩ => ⟨S768x3072, .fp8e4m3⟩
  | .local _ .vmem, ⟨2, _⟩ => ⟨S768x12288, .fp8e4m3⟩
  | .local _ .vmem, ⟨3, _⟩ => ⟨S768x12288, .fp8e4m3⟩
  | .local _ .vmem, ⟨4, _⟩ => ⟨S3072x512, .fp8e4m3⟩
  | .local _ .vmem, ⟨5, _⟩ => ⟨S3072x512, .fp8e4m3⟩
  | .local _ .vmem, ⟨6, _⟩ => ⟨S12288x512, .fp8e4m3⟩
  | .local _ .vmem, ⟨7, _⟩ => ⟨S12288x512, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S6x512, .f32⟩
  | .local _ .vmem, ⟨13, _⟩ => ⟨S6x512, .f32⟩
  | .local _ .vmem, ⟨14, _⟩ => ⟨S768x512, .bf16⟩
  | .local _ .vmem, ⟨15, _⟩ => ⟨S768x512, .bf16⟩
  | .local _ .vmem, ⟨16, _⟩ => ⟨S768x512, .bf16⟩
  | .local _ .vmem, ⟨17, _⟩ => ⟨S768x512, .bf16⟩
  | .local _ .smem, ⟨0, _⟩ => ⟨S7, .i32⟩
  | .local _ .smem, ⟨1, _⟩ => ⟨S1, .f32⟩
  | .local _ .smem, ⟨2, _⟩ => ⟨S1, .f32⟩
  | _, _ => ⟨S7680x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![10, 6], ![false, false]⟩

def k0_off1 (i : grid0.Coords) (v46 : BitVec 32) (v50 : BitVec 32) (v54 : BitVec 32) (v58 : BitVec 32) (v62 : BitVec 32) : Fin 1 → Nat :=
  let c0_i32_17 : BitVec 32 := 0#32
  let arg0 : BitVec 32 := BitVec.ofNat 32 (i 0).val
  let c768_i32 : BitVec 32 := 768#32
  let v0 : BitVec 32 := Scalar.muli arg0 c768_i32
  let c0_i32_15 : BitVec 32 := 0#32
  let v43 : BitVec 32 := Scalar.addi v0 c0_i32_15
  let c256_i32 : BitVec 32 := 256#32
  let v44 : BitVec 32 := Scalar.addi v43 c256_i32
  let c1_i32 : BitVec 32 := 1#32
  let v45 : BitVec 32 := Scalar.subi v44 c1_i32
  let v47 : BitVec 1 := Scalar.cmpi .sge v45 v46
  let v48 : BitVec 32 := Scalar.extui v47
  let v49 : BitVec 32 := Scalar.addi c0_i32_17 v48
  let v51 : BitVec 1 := Scalar.cmpi .sge v45 v50
  let v52 : BitVec 32 := Scalar.extui v51
  let v53 : BitVec 32 := Scalar.addi v49 v52
  let v55 : BitVec 1 := Scalar.cmpi .sge v45 v54
  let v56 : BitVec 32 := Scalar.extui v55
  let v57 : BitVec 32 := Scalar.addi v53 v56
  let v59 : BitVec 1 := Scalar.cmpi .sge v45 v58
  let v60 : BitVec 32 := Scalar.extui v59
  let v61 : BitVec 32 := Scalar.addi v57 v60
  let v63 : BitVec 1 := Scalar.cmpi .sge v45 v62
  let v64 : BitVec 32 := Scalar.extui v63
  let v65 : BitVec 32 := Scalar.addi v61 v64
  let v70 : Index := Scalar.indexCast v65
  ![v70.toNat]

def k0_off2 (i : grid0.Coords) (v46 : BitVec 32) (v50 : BitVec 32) (v54 : BitVec 32) (v58 : BitVec 32) (v62 : BitVec 32) : Fin 2 → Nat :=
  let c0_i32_17 : BitVec 32 := 0#32
  let arg0 : BitVec 32 := BitVec.ofNat 32 (i 0).val
  let c768_i32 : BitVec 32 := 768#32
  let v0 : BitVec 32 := Scalar.muli arg0 c768_i32
  let c0_i32_15 : BitVec 32 := 0#32
  let v43 : BitVec 32 := Scalar.addi v0 c0_i32_15
  let c256_i32 : BitVec 32 := 256#32
  let v44 : BitVec 32 := Scalar.addi v43 c256_i32
  let c1_i32 : BitVec 32 := 1#32
  let v45 : BitVec 32 := Scalar.subi v44 c1_i32
  let v47 : BitVec 1 := Scalar.cmpi .sge v45 v46
  let v48 : BitVec 32 := Scalar.extui v47
  let v49 : BitVec 32 := Scalar.addi c0_i32_17 v48
  let v51 : BitVec 1 := Scalar.cmpi .sge v45 v50
  let v52 : BitVec 32 := Scalar.extui v51
  let v53 : BitVec 32 := Scalar.addi v49 v52
  let v55 : BitVec 1 := Scalar.cmpi .sge v45 v54
  let v56 : BitVec 32 := Scalar.extui v55
  let v57 : BitVec 32 := Scalar.addi v53 v56
  let v59 : BitVec 1 := Scalar.cmpi .sge v45 v58
  let v60 : BitVec 32 := Scalar.extui v59
  let v61 : BitVec 32 := Scalar.addi v57 v60
  let v63 : BitVec 1 := Scalar.cmpi .sge v45 v62
  let v64 : BitVec 32 := Scalar.extui v63
  let v65 : BitVec 32 := Scalar.addi v61 v64
  let v77 : Index := Scalar.indexCast v65
  let c0_23 : Index := 0#32
  ![v77.toNat, 0]

def k0_chk1 (i : grid0.Coords) (v46 : BitVec 32) (v50 : BitVec 32) (v54 : BitVec 32) (v58 : BitVec 32) (v62 : BitVec 32) : Prop :=
  (∀ a, (k0_off1 i v46 v50 v54 v58 v62) a + S1.size a ≤ S7.size a) ∧
  (∀ a, (k0_off2 i v46 v50 v54 v58 v62) a + S1x512.size a ≤ S6x512.size a)
theorem k0_off1_inb : ∀ (i : grid0.Coords) (v46 : BitVec 32) (v50 : BitVec 32) (v54 : BitVec 32) (v58 : BitVec 32) (v62 : BitVec 32) (k0_hw1 : k0_chk1 i v46 v50 v54 v58 v62), ∀ a, (k0_off1 i v46 v50 v54 v58 v62) a + S1.size a ≤ S7.size a := fun i v46 v50 v54 v58 v62 k0_hw1 => k0_hw1.1
theorem k0_off2_inb : ∀ (i : grid0.Coords) (v46 : BitVec 32) (v50 : BitVec 32) (v54 : BitVec 32) (v58 : BitVec 32) (v62 : BitVec 32) (k0_hw1 : k0_chk1 i v46 v50 v54 v58 v62), ∀ a, (k0_off2 i v46 v50 v54 v58 v62) a + S1x512.size a ≤ S6x512.size a := fun i v46 v50 v54 v58 v62 k0_hw1 => k0_hw1.2

def k0_off3 (i : grid0.Coords) (v23 : BitVec 32) (v27 : BitVec 32) (v31 : BitVec 32) (v35 : BitVec 32) (v39 : BitVec 32) : Fin 2 → Nat :=
  let c0_i32_14 : BitVec 32 := 0#32
  let arg0 : BitVec 32 := BitVec.ofNat 32 (i 0).val
  let c768_i32 : BitVec 32 := 768#32
  let v0 : BitVec 32 := Scalar.muli arg0 c768_i32
  let c0_i32 : BitVec 32 := 0#32
  let v22 : BitVec 32 := Scalar.addi v0 c0_i32
  let v24 : BitVec 1 := Scalar.cmpi .sge v22 v23
  let v25 : BitVec 32 := Scalar.extui v24
  let v26 : BitVec 32 := Scalar.addi c0_i32_14 v25
  let v28 : BitVec 1 := Scalar.cmpi .sge v22 v27
  let v29 : BitVec 32 := Scalar.extui v28
  let v30 : BitVec 32 := Scalar.addi v26 v29
  let v32 : BitVec 1 := Scalar.cmpi .sge v22 v31
  let v33 : BitVec 32 := Scalar.extui v32
  let v34 : BitVec 32 := Scalar.addi v30 v33
  let v36 : BitVec 1 := Scalar.cmpi .sge v22 v35
  let v37 : BitVec 32 := Scalar.extui v36
  let v38 : BitVec 32 := Scalar.addi v34 v37
  let v40 : BitVec 1 := Scalar.cmpi .sge v22 v39
  let v41 : BitVec 32 := Scalar.extui v40
  let v42 : BitVec 32 := Scalar.addi v38 v41
  let v79 : Index := Scalar.indexCast v42
  let c0_24 : Index := 0#32
  ![v79.toNat, 0]

def k0_chk2 (i : grid0.Coords) (v23 : BitVec 32) (v27 : BitVec 32) (v31 : BitVec 32) (v35 : BitVec 32) (v39 : BitVec 32) : Prop :=
  (∀ a, (k0_off3 i v23 v27 v31 v35 v39) a + S1x512.size a ≤ S6x512.size a)
theorem k0_off3_inb : ∀ (i : grid0.Coords) (v23 : BitVec 32) (v27 : BitVec 32) (v31 : BitVec 32) (v35 : BitVec 32) (v39 : BitVec 32) (k0_hw2 : k0_chk2 i v23 v27 v31 v35 v39), ∀ a, (k0_off3 i v23 v27 v31 v35 v39) a + S1x512.size a ≤ S6x512.size a := fun i v23 v27 v31 v35 v39 k0_hw2 => k0_hw2

def k0_off4 (i : grid0.Coords) (v139 : BitVec 32) (v143 : BitVec 32) (v147 : BitVec 32) (v151 : BitVec 32) (v155 : BitVec 32) : Fin 1 → Nat :=
  let c0_i32_55 : BitVec 32 := 0#32
  let arg0 : BitVec 32 := BitVec.ofNat 32 (i 0).val
  let c768_i32 : BitVec 32 := 768#32
  let v0 : BitVec 32 := Scalar.muli arg0 c768_i32
  let c256_i32_51 : BitVec 32 := 256#32
  let v136 : BitVec 32 := Scalar.addi v0 c256_i32_51
  let c256_i32_52 : BitVec 32 := 256#32
  let v137 : BitVec 32 := Scalar.addi v136 c256_i32_52
  let c1_i32_53 : BitVec 32 := 1#32
  let v138 : BitVec 32 := Scalar.subi v137 c1_i32_53
  let v140 : BitVec 1 := Scalar.cmpi .sge v138 v139
  let v141 : BitVec 32 := Scalar.extui v140
  let v142 : BitVec 32 := Scalar.addi c0_i32_55 v141
  let v144 : BitVec 1 := Scalar.cmpi .sge v138 v143
  let v145 : BitVec 32 := Scalar.extui v144
  let v146 : BitVec 32 := Scalar.addi v142 v145
  let v148 : BitVec 1 := Scalar.cmpi .sge v138 v147
  let v149 : BitVec 32 := Scalar.extui v148
  let v150 : BitVec 32 := Scalar.addi v146 v149
  let v152 : BitVec 1 := Scalar.cmpi .sge v138 v151
  let v153 : BitVec 32 := Scalar.extui v152
  let v154 : BitVec 32 := Scalar.addi v150 v153
  let v156 : BitVec 1 := Scalar.cmpi .sge v138 v155
  let v157 : BitVec 32 := Scalar.extui v156
  let v158 : BitVec 32 := Scalar.addi v154 v157
  let v163 : Index := Scalar.indexCast v158
  ![v163.toNat]

def k0_off5 (i : grid0.Coords) (v139 : BitVec 32) (v143 : BitVec 32) (v147 : BitVec 32) (v151 : BitVec 32) (v155 : BitVec 32) : Fin 2 → Nat :=
  let c0_i32_55 : BitVec 32 := 0#32
  let arg0 : BitVec 32 := BitVec.ofNat 32 (i 0).val
  let c768_i32 : BitVec 32 := 768#32
  let v0 : BitVec 32 := Scalar.muli arg0 c768_i32
  let c256_i32_51 : BitVec 32 := 256#32
  let v136 : BitVec 32 := Scalar.addi v0 c256_i32_51
  let c256_i32_52 : BitVec 32 := 256#32
  let v137 : BitVec 32 := Scalar.addi v136 c256_i32_52
  let c1_i32_53 : BitVec 32 := 1#32
  let v138 : BitVec 32 := Scalar.subi v137 c1_i32_53
  let v140 : BitVec 1 := Scalar.cmpi .sge v138 v139
  let v141 : BitVec 32 := Scalar.extui v140
  let v142 : BitVec 32 := Scalar.addi c0_i32_55 v141
  let v144 : BitVec 1 := Scalar.cmpi .sge v138 v143
  let v145 : BitVec 32 := Scalar.extui v144
  let v146 : BitVec 32 := Scalar.addi v142 v145
  let v148 : BitVec 1 := Scalar.cmpi .sge v138 v147
  let v149 : BitVec 32 := Scalar.extui v148
  let v150 : BitVec 32 := Scalar.addi v146 v149
  let v152 : BitVec 1 := Scalar.cmpi .sge v138 v151
  let v153 : BitVec 32 := Scalar.extui v152
  let v154 : BitVec 32 := Scalar.addi v150 v153
  let v156 : BitVec 1 := Scalar.cmpi .sge v138 v155
  let v157 : BitVec 32 := Scalar.extui v156
  let v158 : BitVec 32 := Scalar.addi v154 v157
  let v170 : Index := Scalar.indexCast v158
  let c0_61 : Index := 0#32
  ![v170.toNat, 0]

def k0_chk3 (i : grid0.Coords) (v139 : BitVec 32) (v143 : BitVec 32) (v147 : BitVec 32) (v151 : BitVec 32) (v155 : BitVec 32) : Prop :=
  (∀ a, (k0_off4 i v139 v143 v147 v151 v155) a + S1.size a ≤ S7.size a) ∧
  (∀ a, (k0_off5 i v139 v143 v147 v151 v155) a + S1x512.size a ≤ S6x512.size a)
theorem k0_off4_inb : ∀ (i : grid0.Coords) (v139 : BitVec 32) (v143 : BitVec 32) (v147 : BitVec 32) (v151 : BitVec 32) (v155 : BitVec 32) (k0_hw3 : k0_chk3 i v139 v143 v147 v151 v155), ∀ a, (k0_off4 i v139 v143 v147 v151 v155) a + S1.size a ≤ S7.size a := fun i v139 v143 v147 v151 v155 k0_hw3 => k0_hw3.1
theorem k0_off5_inb : ∀ (i : grid0.Coords) (v139 : BitVec 32) (v143 : BitVec 32) (v147 : BitVec 32) (v151 : BitVec 32) (v155 : BitVec 32) (k0_hw3 : k0_chk3 i v139 v143 v147 v151 v155), ∀ a, (k0_off5 i v139 v143 v147 v151 v155) a + S1x512.size a ≤ S6x512.size a := fun i v139 v143 v147 v151 v155 k0_hw3 => k0_hw3.2

def k0_off6 (i : grid0.Coords) (v116 : BitVec 32) (v120 : BitVec 32) (v124 : BitVec 32) (v128 : BitVec 32) (v132 : BitVec 32) : Fin 2 → Nat :=
  let c0_i32_46 : BitVec 32 := 0#32
  let arg0 : BitVec 32 := BitVec.ofNat 32 (i 0).val
  let c768_i32 : BitVec 32 := 768#32
  let v0 : BitVec 32 := Scalar.muli arg0 c768_i32
  let c256_i32_44 : BitVec 32 := 256#32
  let v115 : BitVec 32 := Scalar.addi v0 c256_i32_44
  let v117 : BitVec 1 := Scalar.cmpi .sge v115 v116
  let v118 : BitVec 32 := Scalar.extui v117
  let v119 : BitVec 32 := Scalar.addi c0_i32_46 v118
  let v121 : BitVec 1 := Scalar.cmpi .sge v115 v120
  let v122 : BitVec 32 := Scalar.extui v121
  let v123 : BitVec 32 := Scalar.addi v119 v122
  let v125 : BitVec 1 := Scalar.cmpi .sge v115 v124
  let v126 : BitVec 32 := Scalar.extui v125
  let v127 : BitVec 32 := Scalar.addi v123 v126
  let v129 : BitVec 1 := Scalar.cmpi .sge v115 v128
  let v130 : BitVec 32 := Scalar.extui v129
  let v131 : BitVec 32 := Scalar.addi v127 v130
  let v133 : BitVec 1 := Scalar.cmpi .sge v115 v132
  let v134 : BitVec 32 := Scalar.extui v133
  let v135 : BitVec 32 := Scalar.addi v131 v134
  let v172 : Index := Scalar.indexCast v135
  let c0_62 : Index := 0#32
  ![v172.toNat, 0]

def k0_chk4 (i : grid0.Coords) (v116 : BitVec 32) (v120 : BitVec 32) (v124 : BitVec 32) (v128 : BitVec 32) (v132 : BitVec 32) : Prop :=
  (∀ a, (k0_off6 i v116 v120 v124 v128 v132) a + S1x512.size a ≤ S6x512.size a)
theorem k0_off6_inb : ∀ (i : grid0.Coords) (v116 : BitVec 32) (v120 : BitVec 32) (v124 : BitVec 32) (v128 : BitVec 32) (v132 : BitVec 32) (k0_hw4 : k0_chk4 i v116 v120 v124 v128 v132), ∀ a, (k0_off6 i v116 v120 v124 v128 v132) a + S1x512.size a ≤ S6x512.size a := fun i v116 v120 v124 v128 v132 k0_hw4 => k0_hw4

def k0_off7 (i : grid0.Coords) (v232 : BitVec 32) (v236 : BitVec 32) (v240 : BitVec 32) (v244 : BitVec 32) (v248 : BitVec 32) : Fin 1 → Nat :=
  let c0_i32_92 : BitVec 32 := 0#32
  let arg0 : BitVec 32 := BitVec.ofNat 32 (i 0).val
  let c768_i32 : BitVec 32 := 768#32
  let v0 : BitVec 32 := Scalar.muli arg0 c768_i32
  let c512_i32_88 : BitVec 32 := 512#32
  let v229 : BitVec 32 := Scalar.addi v0 c512_i32_88
  let c256_i32_89 : BitVec 32 := 256#32
  let v230 : BitVec 32 := Scalar.addi v229 c256_i32_89
  let c1_i32_90 : BitVec 32 := 1#32
  let v231 : BitVec 32 := Scalar.subi v230 c1_i32_90
  let v233 : BitVec 1 := Scalar.cmpi .sge v231 v232
  let v234 : BitVec 32 := Scalar.extui v233
  let v235 : BitVec 32 := Scalar.addi c0_i32_92 v234
  let v237 : BitVec 1 := Scalar.cmpi .sge v231 v236
  let v238 : BitVec 32 := Scalar.extui v237
  let v239 : BitVec 32 := Scalar.addi v235 v238
  let v241 : BitVec 1 := Scalar.cmpi .sge v231 v240
  let v242 : BitVec 32 := Scalar.extui v241
  let v243 : BitVec 32 := Scalar.addi v239 v242
  let v245 : BitVec 1 := Scalar.cmpi .sge v231 v244
  let v246 : BitVec 32 := Scalar.extui v245
  let v247 : BitVec 32 := Scalar.addi v243 v246
  let v249 : BitVec 1 := Scalar.cmpi .sge v231 v248
  let v250 : BitVec 32 := Scalar.extui v249
  let v251 : BitVec 32 := Scalar.addi v247 v250
  let v256 : Index := Scalar.indexCast v251
  ![v256.toNat]

def k0_off8 (i : grid0.Coords) (v232 : BitVec 32) (v236 : BitVec 32) (v240 : BitVec 32) (v244 : BitVec 32) (v248 : BitVec 32) : Fin 2 → Nat :=
  let c0_i32_92 : BitVec 32 := 0#32
  let arg0 : BitVec 32 := BitVec.ofNat 32 (i 0).val
  let c768_i32 : BitVec 32 := 768#32
  let v0 : BitVec 32 := Scalar.muli arg0 c768_i32
  let c512_i32_88 : BitVec 32 := 512#32
  let v229 : BitVec 32 := Scalar.addi v0 c512_i32_88
  let c256_i32_89 : BitVec 32 := 256#32
  let v230 : BitVec 32 := Scalar.addi v229 c256_i32_89
  let c1_i32_90 : BitVec 32 := 1#32
  let v231 : BitVec 32 := Scalar.subi v230 c1_i32_90
  let v233 : BitVec 1 := Scalar.cmpi .sge v231 v232
  let v234 : BitVec 32 := Scalar.extui v233
  let v235 : BitVec 32 := Scalar.addi c0_i32_92 v234
  let v237 : BitVec 1 := Scalar.cmpi .sge v231 v236
  let v238 : BitVec 32 := Scalar.extui v237
  let v239 : BitVec 32 := Scalar.addi v235 v238
  let v241 : BitVec 1 := Scalar.cmpi .sge v231 v240
  let v242 : BitVec 32 := Scalar.extui v241
  let v243 : BitVec 32 := Scalar.addi v239 v242
  let v245 : BitVec 1 := Scalar.cmpi .sge v231 v244
  let v246 : BitVec 32 := Scalar.extui v245
  let v247 : BitVec 32 := Scalar.addi v243 v246
  let v249 : BitVec 1 := Scalar.cmpi .sge v231 v248
  let v250 : BitVec 32 := Scalar.extui v249
  let v251 : BitVec 32 := Scalar.addi v247 v250
  let v263 : Index := Scalar.indexCast v251
  let c0_98 : Index := 0#32
  ![v263.toNat, 0]

def k0_chk5 (i : grid0.Coords) (v232 : BitVec 32) (v236 : BitVec 32) (v240 : BitVec 32) (v244 : BitVec 32) (v248 : BitVec 32) : Prop :=
  (∀ a, (k0_off7 i v232 v236 v240 v244 v248) a + S1.size a ≤ S7.size a) ∧
  (∀ a, (k0_off8 i v232 v236 v240 v244 v248) a + S1x512.size a ≤ S6x512.size a)
theorem k0_off7_inb : ∀ (i : grid0.Coords) (v232 : BitVec 32) (v236 : BitVec 32) (v240 : BitVec 32) (v244 : BitVec 32) (v248 : BitVec 32) (k0_hw5 : k0_chk5 i v232 v236 v240 v244 v248), ∀ a, (k0_off7 i v232 v236 v240 v244 v248) a + S1.size a ≤ S7.size a := fun i v232 v236 v240 v244 v248 k0_hw5 => k0_hw5.1
theorem k0_off8_inb : ∀ (i : grid0.Coords) (v232 : BitVec 32) (v236 : BitVec 32) (v240 : BitVec 32) (v244 : BitVec 32) (v248 : BitVec 32) (k0_hw5 : k0_chk5 i v232 v236 v240 v244 v248), ∀ a, (k0_off8 i v232 v236 v240 v244 v248) a + S1x512.size a ≤ S6x512.size a := fun i v232 v236 v240 v244 v248 k0_hw5 => k0_hw5.2

def k0_off9 (i : grid0.Coords) (v209 : BitVec 32) (v213 : BitVec 32) (v217 : BitVec 32) (v221 : BitVec 32) (v225 : BitVec 32) : Fin 2 → Nat :=
  let c0_i32_83 : BitVec 32 := 0#32
  let arg0 : BitVec 32 := BitVec.ofNat 32 (i 0).val
  let c768_i32 : BitVec 32 := 768#32
  let v0 : BitVec 32 := Scalar.muli arg0 c768_i32
  let c512_i32 : BitVec 32 := 512#32
  let v208 : BitVec 32 := Scalar.addi v0 c512_i32
  let v210 : BitVec 1 := Scalar.cmpi .sge v208 v209
  let v211 : BitVec 32 := Scalar.extui v210
  let v212 : BitVec 32 := Scalar.addi c0_i32_83 v211
  let v214 : BitVec 1 := Scalar.cmpi .sge v208 v213
  let v215 : BitVec 32 := Scalar.extui v214
  let v216 : BitVec 32 := Scalar.addi v212 v215
  let v218 : BitVec 1 := Scalar.cmpi .sge v208 v217
  let v219 : BitVec 32 := Scalar.extui v218
  let v220 : BitVec 32 := Scalar.addi v216 v219
  let v222 : BitVec 1 := Scalar.cmpi .sge v208 v221
  let v223 : BitVec 32 := Scalar.extui v222
  let v224 : BitVec 32 := Scalar.addi v220 v223
  let v226 : BitVec 1 := Scalar.cmpi .sge v208 v225
  let v227 : BitVec 32 := Scalar.extui v226
  let v228 : BitVec 32 := Scalar.addi v224 v227
  let v265 : Index := Scalar.indexCast v228
  let c0_99 : Index := 0#32
  ![v265.toNat, 0]

def k0_chk6 (i : grid0.Coords) (v209 : BitVec 32) (v213 : BitVec 32) (v217 : BitVec 32) (v221 : BitVec 32) (v225 : BitVec 32) : Prop :=
  (∀ a, (k0_off9 i v209 v213 v217 v221 v225) a + S1x512.size a ≤ S6x512.size a)
theorem k0_off9_inb : ∀ (i : grid0.Coords) (v209 : BitVec 32) (v213 : BitVec 32) (v217 : BitVec 32) (v221 : BitVec 32) (v225 : BitVec 32) (k0_hw6 : k0_chk6 i v209 v213 v217 v221 v225), ∀ a, (k0_off9 i v209 v213 v217 v221 v225) a + S1x512.size a ≤ S6x512.size a := fun i v209 v213 v217 v221 v225 k0_hw6 => k0_hw6

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c3072_i32 : BitVec 32 := 3072#32
  let c0_i32 : BitVec 32 := 0#32
  ![c3072_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S768x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x12288 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3072x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S12288x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S6x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S768x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S768x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Linear2RefIdeal.lean ====
abbrev S7680x3072 : Shape := ⟨2, ![7680, 3072]⟩
abbrev S7680x12288 : Shape := ⟨2, ![7680, 12288]⟩
abbrev S15360x3072 : Shape := ⟨2, ![15360, 3072]⟩
abbrev S3072 : Shape := ⟨1, ![3072]⟩
abbrev S6x3072 : Shape := ⟨2, ![6, 3072]⟩
abbrev S7 : Shape := ⟨1, ![7]⟩
abbrev S_ : Shape := ⟨0, ![]⟩
abbrev S7680 : Shape := ⟨1, ![7680]⟩
abbrev S7680x1 : Shape := ⟨2, ![7680, 1]⟩
abbrev S6 : Shape := ⟨1, ![6]⟩
abbrev S1x6 : Shape := ⟨2, ![1, 6]⟩
abbrev S7680x6 : Shape := ⟨2, ![7680, 6]⟩
abbrev S1 : Shape := ⟨1, ![1]⟩
abbrev S1x3072 : Shape := ⟨2, ![1, 3072]⟩
abbrev S3072x3072 : Shape := ⟨2, ![3072, 3072]⟩
abbrev S12288x3072 : Shape := ⟨2, ![12288, 3072]⟩

abbrev nBuf : Space → Nat
  | .hbm => 37
  | .vmem => 8
  | .smem => 2
  | _ => 0

abbrev bufTy : (tb : Table) → Fin (tcTables nBuf tb) → BufTy
  | .hbm, ⟨0, _⟩ => ⟨S7680x3072, .fp8e4m3⟩
  | .hbm, ⟨1, _⟩ => ⟨S7680x12288, .fp8e4m3⟩
  | .hbm, ⟨2, _⟩ => ⟨S15360x3072, .fp8e4m3⟩
  | .hbm, ⟨3, _⟩ => ⟨S3072, .f32⟩
  | .hbm, ⟨4, _⟩ => ⟨S3072, .f32⟩
  | .hbm, ⟨5, _⟩ => ⟨S6x3072, .f32⟩
  | .hbm, ⟨6, _⟩ => ⟨S7680x3072, .bf16⟩
  | .hbm, ⟨7, _⟩ => ⟨S7, .i32⟩
  | .hbm, ⟨8, _⟩ => ⟨S_, .f32⟩
  | .hbm, ⟨9, _⟩ => ⟨S_, .f32⟩
  | .hbm, ⟨10, _⟩ => ⟨S7680, .i32⟩
  | .hbm, ⟨11, _⟩ => ⟨S7680x1, .i32⟩
  | .hbm, ⟨12, _⟩ => ⟨S6, .i32⟩
  | .hbm, ⟨13, _⟩ => ⟨S1x6, .i32⟩
  | .hbm, ⟨14, _⟩ => ⟨S7680x6, .i32⟩
  | .hbm, ⟨15, _⟩ => ⟨S7680x6, .i32⟩
  | .hbm, ⟨16, _⟩ => ⟨S7680x6, .i1⟩
  | .hbm, ⟨17, _⟩ => ⟨S7680x6, .i32⟩
  | .hbm, ⟨18, _⟩ => ⟨S_, .i32⟩
  | .hbm, ⟨19, _⟩ => ⟨S7680, .i32⟩
  | .hbm, ⟨20, _⟩ => ⟨S_, .i32⟩
  | .hbm, ⟨21, _⟩ => ⟨S7680, .i32⟩
  | .hbm, ⟨22, _⟩ => ⟨S7680, .i32⟩
  | .hbm, ⟨23, _⟩ => ⟨S_, .i32⟩
  | .hbm, ⟨24, _⟩ => ⟨S7680, .i32⟩
  | .hbm, ⟨25, _⟩ => ⟨S7680, .i1⟩
  | .hbm, ⟨26, _⟩ => ⟨S_, .i32⟩
  | .hbm, ⟨27, _⟩ => ⟨S7680, .i32⟩
  | .hbm, ⟨28, _⟩ => ⟨S7680, .i32⟩
  | .hbm, ⟨29, _⟩ => ⟨S7680, .i32⟩
  | .hbm, ⟨30, _⟩ => ⟨S7680x1, .i32⟩
  | .hbm, ⟨31, _⟩ => ⟨S7680x3072, .f32⟩
  | .hbm, ⟨32, _⟩ => ⟨S1, .f32⟩
  | .hbm, ⟨33, _⟩ => ⟨S1, .f32⟩
  | .hbm, ⟨34, _⟩ => ⟨S1x3072, .f32⟩
  | .hbm, ⟨35, _⟩ => ⟨S1x3072, .f32⟩
  | .hbm, ⟨36, _⟩ => ⟨S7680x3072, .bf16⟩
  | .local _ .vmem, ⟨0, _⟩ => ⟨S7680x3072, .fp8e4m3⟩
  | .local _ .vmem, ⟨1, _⟩ => ⟨S7680x12288, .fp8e4m3⟩
  | .local _ .vmem, ⟨2, _⟩ => ⟨S15360x3072, .fp8e4m3⟩
  | .local _ .vmem, ⟨3, _⟩ => ⟨S1x3072, .f32⟩
  | .local _ .vmem, ⟨4, _⟩ => ⟨S1x3072, .f32⟩
  | .local _ .vmem, ⟨5, _⟩ => ⟨S7680x3072, .f32⟩
  | .local _ .vmem, ⟨6, _⟩ => ⟨S7680x3072, .bf16⟩
  | .local _ .vmem, ⟨7, _⟩ => ⟨S7680x3072, .bf16⟩
  | .local _ .smem, ⟨0, _⟩ => ⟨S1, .f32⟩
  | .local _ .smem, ⟨1, _⟩ => ⟨S1, .f32⟩
  | _, _ => ⟨S7680x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x12288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Linear1.lean ====
abbrev S7680x3072 : Shape := ⟨2, ![7680, 3072]⟩
abbrev S3072x21504 : Shape := ⟨2, ![3072, 21504]⟩
abbrev S21504 : Shape := ⟨1, ![21504]⟩
abbrev S128 : Shape := ⟨1, ![128]⟩
abbrev S7680x64 : Shape := ⟨2, ![7680, 64]⟩
abbrev S_ : Shape := ⟨0, ![]⟩
abbrev S7680x64x2 : Shape := ⟨3, ![7680, 64, 2]⟩
abbrev S7680x128 : Shape := ⟨2, ![7680, 128]⟩
abbrev S7680x64x1 : Shape := ⟨3, ![7680, 64, 1]⟩
abbrev S1 : Shape := ⟨1, ![1]⟩
abbrev S1x21504 : Shape := ⟨2, ![1, 21504]⟩
abbrev S1x128 : Shape := ⟨2, ![1, 128]⟩
abbrev S7680x24x128 : Shape := ⟨3, ![7680, 24, 128]⟩
abbrev S24x7680x128 : Shape := ⟨3, ![24, 7680, 128]⟩
abbrev S3072x7680 : Shape := ⟨2, ![3072, 7680]⟩
abbrev S7680x12288 : Shape := ⟨2, ![7680, 12288]⟩
abbrev S1x1 : Shape := ⟨2, ![1, 1]⟩
abbrev S3072x1024 : Shape := ⟨2, ![3072, 1024]⟩
abbrev S1x1024 : Shape := ⟨2, ![1, 1024]⟩
abbrev S768x128 : Shape := ⟨2, ![768, 128]⟩
abbrev S768x8x128 : Shape := ⟨3, ![768, 8, 128]⟩
abbrev S8x768x128 : Shape := ⟨3, ![8, 768, 128]⟩
abbrev S1024x768 : Shape := ⟨2, ![1024, 768]⟩
abbrev S768x1024 : Shape := ⟨2, ![768, 1024]⟩
abbrev S8x512 : Shape := ⟨2, ![8, 512]⟩
abbrev S256x3072 : Shape := ⟨2, ![256, 3072]⟩
abbrev S3072x512 : Shape := ⟨2, ![3072, 512]⟩
abbrev S256x512 : Shape := ⟨2, ![256, 512]⟩
abbrev S1x512 : Shape := ⟨2, ![1, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S768x4x128 : Shape := ⟨3, ![768, 4, 128]⟩
abbrev S256x1x128 : Shape := ⟨3, ![256, 1, 128]⟩
abbrev S256x2x128 : Shape := ⟨3, ![256, 2, 128]⟩
abbrev S512x256 : Shape := ⟨2, ![512, 256]⟩
abbrev S32x8x512 : Shape := ⟨3, ![32, 8, 512]⟩
abbrev S1x8x512 : Shape := ⟨3, ![1, 8, 512]⟩
abbrev S1x1x1 : Shape := ⟨3, ![1, 1, 1]⟩

abbrev nBuf : Space → Nat
  | .hbm => 30
  | .vmem => 26
  | .smem => 3
  | _ => 0

abbrev bufTy : (tb : Table) → Fin (tcTables nBuf tb) → BufTy
  | .hbm, ⟨0, _⟩ => ⟨S7680x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S128, .f32⟩
  | .hbm, ⟨5, _⟩ => ⟨S128, .f32⟩
  | .hbm, ⟨6, _⟩ => ⟨S7680x64, .f32⟩
  | .hbm, ⟨7, _⟩ => ⟨S7680x64, .f32⟩
  | .hbm, ⟨8, _⟩ => ⟨S_, .f32⟩
  | .hbm, ⟨9, _⟩ => ⟨S_, .f32⟩
  | .hbm, ⟨10, _⟩ => ⟨S7680x64x2, .f32⟩
  | .hbm, ⟨11, _⟩ => ⟨S7680x128, .f32⟩
  | .hbm, ⟨12, _⟩ => ⟨S7680x64, .f32⟩
  | .hbm, ⟨13, _⟩ => ⟨S7680x64x1, .f32⟩
  | .hbm, ⟨14, _⟩ => ⟨S7680x64x1, .f32⟩
  | .hbm, ⟨15, _⟩ => ⟨S7680x64x2, .f32⟩
  | .hbm, ⟨16, _⟩ => ⟨S7680x128, .f32⟩
  | .hbm, ⟨17, _⟩ => ⟨S1, .f32⟩
  | .hbm, ⟨18, _⟩ => ⟨S1, .f32⟩
  | .hbm, ⟨19, _⟩ => ⟨S1x21504, .f32⟩
  | .hbm, ⟨20, _⟩ => ⟨S1x21504, .f32⟩
  | .hbm, ⟨21, _⟩ => ⟨S1x128, .f32⟩
  | .hbm, ⟨22, _⟩ => ⟨S1x128, .f32⟩
  | .hbm, ⟨23, _⟩ => ⟨S7680x24x128, .bf16⟩
  | .hbm, ⟨24, _⟩ => ⟨S7680x24x128, .bf16⟩
  | .hbm, ⟨25, _⟩ => ⟨S24x7680x128, .bf16⟩
  | .hbm, ⟨26, _⟩ => ⟨S24x7680x128, .bf16⟩
  | .hbm, ⟨27, _⟩ => ⟨S3072x7680, .bf16⟩
  | .hbm, ⟨28, _⟩ => ⟨S7680x12288, .fp8e4m3⟩
  | .hbm, ⟨29, _⟩ => ⟨S1x1, .f32⟩
  | .local _ .vmem, ⟨0, _⟩ => ⟨S7680x3072, .fp8e4m3⟩
  | .local _ .vmem, ⟨1, _⟩ => ⟨S3072x1024, .fp8e4m3⟩
  | .local _ .vmem, ⟨2, _⟩ => ⟨S3072x1024, .fp8e4m3⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x128, .f32⟩
  | .local _ .vmem, ⟨8, _⟩ => ⟨S1x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x128, .f32⟩
  | .local _ .vmem, ⟨13, _⟩ => ⟨S768x8x128, .bf16⟩
  | .local _ .vmem, ⟨14, _⟩ => ⟨S768x8x128, .bf16⟩
  | .local _ .vmem, ⟨15, _⟩ => ⟨S768x8x128, .bf16⟩
  | .local _ .vmem, ⟨16, _⟩ => ⟨S768x8x128, .bf16⟩
  | .local _ .vmem, ⟨17, _⟩ => ⟨S8x768x128, .bf16⟩
  | .local _ .vmem, ⟨18, _⟩ => ⟨S8x768x128, .bf16⟩
  | .local _ .vmem, ⟨19, _⟩ => ⟨S8x768x128, .bf16⟩
  | .local _ .vmem, ⟨20, _⟩ => ⟨S8x768x128, .bf16⟩
  | .local _ .vmem, ⟨21, _⟩ => ⟨S1024x768, .bf16⟩
  | .local _ .vmem, ⟨22, _⟩ => ⟨S1024x768, .bf16⟩
  | .local _ .vmem, ⟨23, _⟩ => ⟨S768x1024, .fp8e4m3⟩
  | .local _ .vmem, ⟨24, _⟩ => ⟨S768x1024, .fp8e4m3⟩
  | .local _ .vmem, ⟨25, _⟩ => ⟨S8x512, .f32⟩
  | .local _ .smem, ⟨0, _⟩ => ⟨S1, .f32⟩
  | .local _ .smem, ⟨1, _⟩ => ⟨S1, .f32⟩
  | .local _ .smem, ⟨2, _⟩ => ⟨S1x1, .f32⟩
  | _, _ => ⟨S7680x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_stg0_0 : Ref sig .tc := ⟨.smem, 0, rfl⟩
abbrev cc0_stg1_0 : Ref sig .tc := ⟨.smem, 1, rfl⟩
abbrev cc0_stg16_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [BitOps F]

abbrev grid0 : Pipeline.Grid := ⟨2, ![21, 10], ![false, false]⟩

def k0_cond1 (i : grid0.Coords) : BitVec 1 :=
  let arg0 : BitVec 32 := BitVec.ofNat 32 (i 0).val
  let c3_i32 : BitVec 32 := 3#32
  let v2 : BitVec 1 := Scalar.cmpi .slt arg0 c3_i32
  let v3 : BitVec 32 := Scalar.extui v2
  let c0_i32 : BitVec 32 := 0#32
  let v4 : BitVec 1 := Scalar.cmpi .ne v3 c0_i32
  v4

def k0_off1 (i : grid0.Coords) (c0_i32_12 : BitVec 32) : Fin 2 → Nat :=
  let arg1 : BitVec 32 := BitVec.ofNat 32 (i 1).val
  let c768_i32 : BitVec 32 := 768#32
  let v28 : BitVec 32 := Scalar.muli arg1 c768_i32
  let v29 : BitVec 32 := Scalar.addi v28 c0_i32_12
  let v30 : Index := Scalar.indexCast v29
  let c0_13 : Index := 0#32
  ![v30.toNat, 0]
def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c6_i32 : BitVec 32 := 6#32
  let v6 : BitVec 1 := Scalar.cmpi .slt arg0 c6_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off2 (i : grid0.Coords) (c0_i32_12 : BitVec 32) : Fin 2 → Nat :=
  let arg1 : BitVec 32 := BitVec.ofNat 32 (i 1).val
  let c768_i32 : BitVec 32 := 768#32
  let v28 : BitVec 32 := Scalar.muli arg1 c768_i32
  let v29 : BitVec 32 := Scalar.addi v28 c0_i32_12
  let v30 : Index := Scalar.indexCast v29
  let c0_13 : Index := 0#32
  ![v30.toNat, 0]
def k0_cond3 (i : grid0.Coords) : BitVec 1 :=
  let arg0 : BitVec 32 := BitVec.ofNat 32 (i 0).val
  let c6_i32_3 : BitVec 32 := 6#32
  let v10 : BitVec 1 := Scalar.cmpi .sge arg0 c6_i32_3
  let c9_i32 : BitVec 32 := 9#32
  let v11 : BitVec 1 := Scalar.cmpi .slt arg0 c9_i32
  let v12 : BitVec 1 := Scalar.andi v10 v11
  let v13 : BitVec 32 := Scalar.extui v12
  let c0_i32_4 : BitVec 32 := 0#32
  let v14 : BitVec 1 := Scalar.cmpi .ne v13 c0_i32_4
  v14

def k0_off3 (i : grid0.Coords) (c0_i32_12 : BitVec 32) : Fin 2 → Nat :=
  let arg1 : BitVec 32 := BitVec.ofNat 32 (i 1).val
  let c768_i32 : BitVec 32 := 768#32
  let v28 : BitVec 32 := Scalar.muli arg1 c768_i32
  let v29 : BitVec 32 := Scalar.addi v28 c0_i32_12
  let v30 : Index := Scalar.indexCast v29
  let c0_13 : Index := 0#32
  ![v30.toNat, 0]
def k0_cond5 (i : grid0.Coords) : BitVec 1 :=
  let arg0 : BitVec 32 := BitVec.ofNat 32 (i 0).val
  let c9_i32_8 : BitVec 32 := 9#32
  let v20 : BitVec 1 := Scalar.cmpi .sge arg0 c9_i32_8
  let v21 : BitVec 32 := Scalar.extui v20
  let c0_i32_9 : BitVec 32 := 0#32
  let v22 : BitVec 1 := Scalar.cmpi .ne v21 c0_i32_9
  v22

def k0_off4 (i : grid0.Coords) (c0_i32_12 : BitVec 32) : Fin 2 → Nat :=
  let arg1 : BitVec 32 := BitVec.ofNat 32 (i 1).val
  let c768_i32 : BitVec 32 := 768#32
  let v28 : BitVec 32 := Scalar.muli arg1 c768_i32
  let v29 : BitVec 32 := Scalar.addi v28 c0_i32_12
  let v30 : Index := Scalar.indexCast v29
  let c0_13 : Index := 0#32
  ![v30.toNat, 0]
def k0_cond6 (i : grid0.Coords) : BitVec 1 :=
  let arg0 : BitVec 32 := BitVec.ofNat 32 (i 0).val
  let c20_i32 : BitVec 32 := 20#32
  let v23 : BitVec 1 := Scalar.cmpi .eq arg0 c20_i32
  let arg1 : BitVec 32 := BitVec.ofNat 32 (i 1).val
  let c9_i32_10 : BitVec 32 := 9#32
  let v24 : BitVec 1 := Scalar.cmpi .eq arg1 c9_i32_10
  let v25 : BitVec 1 := Scalar.andi v23 v24
  let v26 : BitVec 32 := Scalar.extui v25
  let c0_i32_11 : BitVec 32 := 0#32
  let v27 : BitVec 1 := Scalar.cmpi .ne v26 c0_i32_11
  v27

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c9_i32 : BitVec 32 := 9#32
  let v1 : BitVec 32 := Scalar.select v0 arg1 c9_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c9_i32 : BitVec 32 := 9#32
  let v1 : BitVec 32 := Scalar.select v0 arg1 c9_i32
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c3_i32 : BitVec 32 := 3#32
  let v1 : BitVec 1 := Scalar.cmpi .sge arg0 c3_i32
  let c9_i32 : BitVec 32 := 9#32
  let v2 : BitVec 32 := Scalar.select v1 c9_i32 arg1
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c2_i32 : BitVec 32 := 2#32
  let v5 : BitVec 32 := Scalar.maxsi c0_i32_2 v4
  let v6 : BitVec 32 := Scalar.minsi c2_i32 v5
  let c0_i32_3 : BitVec 32 := 0#32
  let c0_i32_4 : BitVec 32 := 0#32
  ![v3.toNat, v6.toNat, c0_i32_3.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c6_i32 : BitVec 32 := 6#32
  let v1 : BitVec 1 := Scalar.cmpi .sge arg0 c6_i32
  let c9_i32 : BitVec 32 := 9#32
  let v2 : BitVec 32 := Scalar.select v1 c9_i32 arg1
  let c0_i32 : BitVec 32 := 0#32
  let v3 : BitVec 32 := Scalar.select v0 c0_i32 v2
  let c3_i32_0 : BitVec 32 := 3#32
  let v4 : BitVec 32 := Scalar.subi arg0 c3_i32_0
  let c0_i32_1 : BitVec 32 := 0#32
  let c2_i32 : BitVec 32 := 2#32
  let v5 : BitVec 32 := Scalar.maxsi c0_i32_1 v4
  let v6 : BitVec 32 := Scalar.minsi c2_i32 v5
  let c0_i32_2 : BitVec 32 := 0#32
  let c0_i32_3 : BitVec 32 := 0#32
  ![v3.toNat, v6.toNat, c0_i32_2.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c3_i32 : BitVec 32 := 3#32
  let v1 : BitVec 1 := Scalar.cmpi .sge arg0 c3_i32
  let c9_i32 : BitVec 32 := 9#32
  let v2 : BitVec 32 := Scalar.select v1 c9_i32 arg1
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c2_i32 : BitVec 32 := 2#32
  let v5 : BitVec 32 := Scalar.maxsi c0_i32_2 v4
  let v6 : BitVec 32 := Scalar.minsi c2_i32 v5
  let c0_i32_3 : BitVec 32 := 0#32
  let c0_i32_4 : BitVec 32 := 0#32
  ![v6.toNat, v3.toNat, c0_i32_3.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c6_i32 : BitVec 32 := 6#32
  let v1 : BitVec 1 := Scalar.cmpi .sge arg0 c6_i32
  let c9_i32 : BitVec 32 := 9#32
  let v2 : BitVec 32 := Scalar.select v1 c9_i32 arg1
  let c0_i32 : BitVec 32 := 0#32
  let v3 : BitVec 32 := Scalar.select v0 c0_i32 v2
  let c3_i32_0 : BitVec 32 := 3#32
  let v4 : BitVec 32 := Scalar.subi arg0 c3_i32_0
  let c0_i32_1 : BitVec 32 := 0#32
  let c2_i32 : BitVec 32 := 2#32
  let v5 : BitVec 32 := Scalar.maxsi c0_i32_1 v4
  let v6 : BitVec 32 := Scalar.minsi c2_i32 v5
  let c0_i32_2 : BitVec 32 := 0#32
  let c0_i32_3 : BitVec 32 := 0#32
  ![v6.toNat, v3.toNat, c0_i32_2.toNat]

def cc0_transform_14 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c9_i32 : BitVec 32 := 9#32
  let v1 : BitVec 1 := Scalar.cmpi .sge arg0 c9_i32
  let c9_i32_0 : BitVec 32 := 9#32
  let v2 : BitVec 32 := Scalar.select v1 c9_i32_0 arg1
  let c0_i32 : BitVec 32 := 0#32
  let v3 : BitVec 32 := Scalar.select v0 c0_i32 v2
  let c6_i32_1 : BitVec 32 := 6#32
  let v4 : BitVec 32 := Scalar.subi arg0 c6_i32_1
  let c0_i32_2 : BitVec 32 := 0#32
  let c2_i32 : BitVec 32 := 2#32
  let v5 : BitVec 32 := Scalar.maxsi c0_i32_2 v4
  let v6 : BitVec 32 := Scalar.minsi c2_i32 v5
  let c0_i32_3 : BitVec 32 := 0#32
  ![v6.toNat, v3.toNat]

def cc0_transform_15 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c21_i32 : BitVec 32 := 21#32
  let v1 : BitVec 1 := Scalar.cmpi .sge arg0 c21_i32
  let c9_i32_0 : BitVec 32 := 9#32
  let v2 : BitVec 32 := Scalar.select v1 c9_i32_0 arg1
  let c0_i32 : BitVec 32 := 0#32
  let v3 : BitVec 32 := Scalar.select v0 c0_i32 v2
  let c9_i32_1 : BitVec 32 := 9#32
  let v4 : BitVec 32 := Scalar.subi arg0 c9_i32_1
  let c0_i32_2 : BitVec 32 := 0#32
  let c11_i32 : BitVec 32 := 11#32
  let v5 : BitVec 32 := Scalar.maxsi c0_i32_2 v4
  let v6 : BitVec 32 := Scalar.minsi c11_i32 v5
  let c0_i32_3 : BitVec 32 := 0#32
  ![v3.toNat, v6.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S7680x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3072x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x8x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S768x8x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x768x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x768x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S768x1024 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Linear1Ideal.lean ====
variable {F : FTy → Type} [FloatOps F]
-- ==== Linear1RefIdeal.lean ====
abbrev S7680x3072 : Shape := ⟨2, ![7680, 3072]⟩
abbrev S3072x21504 : Shape := ⟨2, ![3072, 21504]⟩
abbrev S21504 : Shape := ⟨1, ![21504]⟩
abbrev S128 : Shape := ⟨1, ![128]⟩
abbrev S7680x64 : Shape := ⟨2, ![7680, 64]⟩
abbrev S_ : Shape := ⟨0, ![]⟩
abbrev S1 : Shape := ⟨1, ![1]⟩
abbrev S1x21504 : Shape := ⟨2, ![1, 21504]⟩
abbrev S1x128 : Shape := ⟨2, ![1, 128]⟩
abbrev S7680x24x128 : Shape := ⟨3, ![7680, 24, 128]⟩
abbrev S7680x12288 : Shape := ⟨2, ![7680, 12288]⟩
abbrev S7680x21504 : Shape := ⟨2, ![7680, 21504]⟩
abbrev S7680x24 : Shape := ⟨2, ![7680, 24]⟩
abbrev S7680x24x1 : Shape := ⟨3, ![7680, 24, 1]⟩
abbrev S1x1x128 : Shape := ⟨3, ![1, 1, 128]⟩
abbrev S7680x24x64x2 : Shape := ⟨4, ![7680, 24, 64, 2]⟩
abbrev S7680x24x64x1 : Shape := ⟨4, ![7680, 24, 64, 1]⟩
abbrev S7680x24x64 : Shape := ⟨3, ![7680, 24, 64]⟩
abbrev S7680x1x64 : Shape := ⟨3, ![7680, 1, 64]⟩

abbrev nBuf : Space → Nat
  | .hbm => 19
  | .vmem => 11
  | .smem => 2
  | _ => 0

abbrev bufTy : (tb : Table) → Fin (tcTables nBuf tb) → BufTy
  | .hbm, ⟨0, _⟩ => ⟨S7680x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S128, .f32⟩
  | .hbm, ⟨5, _⟩ => ⟨S128, .f32⟩
  | .hbm, ⟨6, _⟩ => ⟨S7680x64, .f32⟩
  | .hbm, ⟨7, _⟩ => ⟨S7680x64, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1x21504, .f32⟩
  | .hbm, ⟨13, _⟩ => ⟨S1x21504, .f32⟩
  | .hbm, ⟨14, _⟩ => ⟨S1x128, .f32⟩
  | .hbm, ⟨15, _⟩ => ⟨S1x128, .f32⟩
  | .hbm, ⟨16, _⟩ => ⟨S7680x24x128, .bf16⟩
  | .hbm, ⟨17, _⟩ => ⟨S7680x24x128, .bf16⟩
  | .hbm, ⟨18, _⟩ => ⟨S7680x12288, .fp8e4m3⟩
  | .local _ .vmem, ⟨0, _⟩ => ⟨S7680x3072, .fp8e4m3⟩
  | .local _ .vmem, ⟨1, _⟩ => ⟨S3072x21504, .fp8e4m3⟩
  | .local _ .vmem, ⟨2, _⟩ => ⟨S1x21504, .f32⟩
  | .local _ .vmem, ⟨3, _⟩ => ⟨S1x21504, .f32⟩
  | .local _ .vmem, ⟨4, _⟩ => ⟨S1x128, .f32⟩
  | .local _ .vmem, ⟨5, _⟩ => ⟨S1x128, .f32⟩
  | .local _ .vmem, ⟨6, _⟩ => ⟨S7680x64, .f32⟩
  | .local _ .vmem, ⟨7, _⟩ => ⟨S7680x64, .f32⟩
  | .local _ .vmem, ⟨8, _⟩ => ⟨S7680x24x128, .bf16⟩
  | .local _ .vmem, ⟨9, _⟩ => ⟨S7680x24x128, .bf16⟩
  | .local _ .vmem, ⟨10, _⟩ => ⟨S7680x12288, .fp8e4m3⟩
  | .local _ .smem, ⟨0, _⟩ => ⟨S1, .f32⟩
  | .local _ .smem, ⟨1, _⟩ => ⟨S1, .f32⟩
  | _, _ => ⟨S7680x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x21504 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x21504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x21504 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x24x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7680x24x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7680x12288 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Codes.lean ====
abbrev S7680x3072 : Shape := ⟨2, ![7680, 3072]⟩
abbrev S6x3072 : Shape := ⟨2, ![6, 3072]⟩
abbrev S7 : Shape := ⟨1, ![7]⟩
abbrev S_ : Shape := ⟨0, ![]⟩
abbrev S1 : Shape := ⟨1, ![1]⟩
abbrev S256x3072 : Shape := ⟨2, ![256, 3072]⟩
abbrev S32x3072 : Shape := ⟨2, ![32, 3072]⟩
abbrev S32 : Shape := ⟨1, ![32]⟩
abbrev S32x1 : Shape := ⟨2, ![32, 1]⟩
abbrev S1x3072 : Shape := ⟨2, ![1, 3072]⟩

abbrev nBuf : Space → Nat
  | .hbm => 7
  | .vmem => 6
  | .smem => 2
  | _ => 0

abbrev bufTy : (tb : Table) → Fin (tcTables nBuf tb) → BufTy
  | .hbm, ⟨0, _⟩ => ⟨S7680x3072, .bf16⟩
  | .hbm, ⟨1, _⟩ => ⟨S6x3072, .f32⟩
  | .hbm, ⟨2, _⟩ => ⟨S6x3072, .f32⟩
  | .hbm, ⟨3, _⟩ => ⟨S7, .i32⟩
  | .hbm, ⟨4, _⟩ => ⟨S_, .f32⟩
  | .hbm, ⟨5, _⟩ => ⟨S1, .f32⟩
  | .hbm, ⟨6, _⟩ => ⟨S7680x3072, .fp8e4m3⟩
  | .local _ .vmem, ⟨0, _⟩ => ⟨S256x3072, .bf16⟩
  | .local _ .vmem, ⟨1, _⟩ => ⟨S256x3072, .bf16⟩
  | .local _ .vmem, ⟨2, _⟩ => ⟨S6x3072, .f32⟩
  | .local _ .vmem, ⟨3, _⟩ => ⟨S6x3072, .f32⟩
  | .local _ .vmem, ⟨4, _⟩ => ⟨S256x3072, .fp8e4m3⟩
  | .local _ .vmem, ⟨5, _⟩ => ⟨S256x3072, .fp8e4m3⟩
  | .local _ .smem, ⟨0, _⟩ => ⟨S7, .i32⟩
  | .local _ .smem, ⟨1, _⟩ => ⟨S1, .f32⟩
  | _, _ => ⟨S7680x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![30], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  v3
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v5 : Index := Scalar.indexCast v4
  let c0_1 : Index := 0#32
  ![v5.toNat, 0]
def k0_off2 (i : grid0.Coords) (k0_t1 : Fin k0_t1_loop.trips) (v25 : BitVec 32) (v29 : BitVec 32) (v33 : BitVec 32) (v37 : BitVec 32) (v41 : BitVec 32) : Fin 2 → Nat :=
  let c0_i32_6 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v24 : BitVec 32 := Scalar.addi v0 v4
  let v26 : BitVec 1 := Scalar.cmpi .sge v24 v25
  let v27 : BitVec 32 := Scalar.extui v26
  let v28 : BitVec 32 := Scalar.addi c0_i32_6 v27
  let v30 : BitVec 1 := Scalar.cmpi .sge v24 v29
  let v31 : BitVec 32 := Scalar.extui v30
  let v32 : BitVec 32 := Scalar.addi v28 v31
  let v34 : BitVec 1 := Scalar.cmpi .sge v24 v33
  let v35 : BitVec 32 := Scalar.extui v34
  let v36 : BitVec 32 := Scalar.addi v32 v35
  let v38 : BitVec 1 := Scalar.cmpi .sge v24 v37
  let v39 : BitVec 32 := Scalar.extui v38
  let v40 : BitVec 32 := Scalar.addi v36 v39
  let v42 : BitVec 1 := Scalar.cmpi .sge v24 v41
  let v43 : BitVec 32 := Scalar.extui v42
  let v44 : BitVec 32 := Scalar.addi v40 v43
  let v72 : Index := Scalar.indexCast v44
  let c0_15 : Index := 0#32
  ![v72.toNat, 0]
def k0_cond1 (i : grid0.Coords) (k0_t1 : Fin k0_t1_loop.trips) (v25 : BitVec 32) (v29 : BitVec 32) (v33 : BitVec 32) (v37 : BitVec 32) (v41 : BitVec 32) (v46 : BitVec 32) (v50 : BitVec 32) (v54 : BitVec 32) (v58 : BitVec 32) (v62 : BitVec 32) : BitVec 1 :=
  let c0_i32_6 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v24 : BitVec 32 := Scalar.addi v0 v4
  let v26 : BitVec 1 := Scalar.cmpi .sge v24 v25
  let v27 : BitVec 32 := Scalar.extui v26
  let v28 : BitVec 32 := Scalar.addi c0_i32_6 v27
  let v30 : BitVec 1 := Scalar.cmpi .sge v24 v29
  let v31 : BitVec 32 := Scalar.extui v30
  let v32 : BitVec 32 := Scalar.addi v28 v31
  let v34 : BitVec 1 := Scalar.cmpi .sge v24 v33
  let v35 : BitVec 32 := Scalar.extui v34
  let v36 : BitVec 32 := Scalar.addi v32 v35
  let v38 : BitVec 1 := Scalar.cmpi .sge v24 v37
  let v39 : BitVec 32 := Scalar.extui v38
  let v40 : BitVec 32 := Scalar.addi v36 v39
  let v42 : BitVec 1 := Scalar.cmpi .sge v24 v41
  let v43 : BitVec 32 := Scalar.extui v42
  let v44 : BitVec 32 := Scalar.addi v40 v43
  let c0_i32_8 : BitVec 32 := 0#32
  let c31_i32 : BitVec 32 := 31#32
  let v45 : BitVec 32 := Scalar.addi v24 c31_i32
  let v47 : BitVec 1 := Scalar.cmpi .sge v45 v46
  let v48 : BitVec 32 := Scalar.extui v47
  let v49 : BitVec 32 := Scalar.addi c0_i32_8 v48
  let v51 : BitVec 1 := Scalar.cmpi .sge v45 v50
  let v52 : BitVec 32 := Scalar.extui v51
  let v53 : BitVec 32 := Scalar.addi v49 v52
  let v55 : BitVec 1 := Scalar.cmpi .sge v45 v54
  let v56 : BitVec 32 := Scalar.extui v55
  let v57 : BitVec 32 := Scalar.addi v53 v56
  let v59 : BitVec 1 := Scalar.cmpi .sge v45 v58
  let v60 : BitVec 32 := Scalar.extui v59
  let v61 : BitVec 32 := Scalar.addi v57 v60
  let v63 : BitVec 1 := Scalar.cmpi .sge v45 v62
  let v64 : BitVec 32 := Scalar.extui v63
  let v65 : BitVec 32 := Scalar.addi v61 v64
  let v66 : BitVec 1 := Scalar.cmpi .eq v44 v65
  let v67 : BitVec 32 := Scalar.extui v66
  let c0_i32_13 : BitVec 32 := 0#32
  let v68 : BitVec 1 := Scalar.cmpi .ne v67 c0_i32_13
  v68

def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v89 : Index := Scalar.indexCast v4
  let c0_20 : Index := 0#32
  ![v89.toNat, 0]
def k0_off4 (i : grid0.Coords) (k0_t1 : Fin k0_t1_loop.trips) (v46 : BitVec 32) (v50 : BitVec 32) (v54 : BitVec 32) (v58 : BitVec 32) (v62 : BitVec 32) : Fin 1 → Nat :=
  let c0_i32_8 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v24 : BitVec 32 := Scalar.addi v0 v4
  let c31_i32 : BitVec 32 := 31#32
  let v45 : BitVec 32 := Scalar.addi v24 c31_i32
  let v47 : BitVec 1 := Scalar.cmpi .sge v45 v46
  let v48 : BitVec 32 := Scalar.extui v47
  let v49 : BitVec 32 := Scalar.addi c0_i32_8 v48
  let v51 : BitVec 1 := Scalar.cmpi .sge v45 v50
  let v52 : BitVec 32 := Scalar.extui v51
  let v53 : BitVec 32 := Scalar.addi v49 v52
  let v55 : BitVec 1 := Scalar.cmpi .sge v45 v54
  let v56 : BitVec 32 := Scalar.extui v55
  let v57 : BitVec 32 := Scalar.addi v53 v56
  let v59 : BitVec 1 := Scalar.cmpi .sge v45 v58
  let v60 : BitVec 32 := Scalar.extui v59
  let v61 : BitVec 32 := Scalar.addi v57 v60
  let v63 : BitVec 1 := Scalar.cmpi .sge v45 v62
  let v64 : BitVec 32 := Scalar.extui v63
  let v65 : BitVec 32 := Scalar.addi v61 v64
  let v75 : Index := Scalar.indexCast v65
  ![v75.toNat]
def k0_cond2 (i : grid0.Coords) (k0_t1 : Fin k0_t1_loop.trips) (v25 : BitVec 32) (v29 : BitVec 32) (v33 : BitVec 32) (v37 : BitVec 32) (v41 : BitVec 32) (v46 : BitVec 32) (v50 : BitVec 32) (v54 : BitVec 32) (v58 : BitVec 32) (v62 : BitVec 32) : BitVec 1 :=
  let c0_i32_6 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v24 : BitVec 32 := Scalar.addi v0 v4
  let v26 : BitVec 1 := Scalar.cmpi .sge v24 v25
  let v27 : BitVec 32 := Scalar.extui v26
  let v28 : BitVec 32 := Scalar.addi c0_i32_6 v27
  let v30 : BitVec 1 := Scalar.cmpi .sge v24 v29
  let v31 : BitVec 32 := Scalar.extui v30
  let v32 : BitVec 32 := Scalar.addi v28 v31
  let v34 : BitVec 1 := Scalar.cmpi .sge v24 v33
  let v35 : BitVec 32 := Scalar.extui v34
  let v36 : BitVec 32 := Scalar.addi v32 v35
  let v38 : BitVec 1 := Scalar.cmpi .sge v24 v37
  let v39 : BitVec 32 := Scalar.extui v38
  let v40 : BitVec 32 := Scalar.addi v36 v39
  let v42 : BitVec 1 := Scalar.cmpi .sge v24 v41
  let v43 : BitVec 32 := Scalar.extui v42
  let v44 : BitVec 32 := Scalar.addi v40 v43
  let c0_i32_8 : BitVec 32 := 0#32
  let c31_i32 : BitVec 32 := 31#32
  let v45 : BitVec 32 := Scalar.addi v24 c31_i32
  let v47 : BitVec 1 := Scalar.cmpi .sge v45 v46
  let v48 : BitVec 32 := Scalar.extui v47
  let v49 : BitVec 32 := Scalar.addi c0_i32_8 v48
  let v51 : BitVec 1 := Scalar.cmpi .sge v45 v50
  let v52 : BitVec 32 := Scalar.extui v51
  let v53 : BitVec 32 := Scalar.addi v49 v52
  let v55 : BitVec 1 := Scalar.cmpi .sge v45 v54
  let v56 : BitVec 32 := Scalar.extui v55
  let v57 : BitVec 32 := Scalar.addi v53 v56
  let v59 : BitVec 1 := Scalar.cmpi .sge v45 v58
  let v60 : BitVec 32 := Scalar.extui v59
  let v61 : BitVec 32 := Scalar.addi v57 v60
  let v63 : BitVec 1 := Scalar.cmpi .sge v45 v62
  let v64 : BitVec 32 := Scalar.extui v63
  let v65 : BitVec 32 := Scalar.addi v61 v64
  let v69 : BitVec 1 := Scalar.cmpi .ne v44 v65
  let v70 : BitVec 32 := Scalar.extui v69
  let c0_i32_14 : BitVec 32 := 0#32
  let v71 : BitVec 1 := Scalar.cmpi .ne v70 c0_i32_14
  v71

def k0_off5 (i : grid0.Coords) (k0_t1 : Fin k0_t1_loop.trips) (v25 : BitVec 32) (v29 : BitVec 32) (v33 : BitVec 32) (v37 : BitVec 32) (v41 : BitVec 32) : Fin 2 → Nat :=
  let c0_i32_6 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v24 : BitVec 32 := Scalar.addi v0 v4
  let v26 : BitVec 1 := Scalar.cmpi .sge v24 v25
  let v27 : BitVec 32 := Scalar.extui v26
  let v28 : BitVec 32 := Scalar.addi c0_i32_6 v27
  let v30 : BitVec 1 := Scalar.cmpi .sge v24 v29
  let v31 : BitVec 32 := Scalar.extui v30
  let v32 : BitVec 32 := Scalar.addi v28 v31
  let v34 : BitVec 1 := Scalar.cmpi .sge v24 v33
  let v35 : BitVec 32 := Scalar.extui v34
  let v36 : BitVec 32 := Scalar.addi v32 v35
  let v38 : BitVec 1 := Scalar.cmpi .sge v24 v37
  let v39 : BitVec 32 := Scalar.extui v38
  let v40 : BitVec 32 := Scalar.addi v36 v39
  let v42 : BitVec 1 := Scalar.cmpi .sge v24 v41
  let v43 : BitVec 32 := Scalar.extui v42
  let v44 : BitVec 32 := Scalar.addi v40 v43
  let v79 : Index := Scalar.indexCast v44
  let c0_15 : Index := 0#32
  ![v79.toNat, 0]
def k0_off6 (i : grid0.Coords) (k0_t1 : Fin k0_t1_loop.trips) (v46 : BitVec 32) (v50 : BitVec 32) (v54 : BitVec 32) (v58 : BitVec 32) (v62 : BitVec 32) : Fin 2 → Nat :=
  let c0_i32_8 : BitVec 32 := 0#32
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v24 : BitVec 32 := Scalar.addi v0 v4
  let c31_i32 : BitVec 32 := 31#32
  let v45 : BitVec 32 := Scalar.addi v24 c31_i32
  let v47 : BitVec 1 := Scalar.cmpi .sge v45 v46
  let v48 : BitVec 32 := Scalar.extui v47
  let v49 : BitVec 32 := Scalar.addi c0_i32_8 v48
  let v51 : BitVec 1 := Scalar.cmpi .sge v45 v50
  let v52 : BitVec 32 := Scalar.extui v51
  let v53 : BitVec 32 := Scalar.addi v49 v52
  let v55 : BitVec 1 := Scalar.cmpi .sge v45 v54
  let v56 : BitVec 32 := Scalar.extui v55
  let v57 : BitVec 32 := Scalar.addi v53 v56
  let v59 : BitVec 1 := Scalar.cmpi .sge v45 v58
  let v60 : BitVec 32 := Scalar.extui v59
  let v61 : BitVec 32 := Scalar.addi v57 v60
  let v63 : BitVec 1 := Scalar.cmpi .sge v45 v62
  let v64 : BitVec 32 := Scalar.extui v63
  let v65 : BitVec 32 := Scalar.addi v61 v64
  let v81 : Index := Scalar.indexCast v65
  let c0_16 : Index := 0#32
  ![v81.toNat, 0]

def k0_chk1 (i : grid0.Coords) (k0_t1 : Fin k0_t1_loop.trips) (v25 : BitVec 32) (v29 : BitVec 32) (v33 : BitVec 32) (v37 : BitVec 32) (v41 : BitVec 32) (v46 : BitVec 32) (v50 : BitVec 32) (v54 : BitVec 32) (v58 : BitVec 32) (v62 : BitVec 32) : Prop :=
  (∀ (k0_h1 : k0_cond1 i k0_t1 v25 v29 v33 v37 v41 v46 v50 v54 v58 v62 = 1#1), ∀ a, (k0_off2 i k0_t1 v25 v29 v33 v37 v41) a + S1x3072.size a ≤ S6x3072.size a) ∧
  (∀ (k0_h2 : k0_cond2 i k0_t1 v25 v29 v33 v37 v41 v46 v50 v54 v58 v62 = 1#1), ∀ a, (k0_off4 i k0_t1 v46 v50 v54 v58 v62) a + S1.size a ≤ S7.size a) ∧
  (∀ (k0_h2 : k0_cond2 i k0_t1 v25 v29 v33 v37 v41 v46 v50 v54 v58 v62 = 1#1), ∀ a, (k0_off5 i k0_t1 v25 v29 v33 v37 v41) a + S1x3072.size a ≤ S6x3072.size a) ∧
  (∀ (k0_h2 : k0_cond2 i k0_t1 v25 v29 v33 v37 v41 v46 v50 v54 v58 v62 = 1#1), ∀ a, (k0_off6 i k0_t1 v46 v50 v54 v58 v62) a + S1x3072.size a ≤ S6x3072.size a)
theorem k0_off2_inb : ∀ (i : grid0.Coords) (k0_t1 : Fin k0_t1_loop.trips) (v25 : BitVec 32) (v29 : BitVec 32) (v33 : BitVec 32) (v37 : BitVec 32) (v41 : BitVec 32) (v46 : BitVec 32) (v50 : BitVec 32) (v54 : BitVec 32) (v58 : BitVec 32) (v62 : BitVec 32) (k0_hw1 : k0_chk1 i k0_t1 v25 v29 v33 v37 v41 v46 v50 v54 v58 v62), ∀ (k0_h1 : k0_cond1 i k0_t1 v25 v29 v33 v37 v41 v46 v50 v54 v58 v62 = 1#1), ∀ a, (k0_off2 i k0_t1 v25 v29 v33 v37 v41) a + S1x3072.size a ≤ S6x3072.size a := fun i k0_t1 v25 v29 v33 v37 v41 v46 v50 v54 v58 v62 k0_hw1 k0_h1 => k0_hw1.1 k0_h1
theorem k0_off4_inb : ∀ (i : grid0.Coords) (k0_t1 : Fin k0_t1_loop.trips) (v25 : BitVec 32) (v29 : BitVec 32) (v33 : BitVec 32) (v37 : BitVec 32) (v41 : BitVec 32) (v46 : BitVec 32) (v50 : BitVec 32) (v54 : BitVec 32) (v58 : BitVec 32) (v62 : BitVec 32) (k0_hw1 : k0_chk1 i k0_t1 v25 v29 v33 v37 v41 v46 v50 v54 v58 v62), ∀ (k0_h2 : k0_cond2 i k0_t1 v25 v29 v33 v37 v41 v46 v50 v54 v58 v62 = 1#1), ∀ a, (k0_off4 i k0_t1 v46 v50 v54 v58 v62) a + S1.size a ≤ S7.size a := fun i k0_t1 v25 v29 v33 v37 v41 v46 v50 v54 v58 v62 k0_hw1 k0_h2 => k0_hw1.2.1 k0_h2
theorem k0_off5_inb : ∀ (i : grid0.Coords) (k0_t1 : Fin k0_t1_loop.trips) (v25 : BitVec 32) (v29 : BitVec 32) (v33 : BitVec 32) (v37 : BitVec 32) (v41 : BitVec 32) (v46 : BitVec 32) (v50 : BitVec 32) (v54 : BitVec 32) (v58 : BitVec 32) (v62 : BitVec 32) (k0_hw1 : k0_chk1 i k0_t1 v25 v29 v33 v37 v41 v46 v50 v54 v58 v62), ∀ (k0_h2 : k0_cond2 i k0_t1 v25 v29 v33 v37 v41 v46 v50 v54 v58 v62 = 1#1), ∀ a, (k0_off5 i k0_t1 v25 v29 v33 v37 v41) a + S1x3072.size a ≤ S6x3072.size a := fun i k0_t1 v25 v29 v33 v37 v41 v46 v50 v54 v58 v62 k0_hw1 k0_h2 => k0_hw1.2.2.1 k0_h2
theorem k0_off6_inb : ∀ (i : grid0.Coords) (k0_t1 : Fin k0_t1_loop.trips) (v25 : BitVec 32) (v29 : BitVec 32) (v33 : BitVec 32) (v37 : BitVec 32) (v41 : BitVec 32) (v46 : BitVec 32) (v50 : BitVec 32) (v54 : BitVec 32) (v58 : BitVec 32) (v62 : BitVec 32) (k0_hw1 : k0_chk1 i k0_t1 v25 v29 v33 v37 v41 v46 v50 v54 v58 v62), ∀ (k0_h2 : k0_cond2 i k0_t1 v25 v29 v33 v37 v41 v46 v50 v54 v58 v62 = 1#1), ∀ a, (k0_off6 i k0_t1 v46 v50 v54 v58 v62) a + S1x3072.size a ≤ S6x3072.size a := fun i k0_t1 v25 v29 v33 v37 v41 v46 v50 v54 v58 v62 k0_hw1 k0_h2 => k0_hw1.2.2.2 k0_h2

def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v3 : BitVec 32 := Scalar.muli arg7 c32_i32
  let v4 : BitVec 32 := v3
  let v112 : Index := Scalar.indexCast v4
  let c0_22 : Index := 0#32
  ![v112.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CodesIdeal.lean ====
variable {F : FTy → Type} [FloatOps F] [Named F]
def κ : String → Option EReal := fun
  | "inv_d" => some ((1 / 3072 : ℝ) : EReal)
  | _ => none
-- ==== CodesRefIdeal.lean ====
abbrev S7680x3072 : Shape := ⟨2, ![7680, 3072]⟩
abbrev S6x3072 : Shape := ⟨2, ![6, 3072]⟩
abbrev S7 : Shape := ⟨1, ![7]⟩
abbrev S_ : Shape := ⟨0, ![]⟩
abbrev S7680 : Shape := ⟨1, ![7680]⟩
abbrev S7680x1 : Shape := ⟨2, ![7680, 1]⟩
abbrev S6 : Shape := ⟨1, ![6]⟩
abbrev S1x6 : Shape := ⟨2, ![1, 6]⟩
abbrev S7680x6 : Shape := ⟨2, ![7680, 6]⟩
abbrev S1 : Shape := ⟨1, ![1]⟩

abbrev nBuf : Space → Nat
  | .hbm => 38
  | .vmem => 4
  | .smem => 1
  | _ => 0

abbrev bufTy : (tb : Table) → Fin (tcTables nBuf tb) → BufTy
  | .hbm, ⟨0, _⟩ => ⟨S7680x3072, .bf16⟩
  | .hbm, ⟨1, _⟩ => ⟨S6x3072, .f32⟩
  | .hbm, ⟨2, _⟩ => ⟨S6x3072, .f32⟩
  | .hbm, ⟨3, _⟩ => ⟨S7, .i32⟩
  | .hbm, ⟨4, _⟩ => ⟨S_, .f32⟩
  | .hbm, ⟨5, _⟩ => ⟨S7680, .i32⟩
  | .hbm, ⟨6, _⟩ => ⟨S7680x1, .i32⟩
  | .hbm, ⟨7, _⟩ => ⟨S6, .i32⟩
  | .hbm, ⟨8, _⟩ => ⟨S1x6, .i32⟩
  | .hbm, ⟨9, _⟩ => ⟨S7680x6, .i32⟩
  | .hbm, ⟨10, _⟩ => ⟨S7680x6, .i32⟩
  | .hbm, ⟨11, _⟩ => ⟨S7680x6, .i1⟩
  | .hbm, ⟨12, _⟩ => ⟨S7680x6, .i32⟩
  | .hbm, ⟨13, _⟩ => ⟨S_, .i32⟩
  | .hbm, ⟨14, _⟩ => ⟨S7680, .i32⟩
  | .hbm, ⟨15, _⟩ => ⟨S_, .i32⟩
  | .hbm, ⟨16, _⟩ => ⟨S7680, .i32⟩
  | .hbm, ⟨17, _⟩ => ⟨S7680, .i32⟩
  | .hbm, ⟨18, _⟩ => ⟨S_, .i32⟩
  | .hbm, ⟨19, _⟩ => ⟨S7680, .i32⟩
  | .hbm, ⟨20, _⟩ => ⟨S7680, .i1⟩
  | .hbm, ⟨21, _⟩ => ⟨S_, .i32⟩
  | .hbm, ⟨22, _⟩ => ⟨S7680, .i32⟩
  | .hbm, ⟨23, _⟩ => ⟨S7680, .i32⟩
  | .hbm, ⟨24, _⟩ => ⟨S7680, .i32⟩
  | .hbm, ⟨25, _⟩ => ⟨S7680x1, .i32⟩
  | .hbm, ⟨26, _⟩ => ⟨S7680x3072, .f32⟩
  | .hbm, ⟨27, _⟩ => ⟨S_, .i32⟩
  | .hbm, ⟨28, _⟩ => ⟨S7680, .i32⟩
  | .hbm, ⟨29, _⟩ => ⟨S7680, .i1⟩
  | .hbm, ⟨30, _⟩ => ⟨S_, .i32⟩
  | .hbm, ⟨31, _⟩ => ⟨S7680, .i32⟩
  | .hbm, ⟨32, _⟩ => ⟨S7680, .i32⟩
  | .hbm, ⟨33, _⟩ => ⟨S7680, .i32⟩
  | .hbm, ⟨34, _⟩ => ⟨S7680x1, .i32⟩
  | .hbm, ⟨35, _⟩ => ⟨S7680x3072, .f32⟩
  | .hbm, ⟨36, _⟩ => ⟨S1, .f32⟩
  | .hbm, ⟨37, _⟩ => ⟨S7680x3072, .fp8e4m3⟩
  | .local _ .vmem, ⟨0, _⟩ => ⟨S7680x3072, .bf16⟩
  | .local _ .vmem, ⟨1, _⟩ => ⟨S7680x3072, .f32⟩
  | .local _ .vmem, ⟨2, _⟩ => ⟨S7680x3072, .f32⟩
  | .local _ .vmem, ⟨3, _⟩ => ⟨S7680x3072, .fp8e4m3⟩
  | .local _ .smem, ⟨0, _⟩ => ⟨S1, .f32⟩
  | _, _ => ⟨S7680x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.CodesFrame.lean ====
/- The call that normalises and quantises the rows of `x`: what one trip of its loop stores, that the trips fill the block, and the run of the
   whole call from that. -/
module

public import proofs.«01_k».proof.Proof.Gen.Codes.Frame
public import proofs.«01_k».proof.Proof.Gen.Codes.Loops
public import Idealize.ShloMosaic.Lib.WritesUnit
public import Idealize.ShloMosaic.Lib.Claim

@[expose] public section

set_option maxRecDepth 16384

noncomputable section

namespace Cert.Codes.Own

open Cert.Codes Cert.Codes.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One trip -/

/-- Of the two conditions of a trip — the first and the last row lie in the same segment, or they do not — exactly one holds. -/
theorem conds (a b : BitVec 32) : Scalar.cmpi .ne (Scalar.extui (Scalar.cmpi .ne a b) : BitVec 32) 0#32 = 1#1
    ↔ ¬ Scalar.cmpi .ne (Scalar.extui (Scalar.cmpi .eq a b) : BitVec 32) 0#32 = 1#1 := by
  by_cases h : a = b
  · subst h
    simp [Scalar.cmpi, Scalar.extui, IntOp.cmpi]
  · have h1 : (a != b) = true := by simpa using h
    have h2 : (a == b) = false := by simpa using h
    simp [Scalar.cmpi, Scalar.extui, IntOp.cmpi, h1, h2]

section Trip
variable (c : Dev nD) (i : grid0.Coords) (arg1 : Memref sig .tc .smem S7 .i32) (harg1 : arg1.IsWhole) (arg2 : Memref sig .tc .smem S1 .f32) (harg2 : arg2.IsWhole)
  (arg3 : Memref sig .tc .vmem S256x3072 .bf16) (harg3 : arg3.IsWhole) (arg4 : Memref sig .tc .vmem S6x3072 .f32) (harg4 : arg4.IsWhole)
  (arg5 : Memref sig .tc .vmem S6x3072 .f32) (harg5 : arg5.IsWhole) (arg6 : Memref sig .tc .vmem S256x3072 .fp8e4m3) (harg6 : arg6.IsWhole)
  (v0 : BitVec 32) (v1 : Elt F .f32) (X1 : BufTy.Contents (Elt F) arg1.view.ty) (X3 : BufTy.Contents (Elt F) arg3.view.ty)
  (X4 : BufTy.Contents (Elt F) arg4.view.ty) (X5 : BufTy.Contents (Elt F) arg5.view.ty) (k : Fin k0_t1_loop.trips)

/-- The word at place `j` of the boundaries. -/
abbrev word (off : Fin 1 → ℕ) (inb : ∀ a, off a + S1.size a ≤ S7.size a) : BitVec 32 :=
  arg1.view.readAt (Elt F) (Rect.unit (s := S7) off S1.size inb).toLoadRect X1 (Shape.Idx.first (numel1_S1.symm ▸ Nat.one_pos))

abbrev w1 : BitVec 32 := word arg1 X1 ![1] inb_S7_S1_1
abbrev w2 : BitVec 32 := word arg1 X1 ![2] inb_S7_S1_2
abbrev w3 : BitVec 32 := word arg1 X1 ![3] inb_S7_S1_3
abbrev w4 : BitVec 32 := word arg1 X1 ![4] inb_S7_S1_4
abbrev w5 : BitVec 32 := word arg1 X1 ![5] inb_S7_S1_5

/-- A row of a modulation table. -/
abbrev tableRow (arg : Memref sig .tc .vmem S6x3072 .f32) (X : BufTy.Contents (Elt F) arg.view.ty) (off : Fin 2 → ℕ) (inb : ∀ a, off a + S1x3072.size a ≤ S6x3072.size a) :
    Vec F S1x3072 .f32 :=
  arg.view.readAt (Elt F) (Rect.unit (s := S6x3072) off S1x3072.size inb).toLoadRect X

/-- The trip's normalised rows. -/
abbrev normed : FVec F S32x3072 .f32 :=
  k0_pay3 (arg3.view.readAt (Elt F) (Rect.unit (s := S256x3072) (k0_off1 k) S32x3072.size (k0_off1_inb k)).toLoadRect X3)

/-- The trip's rows lie in one segment. -/
abbrev oneSegment : Prop :=
  k0_cond1 i k (w1 arg1 X1) (w2 arg1 X1) (w3 arg1 X1) (w4 arg1 X1) (w5 arg1 X1) (w1 arg1 X1) (w2 arg1 X1) (w3 arg1 X1) (w4 arg1 X1) (w5 arg1 X1) = 1#1

/-- The trip's rows lie in two segments. -/
abbrev twoSegments : Prop :=
  k0_cond2 i k (w1 arg1 X1) (w2 arg1 X1) (w3 arg1 X1) (w4 arg1 X1) (w5 arg1 X1) (w1 arg1 X1) (w2 arg1 X1) (w3 arg1 X1) (w4 arg1 X1) (w5 arg1 X1) = 1#1

theorem two_iff : twoSegments i arg1 X1 k ↔ ¬ oneSegment i arg1 X1 k := conds _ _

/-- What a trip stores whose rows lie in one segment. -/
theorem trip_one (h : oneSegment i arg1 X1 k) : ∃ inb,
    tripL_k0_t1 (F := F) Variants.none c none i arg1 harg1 arg2 harg2 arg3 harg3 arg4 harg4 arg5 harg5 arg6 harg6 v0 v1 X1 X3 X4 X5 k
      = [⟨Rect.unit (s := S256x3072) (k0_off3 k) S32x3072.size (k0_off3_inb k),
          k0_pay1 v1 (normed arg3 X3 k) (tableRow arg5 X5 (k0_off2 i k (w1 arg1 X1) (w2 arg1 X1) (w3 arg1 X1) (w4 arg1 X1) (w5 arg1 X1)) inb)
            (tableRow arg4 X4 (k0_off2 i k (w1 arg1 X1) (w2 arg1 X1) (w3 arg1 X1) (w4 arg1 X1) (w5 arg1 X1)) inb)⟩] := by
  have h2 : ¬ twoSegments i arg1 X1 k := fun h2 => (two_iff i arg1 X1 k).1 h2 h
  refine ⟨?_, ?_⟩
  case refine_2 =>
    unfold tripL_k0_t1
    rw [dif_pos h, dif_neg h2]
    unfold trip_k0_t1
    rfl

/-- What a trip stores whose rows lie in two segments. -/
theorem trip_two (h : ¬ oneSegment i arg1 X1 k) : ∃ inb4 inb5 inb6,
    tripL_k0_t1 (F := F) Variants.none c none i arg1 harg1 arg2 harg2 arg3 harg3 arg4 harg4 arg5 harg5 arg6 harg6 v0 v1 X1 X3 X4 X5 k
      = [⟨Rect.unit (s := S256x3072) (k0_off7 k) S32x3072.size (k0_off7_inb k),
          k0_pay2 v1 (normed arg3 X3 k) (Scalar.addi v0 (Scalar.muli (Scf.iv 0#32 1#32 k) 32#32))
            (word arg1 X1 (k0_off4 i k (w1 arg1 X1) (w2 arg1 X1) (w3 arg1 X1) (w4 arg1 X1) (w5 arg1 X1)) inb4)
            (tableRow arg5 X5 (k0_off5 i k (w1 arg1 X1) (w2 arg1 X1) (w3 arg1 X1) (w4 arg1 X1) (w5 arg1 X1)) inb5)
            (tableRow arg5 X5 (k0_off6 i k (w1 arg1 X1) (w2 arg1 X1) (w3 arg1 X1) (w4 arg1 X1) (w5 arg1 X1)) inb6)
            (tableRow arg4 X4 (k0_off5 i k (w1 arg1 X1) (w2 arg1 X1) (w3 arg1 X1) (w4 arg1 X1) (w5 arg1 X1)) inb5)
            (tableRow arg4 X4 (k0_off6 i k (w1 arg1 X1) (w2 arg1 X1) (w3 arg1 X1) (w4 arg1 X1) (w5 arg1 X1)) inb6)⟩] := by
  have h2 : twoSegments i arg1 X1 k := (two_iff i arg1 X1 k).2 h
  refine ⟨?_, ?_, ?_, ?_⟩
  case refine_4 =>
    unfold tripL_k0_t1
    rw [dif_neg h, dif_pos h2]
    unfold trip_k0_t1
    rfl

theorem off3_eq : ∀ k : Fin k0_t1_loop.trips, k0_off3 k = ![32 * (k : ℕ), 0] := by decide +kernel
theorem off7_eq : ∀ k : Fin k0_t1_loop.trips, k0_off7 k = ![32 * (k : ℕ), 0] := by decide +kernel
theorem trips_eq : k0_t1_loop.trips = 8 := by decide +kernel

/-- Either way a trip stores its 32 rows, once. -/
theorem trip_rows : ∃ off inb w, off = ![32 * (k : ℕ), 0] ∧
    tripL_k0_t1 (F := F) Variants.none c none i arg1 harg1 arg2 harg2 arg3 harg3 arg4 harg4 arg5 harg5 arg6 harg6 v0 v1 X1 X3 X4 X5 k
      = [⟨Rect.unit (s := S256x3072) off S32x3072.size inb, w⟩] := by
  by_cases h : oneSegment i arg1 X1 k
  · obtain ⟨_, e⟩ := trip_one c i arg1 harg1 arg2 harg2 arg3 harg3 arg4 harg4 arg5 harg5 arg6 harg6 v0 v1 X1 X3 X4 X5 k h
    exact ⟨_, _, _, off3_eq k, e⟩
  · obtain ⟨_, _, _, e⟩ := trip_two c i arg1 harg1 arg2 harg2 arg3 harg3 arg4 harg4 arg5 harg5 arg6 harg6 v0 v1 X1 X3 X4 X5 k h
    exact ⟨_, _, _, off7_eq k, e⟩

/-- The pieces of the trips before `n`. -/
abbrev pieces (n : ℕ) : List (View.Piece (Elt F) S256x3072 .fp8e4m3) :=
  pb_k0_t1 (F := F) Variants.none c none i arg1 harg1 arg2 harg2 arg3 harg3 arg4 harg4 arg5 harg5 arg6 harg6 v0 v1 X1 X3 X4 X5 n

/-- The pieces of a trip are among the pieces of the trips before any later one. -/
theorem mem_pieces (pc) (n : ℕ) (hn : n ≤ k0_t1_loop.trips) (hk : (k : ℕ) < n)
    (h : pc ∈ tripL_k0_t1 (F := F) Variants.none c none i arg1 harg1 arg2 harg2 arg3 harg3 arg4 harg4 arg5 harg5 arg6 harg6 v0 v1 X1 X3 X4 X5 k) :
    pc ∈ pieces c i arg1 harg1 arg2 harg2 arg3 harg3 arg4 harg4 arg5 harg5 arg6 harg6 v0 v1 X1 X3 X4 X5 n := by
  induction n with
  | zero => exact absurd hk (Nat.not_lt_zero _)
  | succ n ih =>
    have hs := pb_k0_t1_succ (F := F) Variants.none c none i arg1 harg1 arg2 harg2 arg3 harg3 arg4 harg4 arg5 harg5 arg6 harg6 v0 v1 X1 X3 X4 X5 ⟨n, hn⟩
    unfold pieces
    rw [hs]
    rcases Nat.lt_succ_iff_lt_or_eq.1 hk with hlt | heq
    · exact List.mem_append_right _ (ih (by omega) hlt)
    · refine List.mem_append_left _ ?_
      rw [show (⟨n, hn⟩ : Fin k0_t1_loop.trips) = k from Fin.ext heq.symm]
      exact h

/-- The trips together store every row of the block. -/
theorem pieces_cover (y : S256x3072.Idx) :
    ∃ pc ∈ pieces c i arg1 harg1 arg2 harg2 arg3 harg3 arg4 harg4 arg5 harg5 arg6 harg6 v0 v1 X1 X3 X4 X5 k0_t1_loop.trips, y ∈ pc.1.set := by
  have h0 : (y 0 : ℕ) < 256 := (y 0).isLt
  have h1 : (y 1 : ℕ) < 3072 := (y 1).isLt
  have hk : (y 0 : ℕ) / 32 < k0_t1_loop.trips := by rw [trips_eq]; omega
  obtain ⟨off, inb, w, e, ht⟩ := trip_rows c i arg1 harg1 arg2 harg2 arg3 harg3 arg4 harg4 arg5 harg5 arg6 harg6 v0 v1 X1 X3 X4 X5 ⟨(y 0 : ℕ) / 32, hk⟩
  refine ⟨_, mem_pieces c i arg1 harg1 arg2 harg2 arg3 harg3 arg4 harg4 arg5 harg5 arg6 harg6 v0 v1 X1 X3 X4 X5 ⟨(y 0 : ℕ) / 32, hk⟩ _ _ le_rfl hk
    (by rw [ht]; exact List.mem_singleton.2 rfl), ?_⟩
  subst e
  rw [Rect.mem_set_unit]
  intro a
  fin_cases a
  · show 32 * ((y 0 : ℕ) / 32) ≤ (y 0 : ℕ) ∧ (y 0 : ℕ) < 32 * ((y 0 : ℕ) / 32) + 32
    omega
  · show 0 ≤ (y 1 : ℕ) ∧ (y 1 : ℕ) < 0 + 3072
    omega
end Trip

/-! ## The body -/

-- the proof term of the run is large
set_option maxHeartbeats 1000000 in
/-- The body on whole buffers: the inputs' buffers stay as they were, and the output's buffer ends with the pieces of the loop. -/
noncomputable def bodyRun (c : Dev nD) (i : grid0.Coords) (arg1 : Memref sig .tc .smem S7 .i32) (harg1 : arg1.IsWhole) (arg2 : Memref sig .tc .smem S1 .f32) (harg2 : arg2.IsWhole)
    (arg3 : Memref sig .tc .vmem S256x3072 .bf16) (harg3 : arg3.IsWhole) (arg4 : Memref sig .tc .vmem S6x3072 .f32) (harg4 : arg4.IsWhole)
    (arg5 : Memref sig .tc .vmem S6x3072 .f32) (harg5 : arg5.IsWhole) (arg6 : Memref sig .tc .vmem S256x3072 .fp8e4m3) (harg6 : arg6.IsWhole)
    (x1 : Vec F S7 .i32) (x2 : Vec F S1 .f32) (x3 : Vec F S256x3072 .bf16) (x4 : Vec F S6x3072 .f32) (x5 : Vec F S6x3072 .f32) :
    { L6 : List (View.Piece (Elt F) S256x3072 .fp8e4m3) //
      ∀ (E : Set ℕ) (K : PUnit → sProp (MT nD τ sig Unit (Elt F) ℕ (UR sig nD τ) ℕ)),
        iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
              ∗ owns (c : Thread nD τ) arg5 fullShare x5 ∗ (∃ f, arg6.view.loc (c : Thread nD τ) ↦[arg6.view.set]{fullShare} arg6.view.writes (Elt F) f L6)) -∗ K ⟨⟩))
          ⊢ wp frame (wpE (defs₀ (F := F)) Variants.none c none) E (cc0_ln_codes i arg1 harg1 arg2 harg2 arg3 harg3 arg4 harg4 arg5 harg5 arg6 harg6) K } := by
  refine ⟨?_, fun E K => ?run⟩
  case run =>
    simp only [cc0_ln_codes_eq_skeleton]; unfold cc0_ln_codes_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

/-- The pieces that the body leaves are those of the loop's eight trips. -/
theorem bodyRun_pieces (c : Dev nD) (i : grid0.Coords) (arg1 : Memref sig .tc .smem S7 .i32) (harg1 : arg1.IsWhole) (arg2 : Memref sig .tc .smem S1 .f32) (harg2 : arg2.IsWhole)
    (arg3 : Memref sig .tc .vmem S256x3072 .bf16) (harg3 : arg3.IsWhole) (arg4 : Memref sig .tc .vmem S6x3072 .f32) (harg4 : arg4.IsWhole)
    (arg5 : Memref sig .tc .vmem S6x3072 .f32) (harg5 : arg5.IsWhole) (arg6 : Memref sig .tc .vmem S256x3072 .fp8e4m3) (harg6 : arg6.IsWhole)
    (x1 : Vec F S7 .i32) (x2 : Vec F S1 .f32) (x3 : Vec F S256x3072 .bf16) (x4 : Vec F S6x3072 .f32) (x5 : Vec F S6x3072 .f32) :
    (bodyRun c i arg1 harg1 arg2 harg2 arg3 harg3 arg4 harg4 arg5 harg5 arg6 harg6 x1 x2 x3 x4 x5).1
      = pieces c i arg1 harg1 arg2 harg2 arg3 harg3 arg4 harg4 arg5 harg5 arg6 harg6 (Scalar.muli (BitVec.ofNat 32 (i 0).val) 256#32)
        (arg2.view.readAt (Elt F) (Rect.unit (s := S1) ![0] S1.size inb_S1_S1_0).toLoadRect (harg2.unread x2) (Shape.Idx.first (numel1_S1.symm ▸ Nat.one_pos)))
        (harg1.unread x1) (harg3.unread x3) (harg4.unread x4) (harg5.unread x5) k0_t1_loop.trips := rfl

/-- A whole buffer to read the pieces back in; which one does not matter, as they fill it. -/
abbrev outView : View sig .tc .vmem S256x3072 .fp8e4m3 := (Memref.whole cc0_stg5_0 : Memref sig .tc .vmem S256x3072 .fp8e4m3).view

/-- What the body leaves in the output's buffer. -/
def out (c : Dev nD) (i : grid0.Coords) (arg1 : Memref sig .tc .smem S7 .i32) (harg1 : arg1.IsWhole) (arg2 : Memref sig .tc .smem S1 .f32) (harg2 : arg2.IsWhole)
    (arg3 : Memref sig .tc .vmem S256x3072 .bf16) (harg3 : arg3.IsWhole) (arg4 : Memref sig .tc .vmem S6x3072 .f32) (harg4 : arg4.IsWhole)
    (arg5 : Memref sig .tc .vmem S6x3072 .f32) (harg5 : arg5.IsWhole) (arg6 : Memref sig .tc .vmem S256x3072 .fp8e4m3) (harg6 : arg6.IsWhole)
    (x1 : Vec F S7 .i32) (x2 : Vec F S1 .f32) (x3 : Vec F S256x3072 .bf16) (x4 : Vec F S6x3072 .f32) (x5 : Vec F S6x3072 .f32) : Vec F S256x3072 .fp8e4m3 :=
  outView.read (Elt F) (outView.writes (Elt F) outView.junk (bodyRun c i arg1 harg1 arg2 harg2 arg3 harg3 arg4 harg4 arg5 harg5 arg6 harg6 x1 x2 x3 x4 x5).1)

variable (m : (ℓ : Loc nD τ sig) → Buf (Elt F) ℓ) (ρ : Dev nD → PrngReg)

abbrev ms0_0 (t : Fin cfg0.N) : Memref sig .tc .smem S7 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3072 .fp8e4m3 := win0_5.stage (cfg0.slots t 5)
abbrev hs0_5 (t : Fin cfg0.N) : (ms0_5 t).IsWhole := hstage0_5 ((cfg0.slots t 5).cast nbuf0_5)

/-- What the output's buffer holds after the body at point `t`. -/
def outAt (c : Dev nD) (t : Fin cfg0.N) : Vec F S256x3072 .fp8e4m3 :=
  out c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)

/-! ## The pipeline's proof data -/

/-- The arrays as the region finds them; after the body each input's buffer at its block and the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The body at point `t`. -/
abbrev bodyAt (t : Fin cfg0.N) : Prog (TpuEff nD τ sig (Elt F) Λ₀ .tc) PUnit :=
  cc0_ln_codes (grid0.coords t) (ms0_0 t) (hs0_0 t) (ms0_1 t) (hs0_1 t) (ms0_2 t) (hs0_2 t) (ms0_3 t) (hs0_3 t) (ms0_4 t) (hs0_4 t) (ms0_5 t) (hs0_5 t)

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outAt
  unfold out
  iintro ⟨HΦ, Ho, ⟨%d0, H0⟩, ⟨%d1, H1⟩, ⟨%d2, H2⟩, ⟨%d3, H3⟩, ⟨%d4, H4⟩, ⟨%d5, H5⟩⟩
  iapply ((bodyRun c _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (fun y => by rw [bodyRun_pieces]; exact pieces_cover c _ _ _ _ _ _ _ _ _ _ _ _ _ _ _ _ _ _ _ y)

theorem defs₀_row (t : Fin cfg0.N) :
    defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unfolding plain definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Codes.Own

end
-- ==== Proof.CodesIdealFrame.lean ====
/- The call that normalises and quantises the rows of `x`: what one trip of its loop stores, that the trips fill the block, and the run of the
   whole call from that. -/
module

public import proofs.«01_k».proof.Proof.Gen.CodesIdeal.Frame
public import proofs.«01_k».proof.Proof.Gen.CodesIdeal.Loops
public import Idealize.ShloMosaic.Lib.WritesUnit
public import Idealize.ShloMosaic.Lib.Claim

@[expose] public section

set_option maxRecDepth 16384

noncomputable section

namespace Cert.CodesIdeal.Own

open Cert.CodesIdeal Cert.CodesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## One trip -/

/-- Of the two conditions of a trip — the first and the last row lie in the same segment, or they do not — exactly one holds. -/
theorem conds (a b : BitVec 32) : Scalar.cmpi .ne (Scalar.extui (Scalar.cmpi .ne a b) : BitVec 32) 0#32 = 1#1
    ↔ ¬ Scalar.cmpi .ne (Scalar.extui (Scalar.cmpi .eq a b) : BitVec 32) 0#32 = 1#1 := by
  by_cases h : a = b
  · subst h
    simp [Scalar.cmpi, Scalar.extui, IntOp.cmpi]
  · have h1 : (a != b) = true := by simpa using h
    have h2 : (a == b) = false := by simpa using h
    simp [Scalar.cmpi, Scalar.extui, IntOp.cmpi, h1, h2]

section Trip
variable (c : Dev nD) (i : grid0.Coords) (arg1 : Memref sig .tc .smem S7 .i32) (harg1 : arg1.IsWhole) (arg2 : Memref sig .tc .smem S1 .f32) (harg2 : arg2.IsWhole)
  (arg3 : Memref sig .tc .vmem S256x3072 .bf16) (harg3 : arg3.IsWhole) (arg4 : Memref sig .tc .vmem S6x3072 .f32) (harg4 : arg4.IsWhole)
  (arg5 : Memref sig .tc .vmem S6x3072 .f32) (harg5 : arg5.IsWhole) (arg6 : Memref sig .tc .vmem S256x3072 .fp8e4m3) (harg6 : arg6.IsWhole)
  (v0 : BitVec 32) (v1 : Elt F .f32) (X1 : BufTy.Contents (Elt F) arg1.view.ty) (X3 : BufTy.Contents (Elt F) arg3.view.ty)
  (X4 : BufTy.Contents (Elt F) arg4.view.ty) (X5 : BufTy.Contents (Elt F) arg5.view.ty) (k : Fin k0_t1_loop.trips)

/-- The word at place `j` of the boundaries. -/
abbrev word (off : Fin 1 → ℕ) (inb : ∀ a, off a + S1.size a ≤ S7.size a) : BitVec 32 :=
  arg1.view.readAt (Elt F) (Rect.unit (s := S7) off S1.size inb).toLoadRect X1 (Shape.Idx.first (numel1_S1.symm ▸ Nat.one_pos))

abbrev w1 : BitVec 32 := word arg1 X1 ![1] inb_S7_S1_1
abbrev w2 : BitVec 32 := word arg1 X1 ![2] inb_S7_S1_2
abbrev w3 : BitVec 32 := word arg1 X1 ![3] inb_S7_S1_3
abbrev w4 : BitVec 32 := word arg1 X1 ![4] inb_S7_S1_4
abbrev w5 : BitVec 32 := word arg1 X1 ![5] inb_S7_S1_5

/-- A row of a modulation table. -/
abbrev tableRow (arg : Memref sig .tc .vmem S6x3072 .f32) (X : BufTy.Contents (Elt F) arg.view.ty) (off : Fin 2 → ℕ) (inb : ∀ a, off a + S1x3072.size a ≤ S6x3072.size a) :
    Vec F S1x3072 .f32 :=
  arg.view.readAt (Elt F) (Rect.unit (s := S6x3072) off S1x3072.size inb).toLoadRect X

/-- The trip's normalised rows. -/
abbrev normed : FVec F S32x3072 .f32 :=
  k0_pay3 (arg3.view.readAt (Elt F) (Rect.unit (s := S256x3072) (k0_off1 k) S32x3072.size (k0_off1_inb k)).toLoadRect X3)

/-- The trip's rows lie in one segment. -/
abbrev oneSegment : Prop :=
  k0_cond1 i k (w1 arg1 X1) (w2 arg1 X1) (w3 arg1 X1) (w4 arg1 X1) (w5 arg1 X1) (w1 arg1 X1) (w2 arg1 X1) (w3 arg1 X1) (w4 arg1 X1) (w5 arg1 X1) = 1#1

/-- The trip's rows lie in two segments. -/
abbrev twoSegments : Prop :=
  k0_cond2 i k (w1 arg1 X1) (w2 arg1 X1) (w3 arg1 X1) (w4 arg1 X1) (w5 arg1 X1) (w1 arg1 X1) (w2 arg1 X1) (w3 arg1 X1) (w4 arg1 X1) (w5 arg1 X1) = 1#1

theorem two_iff : twoSegments i arg1 X1 k ↔ ¬ oneSegment i arg1 X1 k := conds _ _

/-- What a trip stores whose rows lie in one segment. -/
theorem trip_one (h : oneSegment i arg1 X1 k) : ∃ inb,
    tripL_k0_t1 (F := F) Variants.none c none i arg1 harg1 arg2 harg2 arg3 harg3 arg4 harg4 arg5 harg5 arg6 harg6 v0 v1 X1 X3 X4 X5 k
      = [⟨Rect.unit (s := S256x3072) (k0_off3 k) S32x3072.size (k0_off3_inb k),
          k0_pay1 v1 (normed arg3 X3 k) (tableRow arg5 X5 (k0_off2 i k (w1 arg1 X1) (w2 arg1 X1) (w3 arg1 X1) (w4 arg1 X1) (w5 arg1 X1)) inb)
            (tableRow arg4 X4 (k0_off2 i k (w1 arg1 X1) (w2 arg1 X1) (w3 arg1 X1) (w4 arg1 X1) (w5 arg1 X1)) inb)⟩] := by
  have h2 : ¬ twoSegments i arg1 X1 k := fun h2 => (two_iff i arg1 X1 k).1 h2 h
  refine ⟨?_, ?_⟩
  case refine_2 =>
    unfold tripL_k0_t1
    rw [dif_pos h, dif_neg h2]
    unfold trip_k0_t1
    rfl

/-- What a trip stores whose rows lie in two segments. -/
theorem trip_two (h : ¬ oneSegment i arg1 X1 k) : ∃ inb4 inb5 inb6,
    tripL_k0_t1 (F := F) Variants.none c none i arg1 harg1 arg2 harg2 arg3 harg3 arg4 harg4 arg5 harg5 arg6 harg6 v0 v1 X1 X3 X4 X5 k
      = [⟨Rect.unit (s := S256x3072) (k0_off7 k) S32x3072.size (k0_off7_inb k),
          k0_pay2 v1 (normed arg3 X3 k) (Scalar.addi v0 (Scalar.muli (Scf.iv 0#32 1#32 k) 32#32))
            (word arg1 X1 (k0_off4 i k (w1 arg1 X1) (w2 arg1 X1) (w3 arg1 X1) (w4 arg1 X1) (w5 arg1 X1)) inb4)
            (tableRow arg5 X5 (k0_off5 i k (w1 arg1 X1) (w2 arg1 X1) (w3 arg1 X1) (w4 arg1 X1) (w5 arg1 X1)) inb5)
            (tableRow arg5 X5 (k0_off6 i k (w1 arg1 X1) (w2 arg1 X1) (w3 arg1 X1) (w4 arg1 X1) (w5 arg1 X1)) inb6)
            (tableRow arg4 X4 (k0_off5 i k (w1 arg1 X1) (w2 arg1 X1) (w3 arg1 X1) (w4 arg1 X1) (w5 arg1 X1)) inb5)
            (tableRow arg4 X4 (k0_off6 i k (w1 arg1 X1) (w2 arg1 X1) (w3 arg1 X1) (w4 arg1 X1) (w5 arg1 X1)) inb6)⟩] := by
  have h2 : twoSegments i arg1 X1 k := (two_iff i arg1 X1 k).2 h
  refine ⟨?_, ?_, ?_, ?_⟩
  case refine_4 =>
    unfold tripL_k0_t1
    rw [dif_neg h, dif_pos h2]
    unfold trip_k0_t1
    rfl

theorem off3_eq : ∀ k : Fin k0_t1_loop.trips, k0_off3 k = ![32 * (k : ℕ), 0] := by decide +kernel
theorem off7_eq : ∀ k : Fin k0_t1_loop.trips, k0_off7 k = ![32 * (k : ℕ), 0] := by decide +kernel
theorem trips_eq : k0_t1_loop.trips = 8 := by decide +kernel

/-- Either way a trip stores its 32 rows, once. -/
theorem trip_rows : ∃ off inb w, off = ![32 * (k : ℕ), 0] ∧
    tripL_k0_t1 (F := F) Variants.none c none i arg1 harg1 arg2 harg2 arg3 harg3 arg4 harg4 arg5 harg5 arg6 harg6 v0 v1 X1 X3 X4 X5 k
      = [⟨Rect.unit (s := S256x3072) off S32x3072.size inb, w⟩] := by
  by_cases h : oneSegment i arg1 X1 k
  · obtain ⟨_, e⟩ := trip_one c i arg1 harg1 arg2 harg2 arg3 harg3 arg4 harg4 arg5 harg5 arg6 harg6 v0 v1 X1 X3 X4 X5 k h
    exact ⟨_, _, _, off3_eq k, e⟩
  · obtain ⟨_, _, _, e⟩ := trip_two c i arg1 harg1 arg2 harg2 arg3 harg3 arg4 harg4 arg5 harg5 arg6 harg6 v0 v1 X1 X3 X4 X5 k h
    exact ⟨_, _, _, off7_eq k, e⟩

/-- The pieces of the trips before `n`. -/
abbrev pieces (n : ℕ) : List (View.Piece (Elt F) S256x3072 .fp8e4m3) :=
  pb_k0_t1 (F := F) Variants.none c none i arg1 harg1 arg2 harg2 arg3 harg3 arg4 harg4 arg5 harg5 arg6 harg6 v0 v1 X1 X3 X4 X5 n

/-- The pieces of a trip are among the pieces of the trips before any later one. -/
theorem mem_pieces (pc) (n : ℕ) (hn : n ≤ k0_t1_loop.trips) (hk : (k : ℕ) < n)
    (h : pc ∈ tripL_k0_t1 (F := F) Variants.none c none i arg1 harg1 arg2 harg2 arg3 harg3 arg4 harg4 arg5 harg5 arg6 harg6 v0 v1 X1 X3 X4 X5 k) :
    pc ∈ pieces c i arg1 harg1 arg2 harg2 arg3 harg3 arg4 harg4 arg5 harg5 arg6 harg6 v0 v1 X1 X3 X4 X5 n := by
  induction n with
  | zero => exact absurd hk (Nat.not_lt_zero _)
  | succ n ih =>
    have hs := pb_k0_t1_succ (F := F) Variants.none c none i arg1 harg1 arg2 harg2 arg3 harg3 arg4 harg4 arg5 harg5 arg6 harg6 v0 v1 X1 X3 X4 X5 ⟨n, hn⟩
    unfold pieces
    rw [hs]
    rcases Nat.lt_succ_iff_lt_or_eq.1 hk with hlt | heq
    · exact List.mem_append_right _ (ih (by omega) hlt)
    · refine List.mem_append_left _ ?_
      rw [show (⟨n, hn⟩ : Fin k0_t1_loop.trips) = k from Fin.ext heq.symm]
      exact h

/-- The trips together store every row of the block. -/
theorem pieces_cover (y : S256x3072.Idx) :
    ∃ pc ∈ pieces c i arg1 harg1 arg2 harg2 arg3 harg3 arg4 harg4 arg5 harg5 arg6 harg6 v0 v1 X1 X3 X4 X5 k0_t1_loop.trips, y ∈ pc.1.set := by
  have h0 : (y 0 : ℕ) < 256 := (y 0).isLt
  have h1 : (y 1 : ℕ) < 3072 := (y 1).isLt
  have hk : (y 0 : ℕ) / 32 < k0_t1_loop.trips := by rw [trips_eq]; omega
  obtain ⟨off, inb, w, e, ht⟩ := trip_rows c i arg1 harg1 arg2 harg2 arg3 harg3 arg4 harg4 arg5 harg5 arg6 harg6 v0 v1 X1 X3 X4 X5 ⟨(y 0 : ℕ) / 32, hk⟩
  refine ⟨_, mem_pieces c i arg1 harg1 arg2 harg2 arg3 harg3 arg4 harg4 arg5 harg5 arg6 harg6 v0 v1 X1 X3 X4 X5 ⟨(y 0 : ℕ) / 32, hk⟩ _ _ le_rfl hk
    (by rw [ht]; exact List.mem_singleton.2 rfl), ?_⟩
  subst e
  rw [Rect.mem_set_unit]
  intro a
  fin_cases a
  · show 32 * ((y 0 : ℕ) / 32) ≤ (y 0 : ℕ) ∧ (y 0 : ℕ) < 32 * ((y 0 : ℕ) / 32) + 32
    omega
  · show 0 ≤ (y 1 : ℕ) ∧ (y 1 : ℕ) < 0 + 3072
    omega
end Trip

/-! ## The body -/

-- the proof term of the run is large
set_option maxHeartbeats 1000000 in
/-- The body on whole buffers: the inputs' buffers stay as they were, and the output's buffer ends with the pieces of the loop. -/
noncomputable def bodyRun (c : Dev nD) (i : grid0.Coords) (arg1 : Memref sig .tc .smem S7 .i32) (harg1 : arg1.IsWhole) (arg2 : Memref sig .tc .smem S1 .f32) (harg2 : arg2.IsWhole)
    (arg3 : Memref sig .tc .vmem S256x3072 .bf16) (harg3 : arg3.IsWhole) (arg4 : Memref sig .tc .vmem S6x3072 .f32) (harg4 : arg4.IsWhole)
    (arg5 : Memref sig .tc .vmem S6x3072 .f32) (harg5 : arg5.IsWhole) (arg6 : Memref sig .tc .vmem S256x3072 .fp8e4m3) (harg6 : arg6.IsWhole)
    (x1 : Vec F S7 .i32) (x2 : Vec F S1 .f32) (x3 : Vec F S256x3072 .bf16) (x4 : Vec F S6x3072 .f32) (x5 : Vec F S6x3072 .f32) :
    { L6 : List (View.Piece (Elt F) S256x3072 .fp8e4m3) //
      ∀ (E : Set ℕ) (K : PUnit → sProp (MT nD τ sig Unit (Elt F) ℕ (UR sig nD τ) ℕ)),
        iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
              ∗ owns (c : Thread nD τ) arg5 fullShare x5 ∗ (∃ f, arg6.view.loc (c : Thread nD τ) ↦[arg6.view.set]{fullShare} arg6.view.writes (Elt F) f L6)) -∗ K ⟨⟩))
          ⊢ wp frame (wpE (defs₀ (F := F)) Variants.none c none) E (cc0_ln_codes i arg1 harg1 arg2 harg2 arg3 harg3 arg4 harg4 arg5 harg5 arg6 harg6) K } := by
  refine ⟨?_, fun E K => ?run⟩
  case run =>
    simp only [cc0_ln_codes_eq_skeleton]; unfold cc0_ln_codes_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

/-- The pieces that the body leaves are those of the loop's eight trips. -/
theorem bodyRun_pieces (c : Dev nD) (i : grid0.Coords) (arg1 : Memref sig .tc .smem S7 .i32) (harg1 : arg1.IsWhole) (arg2 : Memref sig .tc .smem S1 .f32) (harg2 : arg2.IsWhole)
    (arg3 : Memref sig .tc .vmem S256x3072 .bf16) (harg3 : arg3.IsWhole) (arg4 : Memref sig .tc .vmem S6x3072 .f32) (harg4 : arg4.IsWhole)
    (arg5 : Memref sig .tc .vmem S6x3072 .f32) (harg5 : arg5.IsWhole) (arg6 : Memref sig .tc .vmem S256x3072 .fp8e4m3) (harg6 : arg6.IsWhole)
    (x1 : Vec F S7 .i32) (x2 : Vec F S1 .f32) (x3 : Vec F S256x3072 .bf16) (x4 : Vec F S6x3072 .f32) (x5 : Vec F S6x3072 .f32) :
    (bodyRun c i arg1 harg1 arg2 harg2 arg3 harg3 arg4 harg4 arg5 harg5 arg6 harg6 x1 x2 x3 x4 x5).1
      = pieces c i arg1 harg1 arg2 harg2 arg3 harg3 arg4 harg4 arg5 harg5 arg6 harg6 (Scalar.muli (BitVec.ofNat 32 (i 0).val) 256#32)
        (arg2.view.readAt (Elt F) (Rect.unit (s := S1) ![0] S1.size inb_S1_S1_0).toLoadRect (harg2.unread x2) (Shape.Idx.first (numel1_S1.symm ▸ Nat.one_pos)))
        (harg1.unread x1) (harg3.unread x3) (harg4.unread x4) (harg5.unread x5) k0_t1_loop.trips := rfl

/-- A whole buffer to read the pieces back in; which one does not matter, as they fill it. -/
abbrev outView : View sig .tc .vmem S256x3072 .fp8e4m3 := (Memref.whole cc0_stg5_0 : Memref sig .tc .vmem S256x3072 .fp8e4m3).view

/-- What the body leaves in the output's buffer. -/
def out (c : Dev nD) (i : grid0.Coords) (arg1 : Memref sig .tc .smem S7 .i32) (harg1 : arg1.IsWhole) (arg2 : Memref sig .tc .smem S1 .f32) (harg2 : arg2.IsWhole)
    (arg3 : Memref sig .tc .vmem S256x3072 .bf16) (harg3 : arg3.IsWhole) (arg4 : Memref sig .tc .vmem S6x3072 .f32) (harg4 : arg4.IsWhole)
    (arg5 : Memref sig .tc .vmem S6x3072 .f32) (harg5 : arg5.IsWhole) (arg6 : Memref sig .tc .vmem S256x3072 .fp8e4m3) (harg6 : arg6.IsWhole)
    (x1 : Vec F S7 .i32) (x2 : Vec F S1 .f32) (x3 : Vec F S256x3072 .bf16) (x4 : Vec F S6x3072 .f32) (x5 : Vec F S6x3072 .f32) : Vec F S256x3072 .fp8e4m3 :=
  outView.read (Elt F) (outView.writes (Elt F) outView.junk (bodyRun c i arg1 harg1 arg2 harg2 arg3 harg3 arg4 harg4 arg5 harg5 arg6 harg6 x1 x2 x3 x4 x5).1)

variable (m : (ℓ : Loc nD τ sig) → Buf (Elt F) ℓ) (ρ : Dev nD → PrngReg)

abbrev ms0_0 (t : Fin cfg0.N) : Memref sig .tc .smem S7 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3072 .fp8e4m3 := win0_5.stage (cfg0.slots t 5)
abbrev hs0_5 (t : Fin cfg0.N) : (ms0_5 t).IsWhole := hstage0_5 ((cfg0.slots t 5).cast nbuf0_5)

/-- What the output's buffer holds after the body at point `t`. -/
def outAt (c : Dev nD) (t : Fin cfg0.N) : Vec F S256x3072 .fp8e4m3 :=
  out c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)

/-! ## The pipeline's proof data -/

/-- The arrays as the region finds them; after the body each input's buffer at its block and the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The body at point `t`. -/
abbrev bodyAt (t : Fin cfg0.N) : Prog (TpuEff nD τ sig (Elt F) Λ₀ .tc) PUnit :=
  cc0_ln_codes (grid0.coords t) (ms0_0 t) (hs0_0 t) (ms0_1 t) (hs0_1 t) (ms0_2 t) (hs0_2 t) (ms0_3 t) (hs0_3 t) (ms0_4 t) (hs0_4 t) (ms0_5 t) (hs0_5 t)

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outAt
  unfold out
  iintro ⟨HΦ, Ho, ⟨%d0, H0⟩, ⟨%d1, H1⟩, ⟨%d2, H2⟩, ⟨%d3, H3⟩, ⟨%d4, H4⟩, ⟨%d5, H5⟩⟩
  iapply ((bodyRun c _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (fun y => by rw [bodyRun_pieces]; exact pieces_cover c _ _ _ _ _ _ _ _ _ _ _ _ _ _ _ _ _ _ _ y)

theorem defs₀_row (t : Fin cfg0.N) :
    defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unfolding plain definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.CodesIdeal.Own

end
-- ==== Proof.SegRow.lean ====
/- The segment of a row: how many of the boundaries `seq[1] … seq[6]` are at most the row, at most 5; as a number and as the 32-bit words that
   a program computes. -/
module
public import Idealize.ShloMosaic.Lib.Pointwise
public import Idealize.ShloMosaic.Lib.Tactic
@[expose] public section
noncomputable section
namespace Cert.Mine
open Idealize.ShloMosaic

/-- The seven boundaries. -/
abbrev Seq := (⟨1, ![7]⟩ : Shape).Idx → BitVec 32

/-- 1 if boundary `k` is at most row `r`, read as a signed number, else 0. -/
def atMost (s : Seq) (k : Fin 7) (r : ℕ) : ℕ := if (s (ix1 k)).toInt ≤ (r : ℤ) then 1 else 0

theorem atMost_le (s : Seq) (k : Fin 7) (r : ℕ) : atMost s k r ≤ 1 := by unfold atMost; split <;> omega

/-- How many of boundaries 1 to 5 are at most row `r`. -/
def count5 (s : Seq) (r : ℕ) : ℕ := atMost s 1 r + atMost s 2 r + atMost s 3 r + atMost s 4 r + atMost s 5 r

theorem count5_le (s : Seq) (r : ℕ) : count5 s r ≤ 5 := by
  have h1 := atMost_le s 1 r
  have h2 := atMost_le s 2 r
  have h3 := atMost_le s 3 r
  have h4 := atMost_le s 4 r
  have h5 := atMost_le s 5 r
  unfold count5; omega

/-- The segment of row `r`. -/
def segRow (s : Seq) (r : ℕ) : Fin 6 := ⟨min (count5 s r + atMost s 6 r) 5, by omega⟩

/-- A precondition as facts about numbers: the boundaries lie in `[0, 7680]` and are at least `g` apart. -/
structure ApartBy (g : ℕ) (s : Seq) : Prop where
  lo : ∀ k : Fin 7, 0 ≤ (s (ix1 k)).toInt
  hi : ∀ k : Fin 7, (s (ix1 k)).toInt ≤ 7680
  gap : ∀ k : Fin 6, (s (ix1 k.castSucc)).toInt + g ≤ (s (ix1 k.succ)).toInt

/-- The boundaries are at least 256 apart. -/
abbrev Apart (s : Seq) : Prop := ApartBy 256 s

/-- The same over plain numbers: `s1 … s6` the boundaries, `b ≤ q ≤ e` the block's first row, a row and the last row, `hi` the count at `e`. -/
theorem block_numbers (s1 s2 s3 s4 s5 s6 sH b q e : ℤ) (hi g : ℕ) (g1 : s1 + g ≤ s2) (g2 : s2 + g ≤ s3) (g3 : s3 + g ≤ s4)
    (g4 : s4 + g ≤ s5) (g5 : s5 + g ≤ s6) (bq : b ≤ q) (qe : q ≤ e) (eb : e < b + g) (e6 : e < 7680)
    (hhi : hi = (if s1 ≤ e then 1 else 0) + (if s2 ≤ e then 1 else 0) + (if s3 ≤ e then 1 else 0) + (if s4 ≤ e then 1 else 0) + (if s5 ≤ e then 1 else 0))
    (k1 : hi = 1 → sH = s1) (k2 : hi = 2 → sH = s2) (k3 : hi = 3 → sH = s3) (k4 : hi = 4 → sH = s4) (k5 : hi = 5 → sH = s5) :
    min ((if s1 ≤ q then 1 else 0) + (if s2 ≤ q then 1 else 0) + (if s3 ≤ q then 1 else 0) + (if s4 ≤ q then 1 else 0) + (if s5 ≤ q then 1 else 0) + (if s6 ≤ q then 1 else 0)) 5
      = if sH ≤ q ∧ (if s1 ≤ b then 1 else 0) + (if s2 ≤ b then 1 else 0) + (if s3 ≤ b then 1 else 0) + (if s4 ≤ b then 1 else 0) + (if s5 ≤ b then 1 else 0) < hi
        then hi else (if s1 ≤ b then 1 else 0) + (if s2 ≤ b then 1 else 0) + (if s3 ≤ b then 1 else 0) + (if s4 ≤ b then 1 else 0) + (if s5 ≤ b then 1 else 0) := by
  have hb : b < s1 ∨ (s1 ≤ b ∧ b < s2) ∨ (s2 ≤ b ∧ b < s3) ∨ (s3 ≤ b ∧ b < s4) ∨ (s4 ≤ b ∧ b < s5) ∨ s5 ≤ b := by omega
  rcases hb with h | h | h | h | h | h
  · rcases lt_or_ge e s1 with he | he <;> rcases lt_or_ge q s1 with hq | hq <;>
      simp (disch := omega) only [if_pos, if_neg] at hhi ⊢ <;> subst hhi <;> simp at k1 k2 k3 k4 k5 ⊢ <;> omega
  · rcases lt_or_ge e s2 with he | he <;> rcases lt_or_ge q s2 with hq | hq <;>
      simp (disch := omega) only [if_pos, if_neg] at hhi ⊢ <;> subst hhi <;> simp at k1 k2 k3 k4 k5 ⊢ <;> omega
  · rcases lt_or_ge e s3 with he | he <;> rcases lt_or_ge q s3 with hq | hq <;>
      simp (disch := omega) only [if_pos, if_neg] at hhi ⊢ <;> subst hhi <;> simp at k1 k2 k3 k4 k5 ⊢ <;> omega
  · rcases lt_or_ge e s4 with he | he <;> rcases lt_or_ge q s4 with hq | hq <;>
      simp (disch := omega) only [if_pos, if_neg] at hhi ⊢ <;> subst hhi <;> simp at k1 k2 k3 k4 k5 ⊢ <;> omega
  · rcases lt_or_ge e s5 with he | he <;> rcases lt_or_ge q s5 with hq | hq <;>
      simp (disch := omega) only [if_pos, if_neg] at hhi ⊢ <;> subst hhi <;> simp at k1 k2 k3 k4 k5 ⊢ <;> omega
  · simp (disch := omega) only [if_pos, if_neg] at hhi ⊢
    subst hhi
    split_ifs <;> omega

/-- For boundaries at least `g` apart: within a block of `n ≤ g` rows from `b`, the segment is the one of the block's last row, from that
    segment's first row on, if it is not the one of the block's first row, and the one of the first row before. -/
theorem segRow_block {g : ℕ} (s : Seq) (h : ApartBy g s) (b n r : ℕ) (hr : r < n) (hn : n ≤ g) (hb : b + n ≤ 7680)
    (H : Fin 7) (hH : (H : ℕ) = count5 s (b + n - 1)) :
    (segRow s (b + r) : ℕ) = if (s (ix1 H)).toInt ≤ ((b + r : ℕ) : ℤ) ∧ count5 s b < count5 s (b + n - 1) then count5 s (b + n - 1) else count5 s b := by
  have key : ∀ k : Fin 7, count5 s (b + n - 1) = k → (s (ix1 H)).toInt = (s (ix1 k)).toInt := fun k e => by
    rw [show H = k from Fin.ext (hH.trans e)]
  exact block_numbers _ _ _ _ _ _ _ (b : ℤ) ((b + r : ℕ) : ℤ) ((b + n - 1 : ℕ) : ℤ) (count5 s (b + n - 1)) g (h.gap 1) (h.gap 2) (h.gap 3) (h.gap 4) (h.gap 5)
    (by omega) (by omega) (by omega) (by omega) rfl (key 1) (key 2) (key 3) (key 4) (key 5)

/-- A signed comparison of a row number with a boundary, widened: the number `atMost`. -/
theorem sge_word (s : Seq) (k : Fin 7) (w : BitVec 32) (r : ℕ) (hw : w.toInt = r) :
    (IntOp.cmpi .sge w (s (ix1 k))).setWidth 32 = BitVec.ofNat 32 (atMost s k r) := by
  unfold IntOp.cmpi atMost
  simp only [BitVec.sle, hw]
  split_ifs with h <;> simp [h]

/-- A sum of six words that hold small numbers, as a fold. -/
theorem fold6 (f : Fin 6 → BitVec 32) (n : Fin 6 → ℕ) (h : ∀ k, f k = BitVec.ofNat 32 (n k)) :
    Finset.fold IntOp.addi (0#32) f Finset.univ = BitVec.ofNat 32 (n 0 + n 1 + n 2 + n 3 + n 4 + n 5) := by
  rw [show f = fun k => BitVec.ofNat 32 (n k) from funext h]
  have hu : (Finset.univ : Finset (Fin 6)) = {0, 1, 2, 3, 4, 5} := by decide
  rw [hu]
  simp [IntOp.addi, BitVec.ofNat_add]
  ac_rfl

/-- A count of at most 6, clamped at 5 and passed through the wrap of a negative index: the word of the clamped count. -/
theorem clamp_word (k : ℕ) (hk : k ≤ 6) :
    Scalar.select (IntOp.cmpi .slt (IntOp.minsi (BitVec.ofNat 32 k) 5#32) 0#32) (IntOp.addi (IntOp.minsi (BitVec.ofNat 32 k) 5#32) 6#32)
      (IntOp.minsi (BitVec.ofNat 32 k) 5#32) = BitVec.ofNat 32 (min k 5) := by
  interval_cases k <;> decide

/-- The signed reading of a small number's word. -/
theorem toInt_ofNat_small (r : ℕ) (h : r < 2 ^ 31) : (BitVec.ofNat 32 r).toInt = r := by
  rw [BitVec.toInt_ofNat']
  simp only [Int.bmod_def]
  omega

/-- The row of the modulation table as the word that the reference computes. -/
theorem segRow_word (s : Seq) (r : ℕ) (hr : r < 2 ^ 31) (f : Fin 6 → BitVec 32)
    (hf : ∀ k : Fin 6, f k = (IntOp.cmpi .sge (BitVec.ofNat 32 r) (s (ix1 k.succ))).setWidth 32) :
    Scalar.select (IntOp.cmpi .slt (IntOp.minsi (Finset.fold IntOp.addi (0#32) f Finset.univ) 5#32) 0#32)
      (IntOp.addi (IntOp.minsi (Finset.fold IntOp.addi (0#32) f Finset.univ) 5#32) 6#32)
      (IntOp.minsi (Finset.fold IntOp.addi (0#32) f Finset.univ) 5#32) = BitVec.ofNat 32 (segRow s r) := by
  rw [fold6 f (fun k => atMost s k.succ r) fun k => by rw [hf, sge_word s _ _ r (toInt_ofNat_small r hr)]]
  have h6 := atMost_le s 6 r
  have h5 := count5_le s r
  exact clamp_word (count5 s r + atMost s 6 r) (by omega)

/-- The five comparisons of a row's word with the boundaries 1 to 5, added up: the word of the count. -/
theorem count_word (s : Seq) (w : BitVec 32) (r : ℕ) (hw : w.toInt = r) (w1 w2 w3 w4 w5 : BitVec 32)
    (h1 : w1 = s (ix1 1)) (h2 : w2 = s (ix1 2)) (h3 : w3 = s (ix1 3)) (h4 : w4 = s (ix1 4)) (h5 : w5 = s (ix1 5)) :
    Scalar.addi (Scalar.addi (Scalar.addi (Scalar.addi (Scalar.addi (0#32) (Scalar.extui (Scalar.cmpi .sge w w1)))
      (Scalar.extui (Scalar.cmpi .sge w w2))) (Scalar.extui (Scalar.cmpi .sge w w3)))
      (Scalar.extui (Scalar.cmpi .sge w w4))) (Scalar.extui (Scalar.cmpi .sge w w5)) = BitVec.ofNat 32 (count5 s r) := by
  subst h1 h2 h3 h4 h5
  show (0#32) + (IntOp.cmpi .sge w (s (ix1 1))).setWidth 32 + (IntOp.cmpi .sge w (s (ix1 2))).setWidth 32 + (IntOp.cmpi .sge w (s (ix1 3))).setWidth 32
    + (IntOp.cmpi .sge w (s (ix1 4))).setWidth 32 + (IntOp.cmpi .sge w (s (ix1 5))).setWidth 32 = _
  rw [sge_word s 1 w r hw, sge_word s 2 w r hw, sge_word s 3 w r hw, sge_word s 4 w r hw, sge_word s 5 w r hw]
  simp [count5, BitVec.ofNat_add]

/-- A row's modulation by the two candidates that a block of rows needs: the one of its last row from the last row's segment on, if the
    block holds two segments, the one of its first row else. It is the modulation of the row's own segment. -/
theorem gate_select {α : Type} {g : ℕ} (s : Seq) (h : ApartBy g s) (b n r : ℕ) (hr : r < n) (hn : n ≤ g) (hb : b + n ≤ 7680)
    (H : Fin 7) (hi lo : Fin 6) (hH : (H : ℕ) = count5 s (b + n - 1)) (hhi : (hi : ℕ) = count5 s (b + n - 1)) (hlo : (lo : ℕ) = count5 s b)
    (w : BitVec 32) (hw : w.toInt = ((b + r : ℕ) : ℤ)) (f : Fin 6 → α) :
    Scalar.select (IntOp.andi (IntOp.cmpi .sge w (s (ix1 H))) (IntOp.cmpi .sgt (BitVec.ofNat 32 (count5 s (b + n - 1))) (BitVec.ofNat 32 (count5 s b)))) (f hi) (f lo)
      = f (segRow s (b + r)) := by
  have e := segRow_block s h b n r hr hn hb H hH
  have hc : IntOp.andi (IntOp.cmpi .sge w (s (ix1 H))) (IntOp.cmpi .sgt (BitVec.ofNat 32 (count5 s (b + n - 1))) (BitVec.ofNat 32 (count5 s b)))
      = BitVec.ofBool (decide ((s (ix1 H)).toInt ≤ ((b + r : ℕ) : ℤ) ∧ count5 s b < count5 s (b + n - 1))) := by
    have h1 := count5_le s b
    have h2 := count5_le s (b + n - 1)
    unfold IntOp.cmpi IntOp.andi
    simp only [BitVec.sle, BitVec.slt, hw, toInt_ofNat_small _ (show count5 s b < 2 ^ 31 by omega), toInt_ofNat_small _ (show count5 s (b + n - 1) < 2 ^ 31 by omega)]
    simp [Nat.cast_lt]
  rw [hc]
  split_ifs at e with hx
  · rw [decide_eq_true hx]
    exact congrArg f (Fin.ext (hhi.trans e.symm))
  · rw [decide_eq_false hx]
    exact congrArg f (Fin.ext (hlo.trans e.symm))
end Cert.Mine
end
-- ==== Proof.Linear1Math.lean ====
/- The first linear layer as functions of its arguments: the linear layer `x_codes · w1 · s_x · w1_scale + b1`; of its first 3072 columns (the
   queries) and the next 3072 (the keys), cut in 24 heads of 128 lanes, each head divided by its root mean square, scaled by a weight per lane
   and rotated pair by pair of lanes; of its last 12288 columns the tanh form of GELU, divided by `s_m` and clipped to ±448. -/
module
public import Idealize.ShloMosaic.Lib.Pointwise
@[expose] public section
noncomputable section
namespace Cert.Mine
open Idealize.ShloMosaic

/-- An array of `a × b` numbers. -/
abbrev Mat (a b : ℕ) := (⟨2, ![a, b]⟩ : Shape).Idx → EReal
/-- A vector of `a` numbers. -/
abbrev Row (a : ℕ) := (⟨1, ![a]⟩ : Shape).Idx → EReal
/-- One number. -/
abbrev Num := (⟨0, ![]⟩ : Shape).Idx → EReal

/-- Element `(i, j)` of the linear layer. -/
def linAt (x : Mat 7680 3072) (w : Mat 3072 21504) (ws b : Row 21504) (s : Num) (i : Fin 7680) (j : Fin 21504) : EReal :=
  (∑ k : Fin 3072, x (ix2 i k) * w (ix2 k j)) * s ix0 * ws (ix1 j) + b (ix1 j)

/-- Lane `d` of a head `L` over its root mean square, times the weight of the lane. -/
def normAt (L : Fin 128 → EReal) (g : Fin 128 → EReal) (d : Fin 128) : EReal :=
  Ideal.div (L d) (Ideal.sqrt (Ideal.div (∑ k, L k * L k) (Ideal.ofBits .f32 0x43000000#32) + Ideal.ofBits .f32 0x358637BD#32)) * g d

/-- Lane `d` of a head rotated: the pair of lanes `(2 i, 2 i + 1)` turned by the angle whose cosine and sine are `c i` and `s i`. -/
def rotAt (N : Fin 128 → EReal) (c s : Fin 64 → EReal) (d : Fin 128) : EReal :=
  if d.val % 2 = 0 then c ⟨d / 2, by omega⟩ * N ⟨2 * (d / 2), by omega⟩ - s ⟨d / 2, by omega⟩ * N ⟨2 * (d / 2) + 1, by omega⟩
  else s ⟨d / 2, by omega⟩ * N ⟨2 * (d / 2), by omega⟩ + c ⟨d / 2, by omega⟩ * N ⟨2 * (d / 2) + 1, by omega⟩

/-- Lane `d` of head `h` of row `i`, of the columns from `o` on. -/
def headAt (o : ℕ) (ho : o ≤ 3072) (x : Mat 7680 3072) (w : Mat 3072 21504) (ws b : Row 21504) (s : Num) (g : Row 128) (cos sin : Mat 7680 64)
    (i : Fin 7680) (h : Fin 24) (d : Fin 128) : EReal :=
  rotAt (normAt (fun k => linAt x w ws b s i ⟨o + 128 * h + k, by omega⟩) (fun k => g (ix1 k)))
    (fun k => cos (ix2 i k)) (fun k => sin (ix2 i k)) d

/-- The rotated heads, of the columns from `o` on. -/
def heads (o : ℕ) (ho : o ≤ 3072) (x : Mat 7680 3072) (w : Mat 3072 21504) (ws b : Row 21504) (s : Num) (g : Row 128) (cos sin : Mat 7680 64) :
    (⟨3, ![7680, 24, 128]⟩ : Shape).Idx → EReal :=
  fun i => headAt o ho x w ws b s g cos sin (i 0) (i 1) (i 2)
theorem heads_apply (o : ℕ) (ho : o ≤ 3072) (x w ws b s g cos sin) (i : Fin 7680) (h : Fin 24) (d : Fin 128) :
    heads o ho x w ws b s g cos sin (ix3 i h d) = headAt o ho x w ws b s g cos sin i h d := rfl

/-- The tanh form of GELU, divided by `s` and clipped. -/
def geluQ (s h : EReal) : EReal :=
  min (Ideal.ofBits .f32 0x43E00000#32) (max (Ideal.ofBits .f32 0xC3E00000#32)
    (Ideal.div (Ideal.ofBits .f32 0x3F000000#32 * h * (1 + Ideal.tanh (Ideal.ofBits .f32 0x3F4C422A#32 * (h + Ideal.ofBits .f32 0x3D372713#32 * (h * h * h))))) s))

/-- The feed-forward branch. -/
def mlp (x : Mat 7680 3072) (w : Mat 3072 21504) (ws b : Row 21504) (s sm : Num) : Mat 7680 12288 :=
  fun i => geluQ (sm ix0) (linAt x w ws b s (i 0) ⟨9216 + (i 1).val, by have := (i 1).isLt; change _ < 12288 at this; omega⟩)
theorem mlp_apply (x w ws b s sm) (i : Fin 7680) (j : Fin 12288) :
    mlp x w ws b s sm (ix2 i j) = geluQ (sm ix0) (linAt x w ws b s i ⟨9216 + j, by omega⟩) := rfl
end Cert.Mine
end
-- ==== Proof.CodesMath.lean ====
/- The quantised, modulated rows as one function of the arguments: each row of `x` less its mean, over the root of its mean square and an epsilon,
   times `1 + scale`, plus `shift` — the rows of both tables taken by the row's segment —, divided by `s_x` and clipped to ±448. -/
module
public import proofs.«01_k».proof.Proof.SegRow
public import proofs.«01_k».proof.Proof.Linear1Math
@[expose] public section
noncomputable section
namespace Cert.Mine
open Idealize.ShloMosaic

/-- The pattern of 3072 denotes the real number 3072. -/
theorem ofBits_3072 : Ideal.ofBits .f32 0x45400000#32 = ((3072 : ℝ) : EReal) := by
  simp [Ideal.ofBits, Ideal.ieee, -EReal.coe_mul]; norm_num

/-- The mean of a row. -/
def mean (v : Fin 3072 → EReal) : EReal := Ideal.div (∑ k, v k) (Ideal.ofBits .f32 0x45400000#32)
theorem mean_mul (v : Fin 3072 → EReal) : (∑ k, v k) * ((1 / 3072 : ℝ) : EReal) = mean v := by
  unfold mean
  rw [ofBits_3072, Ideal.div_coe (by norm_num)]

/-- Entry `d` of a row less its mean. -/
def centred (v : Fin 3072 → EReal) (d : Fin 3072) : EReal := v d - mean v

/-- Entry `d` of a normalised row. -/
def rowNorm (v : Fin 3072 → EReal) (d : Fin 3072) : EReal :=
  Ideal.div (centred v d) (Ideal.sqrt (mean (fun k => centred v k * centred v k) + Ideal.ofBits .f32 0x358637BD#32))

/-- A normalised entry `n` times `1 + a`, plus `b`, divided by `s` and clipped. -/
def quantised (n a b s : EReal) : EReal :=
  min (Ideal.ofBits .f32 0x43E00000#32) (max (Ideal.ofBits .f32 0xC3E00000#32) (Ideal.div (n * (1 + a) + b) s))

/-- The codes. -/
def codes (x : Mat 7680 3072) (shift scale : Mat 6 3072) (q : Seq) (s : Num) : Mat 7680 3072 :=
  fun i => quantised (rowNorm (fun k => x (ix2 (i 0) k)) (i 1)) (scale (ix2 (segRow q (i 0)) (i 1))) (shift (ix2 (segRow q (i 0)) (i 1))) (s ix0)
theorem codes_apply (x shift scale) (q : Seq) (s) (i : Fin 7680) (j : Fin 3072) :
    codes x shift scale q s (ix2 i j)
      = quantised (rowNorm (fun k => x (ix2 i k)) j) (scale (ix2 (segRow q i) j)) (shift (ix2 (segRow q i) j)) (s ix0) := rfl
end Cert.Mine
end
-- ==== Proof.CodesKernel.lean ====
/- What the kernel that normalises and quantises the rows of `x` computes: the array it leaves is `Cert.Mine.codes` of the arguments. -/
module
public import proofs.«01_k».proof.Proof.CodesIdealFrame
public import Idealize.ShloMosaic.Lib.Pipeline.ValueKit
public import Idealize.ShloMosaic.Lib.Pipeline.ReadBack
public import Idealize.ShloMosaic.Lib.Pointwise
public import Idealize.ShloMosaic.Lib.Tactic
public import proofs.«01_k».proof.Proof.CodesMath
@[expose] public section
set_option maxRecDepth 16384
noncomputable section
namespace Cert.CodesIdeal.Mine
open Cert.CodesIdeal Cert.CodesIdeal.Gen Cert.CodesIdeal.Own Cert.Mine Idealize.ShloMosaic Idealize.ShloMosaic.TcCoe Idealize.SL.Sem
open Idealize.ShloMosaic.Pipeline (Dat)

/-! ## The payloads, entry by entry -/

theorem pay1_at (v1 : EReal) (v23 : FVec Ideal S32x3072 .f32) (v73 v79 : FVec Ideal S1x3072 .f32) (r : Fin 32) (j : Fin 3072) :
    k0_pay1 (F := Ideal) v1 v23 v73 v79 (ix2 r j) = quantised (v23 (ix2 r j)) (v73 (ix2 0 j)) (v79 (ix2 0 j)) v1 := by
  pointwise [k0_pay1]
  simp only [quantised]
theorem pay2_at (v1 : EReal) (v23 : FVec Ideal S32x3072 .f32) (v24 v76 : BitVec 32) (v80 v82 v91 v93 : FVec Ideal S1x3072 .f32) (r : Fin 32) (j : Fin 3072) :
    k0_pay2 (F := Ideal) v1 v23 v24 v76 v80 v82 v91 v93 (ix2 r j)
      = quantised (v23 (ix2 r j)) (Scalar.select (IntOp.cmpi .slt (IntOp.addi v24 (BitVec.ofNat 32 r)) v76) (v80 (ix2 0 j)) (v82 (ix2 0 j)))
        (Scalar.select (IntOp.cmpi .slt (IntOp.addi v24 (BitVec.ofNat 32 r)) v76) (v91 (ix2 0 j)) (v93 (ix2 0 j))) v1 := by
  pointwise [k0_pay2]
  simp only [quantised]
/-- The named constant is the reciprocal of the number of columns. -/
theorem inv_d : Named.named (F := Ideal) Cert.CodesIdeal.κ "inv_d" (φ := .f32) 0x39AAAAAB#32 = ((1 / 3072 : ℝ) : EReal) :=
  IdealRules.named_const.ideal_named_scalar _ _ _ _ rfl
theorem pay3_at (v6 : FVec Ideal S32x3072 .bf16) (r : Fin 32) (j : Fin 3072) :
    k0_pay3 (F := Ideal) v6 (ix2 r j) = rowNorm (fun d => v6 (ix2 r d)) j := by
  pointwise [k0_pay3]
  simp only [inv_d, mean_mul, rowNorm, centred]

/-! ## Row numbers and the segments they lie in -/

theorem iv_eq : ∀ k : Fin k0_t1_loop.trips, Scf.iv 0#32 1#32 (k : ℕ) = BitVec.ofNat 32 (k : ℕ) := by decide +kernel
/-- The number of the first row of a trip, among all rows. -/
abbrev first (i : grid0.Coords) (k : Fin k0_t1_loop.trips) : ℕ := 256 * (i 0 : ℕ) + 32 * (k : ℕ)
theorem first_lt (i : grid0.Coords) (k : Fin k0_t1_loop.trips) : first i k + 32 ≤ 7680 := by
  have h : (i 0 : ℕ) < 30 := (i 0).isLt
  have h' : (k : ℕ) < 8 := trips_eq ▸ k.isLt
  unfold first; omega
/-- The word of that number. -/
abbrev firstWord (i : grid0.Coords) (k : Fin k0_t1_loop.trips) : BitVec 32 :=
  Scalar.addi (Scalar.muli (BitVec.ofNat 32 (i 0).val) 256#32) (Scalar.muli (Scf.iv 0#32 1#32 (k : ℕ)) 32#32)
theorem firstWord_eq (i : grid0.Coords) (k : Fin k0_t1_loop.trips) : firstWord i k = BitVec.ofNat 32 (first i k) := by
  unfold firstWord first
  rw [iv_eq]
  show BitVec.ofNat 32 (i 0).val * BitVec.ofNat 32 256 + BitVec.ofNat 32 (k : ℕ) * BitVec.ofNat 32 32 = _
  rw [← BitVec.ofNat_mul, ← BitVec.ofNat_mul, ← BitVec.ofNat_add, Nat.mul_comm, Nat.mul_comm (k : ℕ)]
theorem first_word (i : grid0.Coords) (k : Fin k0_t1_loop.trips) : (firstWord i k).toInt = (first i k : ℤ) := by
  have := first_lt i k
  rw [firstWord_eq, toInt_ofNat_small _ (by omega)]
theorem row_word (i : grid0.Coords) (k : Fin k0_t1_loop.trips) (r : Fin 32) :
    (IntOp.addi (firstWord i k) (BitVec.ofNat 32 r)).toInt = ((first i k + r : ℕ) : ℤ) := by
  have := first_lt i k
  rw [firstWord_eq]
  show (BitVec.ofNat 32 (first i k) + BitVec.ofNat 32 r).toInt = _
  rw [← BitVec.ofNat_add, toInt_ofNat_small _ (by omega)]
theorem last_word (i : grid0.Coords) (k : Fin k0_t1_loop.trips) : (Scalar.addi (firstWord i k) 31#32).toInt = ((first i k + 32 - 1 : ℕ) : ℤ) := by
  rw [show first i k + 32 - 1 = first i k + 31 by omega]
  exact row_word i k 31
theorem toNat_count (s : Seq) (r : ℕ) : (BitVec.ofNat 32 (count5 s r)).toNat = count5 s r := by
  have := count5_le s r
  simp only [BitVec.toNat_ofNat]
  omega
theorem count5_mono (s : Seq) (b e : ℕ) (h : b ≤ e) : count5 s b ≤ count5 s e := by
  have a : ∀ k, atMost s k b ≤ atMost s k e := fun k => by unfold atMost; split_ifs <;> omega
  have a1 := a 1; have a2 := a 2; have a3 := a 3; have a4 := a 4; have a5 := a 5
  unfold count5; omega

section Offsets
variable (i : grid0.Coords) (k : Fin k0_t1_loop.trips) (s : Seq) (w1 w2 w3 w4 w5 : BitVec 32)
  (h1 : w1 = s (ix1 1)) (h2 : w2 = s (ix1 2)) (h3 : w3 = s (ix1 3)) (h4 : w4 = s (ix1 4)) (h5 : w5 = s (ix1 5))
include h1 h2 h3 h4 h5
theorem off2 : k0_off2 i k w1 w2 w3 w4 w5 = ![count5 s (first i k), 0] := by
  unfold k0_off2
  have e := count_word s _ _ (first_word i k) w1 w2 w3 w4 w5 h1 h2 h3 h4 h5
  exact congrArg (fun w : BitVec 32 => ![w.toNat, 0]) e |>.trans (by rw [toNat_count])
theorem off5 : k0_off5 i k w1 w2 w3 w4 w5 = ![count5 s (first i k), 0] := by
  unfold k0_off5
  have e := count_word s _ _ (first_word i k) w1 w2 w3 w4 w5 h1 h2 h3 h4 h5
  exact congrArg (fun w : BitVec 32 => ![w.toNat, 0]) e |>.trans (by rw [toNat_count])
theorem off6 : k0_off6 i k w1 w2 w3 w4 w5 = ![count5 s (first i k + 32 - 1), 0] := by
  unfold k0_off6
  have e := count_word s _ _ (last_word i k) w1 w2 w3 w4 w5 h1 h2 h3 h4 h5
  exact congrArg (fun w : BitVec 32 => ![w.toNat, 0]) e |>.trans (by rw [toNat_count])
theorem off4 : k0_off4 i k w1 w2 w3 w4 w5 = ![count5 s (first i k + 32 - 1)] := by
  unfold k0_off4
  have e := count_word s _ _ (last_word i k) w1 w2 w3 w4 w5 h1 h2 h3 h4 h5
  exact congrArg (fun w : BitVec 32 => ![w.toNat]) e |>.trans (by rw [toNat_count])
/-- The trip's condition compares the segments of its first and last rows. -/
theorem cond_iff : k0_cond1 i k w1 w2 w3 w4 w5 w1 w2 w3 w4 w5 = 1#1 ↔ count5 s (first i k) = count5 s (first i k + 32 - 1) := by
  have e0 := count_word s _ _ (first_word i k) w1 w2 w3 w4 w5 h1 h2 h3 h4 h5
  have e1 := count_word s _ _ (last_word i k) w1 w2 w3 w4 w5 h1 h2 h3 h4 h5
  have key : ∀ a b : BitVec 32, Scalar.cmpi .ne (Scalar.extui (Scalar.cmpi .eq a b) : BitVec 32) 0#32 = 1#1 ↔ a = b := fun a b => by
    by_cases h : a = b
    · subst h
      simp [Scalar.cmpi, Scalar.extui, IntOp.cmpi]
    · have h2 : (a == b) = false := by simpa using h
      simp [Scalar.cmpi, Scalar.extui, IntOp.cmpi, h2, h]
  refine Iff.trans (b := BitVec.ofNat 32 (count5 s (first i k)) = BitVec.ofNat 32 (count5 s (first i k + 32 - 1))) ?_ ?_
  · rw [← e0, ← e1]
    exact key _ _
  · refine ⟨fun h => ?_, fun h => by rw [h]⟩
    have := congrArg BitVec.toNat h
    rwa [toNat_count, toNat_count] at this
end Offsets

theorem ld_word (s : Seq) (off : Fin 1 → ℕ) (inb) (h) (k : Fin 7) (e : off = ![(k : ℕ)]) :
    View.ld (Val := Elt Ideal) (e' := .i32) s (Rect.unit (s := S7) off ![1] inb) (Shape.Idx.first h) = s (ix1 k) := by
  subst e
  exact congrArg s (funext fun a => Fin.ext (by fin_cases a; simp [Shape.Idx.first, ix1]))
theorem ld_row (X : S6x3072.Idx → EReal) (off : Fin 2 → ℕ) (inb) (k : Fin 6) (e : off = ![(k : ℕ), 0]) (j : Fin 3072) :
    View.ld (Val := Elt Ideal) (e' := .f32) X (Rect.unit (s := S6x3072) off ![1, 3072] inb) (ix2 (0 : Fin 1) j) = X (ix2 k j) := by
  subst e
  pointwise
theorem off1_eq : ∀ k : Fin k0_t1_loop.trips, k0_off1 k = ![32 * (k : ℕ), 0] := by decide +kernel
theorem local_lt (k : Fin k0_t1_loop.trips) (r : Fin 32) : 32 * (k : ℕ) + r < 256 := by
  have h' : (k : ℕ) < 8 := trips_eq ▸ k.isLt
  omega
theorem ld_x (X : S256x3072.Idx → EReal) (k : Fin k0_t1_loop.trips) (off : Fin 2 → ℕ) (inb) (e : off = ![32 * (k : ℕ), 0]) (r : Fin 32) (j : Fin 3072) :
    View.ld (Val := Elt Ideal) (e' := .bf16) X (Rect.unit (s := S256x3072) off ![32, 3072] inb) (ix2 r j) = X (ix2 ⟨32 * (k : ℕ) + r, local_lt k r⟩ j) := by
  subst e
  refine View.ld_unit_apply_of _ _ _ _ _ _ fun a => ?_
  fin_cases a <;> simp [ix2]

/-- A trip over one segment: the segment of its first row is that of every row. -/
theorem seg_one (s : Seq) (h : ApartBy 32 s) (b : ℕ) (r : Fin 32) (hb : b + 32 ≤ 7680) (e : count5 s b = count5 s (b + 32 - 1)) :
    (segRow s (b + r) : ℕ) = count5 s b := by
  have h2 := count5_le s (b + 32 - 1)
  rw [segRow_block s h b 32 r r.isLt le_rfl hb ⟨count5 s (b + 32 - 1), by omega⟩ rfl, if_neg (by omega)]

/-- A trip over two segments: the segment of a row is that of the first row up to the first row of the second segment. -/
theorem seg_two {α : Type} (s : Seq) (h : ApartBy 32 s) (b : ℕ) (r : Fin 32) (hb : b + 32 ≤ 7680) (ne : ¬ count5 s b = count5 s (b + 32 - 1))
    (H : Fin 7) (hi lo : Fin 6) (hH : (H : ℕ) = count5 s (b + 32 - 1)) (hhi : (hi : ℕ) = count5 s (b + 32 - 1)) (hlo : (lo : ℕ) = count5 s b)
    (w : BitVec 32) (hw : w.toInt = ((b + r : ℕ) : ℤ)) (f : Fin 6 → α) :
    Scalar.select (IntOp.cmpi .slt w (s (ix1 H))) (f lo) (f hi) = f (segRow s (b + r)) := by
  have m := count5_mono s b (b + 32 - 1) (by omega)
  have e := segRow_block s h b 32 r r.isLt le_rfl hb H hH
  have hc : IntOp.cmpi .slt w (s (ix1 H)) = BitVec.ofBool (decide (((b + r : ℕ) : ℤ) < (s (ix1 H)).toInt)) := by
    unfold IntOp.cmpi
    simp only [BitVec.slt, hw]
  rw [hc]
  by_cases hx : ((b + r : ℕ) : ℤ) < (s (ix1 H)).toInt
  · rw [decide_eq_true hx]
    rw [if_neg (by omega)] at e
    exact congrArg f (Fin.ext (hlo.trans e.symm))
  · rw [decide_eq_false hx]
    rw [if_pos ⟨by omega, by omega⟩] at e
    exact congrArg f (Fin.ext (hhi.trans e.symm))

/-! ## What a trip stores, and what the trips leave -/

section Trips
variable (c : Dev nD) (i : grid0.Coords) (arg1 : Memref sig .tc .smem S7 .i32) (harg1 : arg1.IsWhole) (arg2 : Memref sig .tc .smem S1 .f32) (harg2 : arg2.IsWhole)
  (arg3 : Memref sig .tc .vmem S256x3072 .bf16) (harg3 : arg3.IsWhole) (arg4 : Memref sig .tc .vmem S6x3072 .f32) (harg4 : arg4.IsWhole)
  (arg5 : Memref sig .tc .vmem S6x3072 .f32) (harg5 : arg5.IsWhole) (arg6 : Memref sig .tc .vmem S256x3072 .fp8e4m3) (harg6 : arg6.IsWhole)
  (v1 : EReal) (s : Seq) (x3 : S256x3072.Idx → EReal) (x4 x5 : S6x3072.Idx → EReal)

/-- The pieces of one trip, over buffers that hold the given contents. -/
abbrev tripOf (k : Fin k0_t1_loop.trips) : List (View.Piece (Elt Ideal) S256x3072 .fp8e4m3) :=
  tripL_k0_t1 (F := Ideal) Variants.none c none i arg1 harg1 arg2 harg2 arg3 harg3 arg4 harg4 arg5 harg5 arg6 harg6
    (Scalar.muli (BitVec.ofNat 32 (i 0).val) 256#32) v1 (harg1.unread s) (harg3.unread x3) (harg4.unread x4) (harg5.unread x5) k
/-- The pieces of the trips before `n`. -/
abbrev piecesOf (n : ℕ) : List (View.Piece (Elt Ideal) S256x3072 .fp8e4m3) :=
  pieces (F := Ideal) c i arg1 harg1 arg2 harg2 arg3 harg3 arg4 harg4 arg5 harg5 arg6 harg6
    (Scalar.muli (BitVec.ofNat 32 (i 0).val) 256#32) v1 (harg1.unread s) (harg3.unread x3) (harg4.unread x4) (harg5.unread x5) n
/-- The code of a trip's entry. -/
abbrev codeAt (k : Fin k0_t1_loop.trips) (r : Fin 32) (j : Fin 3072) : EReal :=
  quantised (rowNorm (fun d => x3 (ix2 ⟨32 * (k : ℕ) + r, local_lt k r⟩ d)) j) (x5 (ix2 (segRow s (first i k + r)) j)) (x4 (ix2 (segRow s (first i k + r)) j)) v1

theorem word_at (k : Fin 7) (off : Fin 1 → ℕ) (inb) (e : off = ![(k : ℕ)]) : word (F := Ideal) arg1 (harg1.unread s) off inb = s (ix1 k) := by
  unfold word
  rw [View.readAt_eq_ld, harg1.read_unread]
  exact ld_word s off inb _ k e
theorem row_at (arg : Memref sig .tc .vmem S6x3072 .f32) (harg : arg.IsWhole) (x : S6x3072.Idx → EReal) (k : Fin 6) (off : Fin 2 → ℕ) (inb)
    (e : off = ![(k : ℕ), 0]) (j : Fin 3072) : tableRow (F := Ideal) arg (harg.unread x) off inb (ix2 (0 : Fin 1) j) = x (ix2 k j) := by
  unfold tableRow
  rw [View.readAt_eq_ld, harg.read_unread]
  exact ld_row x off inb k e j
theorem normed_at (k : Fin k0_t1_loop.trips) (r : Fin 32) (j : Fin 3072) :
    normed (F := Ideal) arg3 (harg3.unread x3) k (ix2 r j) = rowNorm (fun d => x3 (ix2 ⟨32 * (k : ℕ) + r, local_lt k r⟩ d)) j := by
  unfold normed
  rw [pay3_at, View.readAt_eq_ld, harg3.read_unread]
  exact congrArg (rowNorm · j) (funext fun d => ld_x x3 k _ _ (off1_eq k) r d)

theorem trip_at (hA : ApartBy 32 s) (k : Fin k0_t1_loop.trips) : ∃ off inb w, off = ![32 * (k : ℕ), 0] ∧
    tripOf c i arg1 harg1 arg2 harg2 arg3 harg3 arg4 harg4 arg5 harg5 arg6 harg6 v1 s x3 x4 x5 k = [⟨Rect.unit (s := S256x3072) off S32x3072.size inb, w⟩]
      ∧ ∀ (r : Fin 32) (j : Fin 3072), w (ix2 r j) = codeAt i v1 s x3 x4 x5 k r j := by
  have h1 := word_at arg1 harg1 s 1 ![1] inb_S7_S1_1 rfl
  have h2 := word_at arg1 harg1 s 2 ![2] inb_S7_S1_2 rfl
  have h3 := word_at arg1 harg1 s 3 ![3] inb_S7_S1_3 rfl
  have h4 := word_at arg1 harg1 s 4 ![4] inb_S7_S1_4 rfl
  have h5 := word_at arg1 harg1 s 5 ![5] inb_S7_S1_5 rfl
  have hc := cond_iff i k s _ _ _ _ _ h1 h2 h3 h4 h5
  have hb := first_lt i k
  have l0 := count5_le s (first i k)
  have l1 := count5_le s (first i k + 32 - 1)
  by_cases h : oneSegment (F := Ideal) i arg1 (harg1.unread s) k
  · obtain ⟨inb, e⟩ := trip_one (F := Ideal) c i arg1 harg1 arg2 harg2 arg3 harg3 arg4 harg4 arg5 harg5 arg6 harg6
      (Scalar.muli (BitVec.ofNat 32 (i 0).val) 256#32) v1 (harg1.unread s) (harg3.unread x3) (harg4.unread x4) (harg5.unread x5) k h
    refine ⟨_, _, _, off3_eq k, e, fun r j => ?_⟩
    have eo := off2 i k s _ _ _ _ _ h1 h2 h3 h4 h5
    have es := seg_one s hA (first i k) r hb (hc.1 h)
    rw [pay1_at, normed_at, row_at arg5 harg5 x5 (segRow s (first i k + r)) _ inb (eo.trans (by rw [es])),
      row_at arg4 harg4 x4 (segRow s (first i k + r)) _ inb (eo.trans (by rw [es]))]
  · obtain ⟨inb4, inb5, inb6, e⟩ := trip_two (F := Ideal) c i arg1 harg1 arg2 harg2 arg3 harg3 arg4 harg4 arg5 harg5 arg6 harg6
      (Scalar.muli (BitVec.ofNat 32 (i 0).val) 256#32) v1 (harg1.unread s) (harg3.unread x3) (harg4.unread x4) (harg5.unread x5) k h
    refine ⟨_, _, _, off7_eq k, e, fun r j => ?_⟩
    have es := fun f : Fin 6 → EReal => seg_two s hA (first i k) r hb (fun e => h (hc.2 e)) ⟨count5 s (first i k + 32 - 1), by omega⟩
      ⟨count5 s (first i k + 32 - 1), by omega⟩ ⟨count5 s (first i k), by omega⟩ rfl rfl rfl _ (row_word i k r) f
    rw [pay2_at, normed_at, word_at arg1 harg1 s ⟨count5 s (first i k + 32 - 1), by omega⟩ _ inb4 (off4 i k s _ _ _ _ _ h1 h2 h3 h4 h5),
      row_at arg5 harg5 x5 ⟨count5 s (first i k), by omega⟩ _ inb5 (off5 i k s _ _ _ _ _ h1 h2 h3 h4 h5),
      row_at arg5 harg5 x5 ⟨count5 s (first i k + 32 - 1), by omega⟩ _ inb6 (off6 i k s _ _ _ _ _ h1 h2 h3 h4 h5),
      row_at arg4 harg4 x4 ⟨count5 s (first i k), by omega⟩ _ inb5 (off5 i k s _ _ _ _ _ h1 h2 h3 h4 h5),
      row_at arg4 harg4 x4 ⟨count5 s (first i k + 32 - 1), by omega⟩ _ inb6 (off6 i k s _ _ _ _ _ h1 h2 h3 h4 h5)]
    have a := es fun q => x5 (ix2 q j)
    have b := es fun q => x4 (ix2 q j)
    beta_reduce at a b
    unfold codeAt
    rw [← a, ← b]

/-- The pieces of the trips before `n`, read back at an entry of one of these trips. -/
theorem read_pieces (hA : ApartBy 32 s) (v : View sig .tc .vmem S256x3072 .fp8e4m3) (f : v.ty.Contents (Elt Ideal)) (k : Fin k0_t1_loop.trips) (r : Fin 32) (j : Fin 3072)
    (n : ℕ) (hn : n ≤ k0_t1_loop.trips) (hk : (k : ℕ) < n) :
    v.read (Elt Ideal) (v.writes (Elt Ideal) f (piecesOf c i arg1 harg1 arg2 harg2 arg3 harg3 arg4 harg4 arg5 harg5 arg6 harg6 v1 s x3 x4 x5 n))
      (ix2 ⟨32 * (k : ℕ) + r, local_lt k r⟩ j) = codeAt i v1 s x3 x4 x5 k r j := by
  induction n with
  | zero => exact absurd hk (Nat.not_lt_zero _)
  | succ n ih =>
    have hs := pb_k0_t1_succ (F := Ideal) Variants.none c none i arg1 harg1 arg2 harg2 arg3 harg3 arg4 harg4 arg5 harg5 arg6 harg6
      (Scalar.muli (BitVec.ofNat 32 (i 0).val) 256#32) v1 (harg1.unread s) (harg3.unread x3) (harg4.unread x4) (harg5.unread x5) ⟨n, hn⟩
    obtain ⟨off, inb, w, eo, e, hw⟩ := trip_at c i arg1 harg1 arg2 harg2 arg3 harg3 arg4 harg4 arg5 harg5 arg6 harg6 v1 s x3 x4 x5 hA ⟨n, hn⟩
    unfold piecesOf pieces
    rw [hs, show tripL_k0_t1 (F := Ideal) Variants.none c none i arg1 harg1 arg2 harg2 arg3 harg3 arg4 harg4 arg5 harg5 arg6 harg6
      (Scalar.muli (BitVec.ofNat 32 (i 0).val) 256#32) v1 (harg1.unread s) (harg3.unread x3) (harg4.unread x4) (harg5.unread x5) ⟨n, hn⟩ = _ from e]
    rcases Nat.lt_succ_iff_lt_or_eq.1 hk with hlt | heq
    · exact (View.read_writes_cons_unit_of_not_mem _ _ _ _ _ _ eo 0 (Or.inl (by
        show 32 * (k : ℕ) + r < 32 * n
        have := r.isLt
        omega))).trans (ih (by omega) hlt)
    · have hkn : (⟨n, hn⟩ : Fin k0_t1_loop.trips) = k := Fin.ext heq.symm
      rw [hkn] at eo hw
      refine (View.read_writes_cons_unit_of_mem _ _ _ _ _ _ (ix2 r j) eo fun a => ?_).trans (hw r j)
      fin_cases a <;> simp [ix2]
end Trips

/-! ## What each window's block holds, in terms of the arguments -/

variable (m : (ℓ : Loc nD τ sig) → Buf (Elt Ideal) ℓ)

/-- Which block each window stages at a grid point. -/
theorem idx : ∀ t : Fin cfg0.N, win0_0.index t = ![0] ∧ win0_1.index t = ![0] ∧ win0_2.index t = ![(grid0.coords t 0 : ℕ), 0] ∧ win0_3.index t = ![0, 0]
    ∧ win0_4.index t = ![0, 0] ∧ win0_5.index t = ![(grid0.coords t 0 : ℕ), 0] :=
  (by decide +kernel : ∀ t : Fin grid0.N, win0_0.index t = ![0] ∧ win0_1.index t = ![0] ∧ win0_2.index t = ![(grid0.coords t 0 : ℕ), 0] ∧ win0_3.index t = ![0, 0]
    ∧ win0_4.index t = ![0, 0] ∧ win0_5.index t = ![(grid0.coords t 0 : ℕ), 0])

theorem k0 (c : Dev nD) (t : Fin cfg0.N) : (iblk m c 0 t : Seq) = m ((c : Thread nD τ).loc main_arg3) := by
  funext x
  idx_vars x
  blk_ext [iblk, V, idx t]
theorem k1 (c : Dev nD) (t : Fin cfg0.N) (j) : iblk m c 1 t j = m ((c : Thread nD τ).loc main_arg4) ix0 := by
  blk_simp [iblk, V, idx t]
  entry_read
  pointwise
theorem row_lt (t : Fin cfg0.N) (a : ℕ) (ha : a < 256) : 256 * (grid0.coords t 0 : ℕ) + a < 7680 := by
  have h : (grid0.coords t 0 : ℕ) < 30 := (grid0.coords t 0).isLt
  omega
theorem k2 (c : Dev nD) (t : Fin cfg0.N) (a : Fin 256) (b : Fin 3072) :
    iblk m c 2 t (ix2 a b) = m ((c : Thread nD τ).loc main_arg0) (ix2 ⟨256 * (grid0.coords t 0 : ℕ) + a, row_lt t a a.isLt⟩ b) := by
  blk_ext [iblk, V, idx t]
theorem k3 (c : Dev nD) (t : Fin cfg0.N) (a : Fin 6) (b : Fin 3072) : iblk m c 3 t (ix2 a b) = m ((c : Thread nD τ).loc main_arg1) (ix2 a b) := by
  blk_ext [iblk, V, idx t]
theorem k4 (c : Dev nD) (t : Fin cfg0.N) (a : Fin 6) (b : Fin 3072) : iblk m c 4 t (ix2 a b) = m ((c : Thread nD τ).loc main_arg2) (ix2 a b) := by
  blk_ext [iblk, V, idx t]

/-- What the body leaves at a grid point, entry by entry. -/
theorem outAt_at (c : Dev nD) (hA : ApartBy 32 (m ((c : Thread nD τ).loc main_arg3))) (t : Fin cfg0.N) (y0 : Fin 256) (y1 : Fin 3072) :
    Own.outAt m c t (ix2 y0 y1) = Cert.Mine.codes (m ((c : Thread nD τ).loc main_arg0)) (m ((c : Thread nD τ).loc main_arg1)) (m ((c : Thread nD τ).loc main_arg2))
      (m ((c : Thread nD τ).loc main_arg3)) (m ((c : Thread nD τ).loc main_arg4)) (ix2 ⟨256 * (grid0.coords t 0 : ℕ) + y0, row_lt t y0 y0.isLt⟩ y1) := by
  have hk : (y0 : ℕ) / 32 < k0_t1_loop.trips := by rw [trips_eq]; omega
  have hy : y0 = ⟨32 * ((⟨(y0 : ℕ) / 32, hk⟩ : Fin k0_t1_loop.trips) : ℕ) + ((⟨(y0 : ℕ) % 32, by omega⟩ : Fin 32) : ℕ), local_lt _ _⟩ := Fin.ext (by simp; omega)
  unfold Own.outAt Own.out
  rw [bodyRun_pieces]
  conv_lhs => rw [hy]
  refine (read_pieces c (grid0.coords t) _ _ _ _ _ _ _ _ _ _ _ _ _ (iblk m c 0 t) _ _ _ (k0 m c t ▸ hA) _ _ ⟨(y0 : ℕ) / 32, hk⟩ ⟨(y0 : ℕ) % 32, by omega⟩ y1 _ le_rfl hk).trans ?_
  have hr : first (grid0.coords t) ⟨(y0 : ℕ) / 32, hk⟩ + ((⟨(y0 : ℕ) % 32, by omega⟩ : Fin 32) : ℕ) = 256 * (grid0.coords t 0 : ℕ) + y0 := by
    unfold first; simp; omega
  unfold codeAt
  rw [hr, ← hy, k0 m c t, View.readAt_eq_ld, (Own.hs0_1 t).read_unread]
  rw [Cert.Mine.codes_apply]
  simp only [k2, k3, k4]
  exact congrArg (quantised _ _ _) (k1 m c t _)

/-- The array that the kernel leaves is the mathematical function of its arguments. -/
theorem final (c : Dev nD) (hA : ApartBy 32 (m ((c : Thread nD τ).loc main_arg3))) : (Own.dats m 0 c).arrAt 5 cfg0.N
    = Cert.Mine.codes (m ((c : Thread nD τ).loc main_arg0)) (m ((c : Thread nD τ).loc main_arg1)) (m ((c : Thread nD τ).loc main_arg2))
      (m ((c : Thread nD τ).loc main_arg3)) (m ((c : Thread nD τ).loc main_arg4)) := by
  refine (Own.dats m 0 c).arrAt_eq_of_covers 5 _ (by decide +kernel) fun t hf y => ?_
  blk_simp
  rw [Own.after0_5]
  idx_vars y
  rw [outAt_at m c hA t y0 y1]
  rw [show ((win0_5.blk t).view.emb (ix2 y0 y1)) = ix2 ⟨256 * (grid0.coords t 0 : ℕ) + y0, row_lt t y0 y0.isLt⟩ y1 by blk_ext [idx t]]

/-- The run, with the array of codes it leaves. -/
theorem run_blocks (ρ : Dev nD → PrngReg) : θ_run defs (onTc (τ := τ) (main (F := Ideal))) ⟨m, fun _ => 0, ρ⟩ (fun r => ∀ c : Dev nD,
      r.2.mem ((c.tc : Thread nD τ).loc main_v1) = (Own.dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.2 c).1 (5 : Fin 6), h.1 c⟩) (θ_run_and (Own.unchanged m ρ) (Own.run_main m ρ))
end Cert.CodesIdeal.Mine
end
-- ==== Proof.CodesReference.lean ====
/- What the plain reference of the quantised rows computes: the array its one kernel call leaves is `Cert.Mine.codes` of the arguments. -/
module
public import proofs.«01_k».proof.Proof.Gen.CodesRefIdeal.Value
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Routing.Ops
public import Idealize.ShloMosaic.Lib.Pointwise.IndexBridge
public import proofs.«01_k».proof.Proof.CodesMath
@[expose] public section
set_option maxRecDepth 16384
noncomputable section
namespace Cert.CodesRefIdeal.Mine
open Cert.CodesRefIdeal Cert.CodesRefIdeal.Gen Idealize.ShloMosaic Idealize.ShloMosaic.TcCoe Idealize.SL.Sem
open Idealize.ShloMosaic.Pipeline (Dat)
variable (m : (ℓ : Loc nD τ sig) → Buf (Elt Ideal) ℓ)

/-- Every window of the one-point call is its whole array. -/
theorem idx : ∀ t : Fin cfg0.N, win0_0.index t = ![0] ∧ win0_1.index t = ![0, 0] ∧ win0_2.index t = ![0, 0] ∧ win0_3.index t = ![0, 0] ∧ win0_4.index t = ![0, 0] :=
  (by decide +kernel : ∀ t : Fin grid0.N, win0_0.index t = ![0] ∧ win0_1.index t = ![0, 0] ∧ win0_2.index t = ![0, 0] ∧ win0_3.index t = ![0, 0] ∧ win0_4.index t = ![0, 0])

/-! ## What each window's block holds, in terms of the arguments -/

theorem r0 (c : Dev nD) (t : Fin cfg0.N) (j) : iblk m c 0 t j = m ((c : Thread nD τ).loc main_arg4) ix0 := by
  blk_simp [iblk, V, idx t]
  entry_read
  pointwise
theorem r1 (c : Dev nD) (t : Fin cfg0.N) (a : Fin 7680) (b : Fin 3072) : iblk m c 1 t (ix2 a b) = m ((c : Thread nD τ).loc main_arg0) (ix2 a b) := by
  blk_ext [iblk, V, idx t]
open Cert.Mine in
theorem r2 (c : Dev nD) (t : Fin cfg0.N) (a : Fin 7680) (b : Fin 3072) : iblk m c 2 t (ix2 a b) = m ((c : Thread nD τ).loc main_arg1) (ix2 (segRow (m ((c : Thread nD τ).loc main_arg3)) a) b) := by
  blk_simp [iblk, V, idx t]
  entry_read
  rw [show (((View.whole main_v17).slice (win0_2.rect t)).emb (ix2 a b)) = ix2 a b by blk_ext [idx t]]
  rw [ix2_eq_valueIdx, ix2_eq_valueIdx]
  refine Routing.gather_row _ rfl rfl rfl rfl rfl _ _ a b _ ?_ (by norm_num)
  rw [← ix2_eq_valueIdx]
  pointwise
  exact segRow_word _ _ (by omega) _ fun k => by rw [show (k.succ : Fin 7) = ⟨1 + k, _⟩ from Fin.ext (by simp; omega)]
open Cert.Mine in
theorem r3 (c : Dev nD) (t : Fin cfg0.N) (a : Fin 7680) (b : Fin 3072) : iblk m c 3 t (ix2 a b) = m ((c : Thread nD τ).loc main_arg2) (ix2 (segRow (m ((c : Thread nD τ).loc main_arg3)) a) b) := by
  blk_simp [iblk, V, idx t]
  entry_read
  rw [show (((View.whole main_v24).slice (win0_3.rect t)).emb (ix2 a b)) = ix2 a b by blk_ext [idx t]]
  rw [ix2_eq_valueIdx, ix2_eq_valueIdx]
  refine Routing.gather_row _ rfl rfl rfl rfl rfl _ _ a b _ ?_ (by norm_num)
  rw [← ix2_eq_valueIdx]
  pointwise
  exact segRow_word _ _ (by omega) _ fun k => by rw [show (k.succ : Fin 7) = ⟨1 + k, _⟩ from Fin.ext (by simp; omega)]

/-- The array that the reference leaves is the mathematical function of its arguments. -/
theorem final (c : Dev nD) : (dats m 0 c).arrAt 4 cfg0.N
    = Cert.Mine.codes (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 4 _ (by decide +kernel) fun t hf y => ?_
  blk_simp
  rw [after0_4]
  unfold outsAt0
  frame_out
  idx_vars y
  pointwise [k0_pay1]
  simp only [read_unread_whole]
  rw [show ((win0_4.blk t).view.emb (ix2 y0 y1)) = ix2 y0 y1 by blk_ext [idx t]]
  simp only [r0, r1, r2, r3, Cert.Mine.codes_apply, Cert.Mine.quantised, Cert.Mine.rowNorm, Cert.Mine.centred, Cert.Mine.mean]
end Cert.CodesRefIdeal.Mine
end
-- ==== Proof.Boundaries.lean ====
/- The precondition read off: the boundaries lie in the array of rows and are at least 256 apart. -/
module
public import proofs.«01_k».proof.Defs
public import proofs.«01_k».proof.Proof.Gen.Pre_segments_of_256
public import Idealize.ShloMosaic.Lib.ReduceAll
public import Idealize.ShloMosaic.Lib.Pointwise
public import Idealize.ShloMosaic.Lib.Tactic
public import proofs.«01_k».proof.Proof.SegRow
@[expose] public section
set_option maxRecDepth 16384
noncomputable section
namespace Cert.Mine
open Idealize.ShloMosaic Cert.Pre_segments_of_256 Cert.Pre_segments_of_256.Gen

instance : Subsingleton S_.Idx := ⟨fun a b => funext fun x => x.elim0⟩

theorem and_one (a b : BitVec 1) (h : IntOp.andi a b = 1#1) : a = 1#1 ∧ b = 1#1 := by
  revert a b
  decide
theorem sge_one (a b : BitVec 32) (h : IntOp.cmpi .sge a b = 1#1) : b.toInt ≤ a.toInt := by
  have h : BitVec.ofBool (b.sle a) = 1#1 := h
  cases e : b.sle a
  · rw [e] at h; exact absurd h (by decide)
  · simpa [BitVec.sle] using e
theorem sle_one (a b : BitVec 32) (h : IntOp.cmpi .sle a b = 1#1) : a.toInt ≤ b.toInt := by
  have h : BitVec.ofBool (a.sle b) = 1#1 := h
  cases e : a.sle b
  · rw [e] at h; exact absurd h (by decide)
  · simpa [BitVec.sle] using e

/-- Boundaries that `segments_of_256` allows lie in the array of rows, and are at least 256 rows apart. -/
theorem apart_of_pre (a0 a1 a2 a3 a4 a5 a6) (s : Seq) (a8 a9)
    (h : Pre_segments_of_256.fn (F := Ideal) a0 a1 a2 a3 a4 a5 a6 s a8 a9 = fun _ => 1#1) : Apart s := by
  have h0 := congrFun h ix0
  simp only [Pre_segments_of_256.fn] at h0
  obtain ⟨hin, hgap⟩ := and_one _ _ h0
  have bound : ∀ k : Fin 7, 0 ≤ (s (ix1 k)).toInt ∧ (s (ix1 k)).toInt ≤ 7680 := fun k => by
    obtain ⟨e1, e2⟩ := and_one _ _ (Host.reduce_andi_all _ _ _ _ _ hin (ix1 k))
    exact ⟨sge_one _ _ e1, sle_one _ _ e2⟩
  refine ⟨fun k => (bound k).1, fun k => (bound k).2, fun k => ?_⟩
  have e := sge_one _ _ (Host.reduce_andi_all _ _ _ _ _ hgap (ix1 k))
  have e : (256 : ℤ) ≤ (IntOp.subi (extractStridedSlice S6 ![1] s slices_S7_S6_1 (ix1 k)) (extractStridedSlice S6 ![0] s slices_S7_S6_0 (ix1 k))).toInt := e
  have x1 : extractStridedSlice S6 ![1] s slices_S7_S6_1 (ix1 k) = s (ix1 k.succ) := by
    pointwise
    exact congrArg (fun a => s (ix1 a)) (Fin.ext (by simp; omega))
  have x0 : extractStridedSlice S6 ![0] s slices_S7_S6_0 (ix1 k) = s (ix1 k.castSucc) := by
    pointwise
    rfl
  rw [x1, x0] at e
  have e : (256 : ℤ) ≤ (s (ix1 k.succ) - s (ix1 k.castSucc)).toInt := e
  rw [BitVec.toInt_sub] at e
  have := bound k.succ
  have := bound k.castSucc
  rw [Int.bmod_eq_of_le (by norm_num; omega) (by norm_num; omega)] at e
  omega
end Cert.Mine
end
-- ==== Proof.Boundaries32.lean ====
/- The precondition of the quantising call read off: the boundaries lie in the array of rows and are at least 32 apart. -/
module
public import proofs.«01_k».proof.Proof.Gen.Pre_segments_of_32
public import proofs.«01_k».proof.Proof.Boundaries
@[expose] public section
set_option maxRecDepth 16384
noncomputable section
namespace Cert.Mine
open Idealize.ShloMosaic Cert.Pre_segments_of_32 Cert.Pre_segments_of_32.Gen

/-- Boundaries that `segments_of_32` allows lie in the array of rows, and are at least 32 rows apart. -/
theorem apart_of_pre32 (a0 a1 a2) (s : Seq) (a4)
    (h : Pre_segments_of_32.fn (F := Ideal) a0 a1 a2 s a4 = fun _ => 1#1) : ApartBy 32 s := by
  have h0 := congrFun h ix0
  simp only [Pre_segments_of_32.fn] at h0
  obtain ⟨hin, hgap⟩ := and_one _ _ h0
  have bound : ∀ k : Fin 7, 0 ≤ (s (ix1 k)).toInt ∧ (s (ix1 k)).toInt ≤ 7680 := fun k => by
    obtain ⟨e1, e2⟩ := and_one _ _ (Host.reduce_andi_all _ _ _ _ _ hin (ix1 k))
    exact ⟨sge_one _ _ e1, sle_one _ _ e2⟩
  refine ⟨fun k => (bound k).1, fun k => (bound k).2, fun k => ?_⟩
  have e := sge_one _ _ (Host.reduce_andi_all _ _ _ _ _ hgap (ix1 k))
  have e : (32 : ℤ) ≤ (IntOp.subi (extractStridedSlice S6 ![1] s slices_S7_S6_1 (ix1 k)) (extractStridedSlice S6 ![0] s slices_S7_S6_0 (ix1 k))).toInt := e
  have x1 : extractStridedSlice S6 ![1] s slices_S7_S6_1 (ix1 k) = s (ix1 k.succ) := by
    pointwise
    exact congrArg (fun a => s (ix1 a)) (Fin.ext (by simp; omega))
  have x0 : extractStridedSlice S6 ![0] s slices_S7_S6_0 (ix1 k) = s (ix1 k.castSucc) := by
    pointwise
    rfl
  rw [x1, x0] at e
  have e : (32 : ℤ) ≤ (s (ix1 k.succ) - s (ix1 k.castSucc)).toInt := e
  rw [BitVec.toInt_sub] at e
  have := bound k.succ
  have := bound k.castSucc
  rw [Int.bmod_eq_of_le (by norm_num; omega) (by norm_num; omega)] at e
  omega
end Cert.Mine
end
-- ==== Proof.Linear1Points.lean ====
/- `linear1`, the kernel as written: the program up to the pipelined region, the windows' blocks, the branch conditions point by point and the
   staging buffers. -/
module

public import proofs.«01_k».proof.Proof.Gen.Linear1.Launch
public import proofs.«01_k».proof.Proof.Gen.Linear1.Skeleton
public import proofs.«01_k».proof.Proof.Gen.Linear1.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-- The buffers of core `c` when the pipelined region is entered: after the host operations that reshape the operands and build the rotation tables. -/
abbrev V (c : Dev nD) (b : Ref sig .tc) : Buf (Elt F) ((c : Thread nD τ).loc b) := StableHlo.after hostOps0 (fun b => m (c, b)) b

/-- The host operations before the region allocate nothing. -/
theorem hostOps0_fresh : (hostOps0 : List (HloOp τ sig (Elt F))).Forall fun op => op.fresh = ∅ := by
  simp only [List.Forall]; repeat' constructor

set_option maxHeartbeats 800000 in

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Argument 0 is as launched when the pipelined region is entered: no host operation before it writes it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 1 is as launched when the pipelined region is entered: no host operation before it writes it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 2 is as launched when the pipelined region is entered: no host operation before it writes it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 3 is as launched when the pipelined region is entered: no host operation before it writes it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 4 is as launched when the pipelined region is entered: no host operation before it writes it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 5 is as launched when the pipelined region is entered: no host operation before it writes it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 6 is as launched when the pipelined region is entered: no host operation before it writes it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 7 is as launched when the pipelined region is entered: no host operation before it writes it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 8 is as launched when the pipelined region is entered: no host operation before it writes it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 9 is as launched when the pipelined region is entered: no host operation before it writes it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of window `w` at point `t`, read from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of window 0 (the scale `s_x`) holds the window's block at every point, for any proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 1 (the scale `s_m`) holds the window's block at every point, for any proof data over the arrays `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 2 (the activation codes) holds the window's block at every point, for any proof data over the arrays `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 3 (the weight tile) holds the window's block at every point, for any proof data over the arrays `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 4 (the weight scale tile) holds the window's block at every point, for any proof data over the arrays `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 5 (the bias tile) holds the window's block at every point, for any proof data over the arrays `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 6 (the query norm weights) holds the window's block at every point, for any proof data over the arrays `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 7 (the key norm weights) holds the window's block at every point, for any proof data over the arrays `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 8 (the cosine table) holds the window's block at every point, for any proof data over the arrays `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 9 (the signed sine table) holds the window's block at every point, for any proof data over the arrays `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1020000 in

/-- From any run of the pipeline that leaves the input arrays alone: every argument ends unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-- The condition of the body's branch 0. -/
abbrev cond0_0 (i : grid0.Coords) : Prop := k0_cond1 i = 1#1

/-- The branch condition 0 in closed form, over the number of the point. -/
theorem hcond0_0 : ∀ t : Fin cfg0.N, cond0_0 (grid0.coords t) ↔ t.val < 30 :=
  (by decide +kernel : ∀ t : Fin grid0.N, cond0_0 (grid0.coords t) ↔ t.val < 30)

/-- The condition of the body's branch 1. -/
abbrev cond0_1 (i : grid0.Coords) : Prop := k0_cond2 i = 1#1

/-- The branch condition 1 in closed form, over the number of the point. -/
theorem hcond0_1 : ∀ t : Fin cfg0.N, cond0_1 (grid0.coords t) ↔ (3 ≤ t.val / 10 % 21 ∧ t.val / 10 % 21 ≤ 5) :=
  (by decide +kernel : ∀ t : Fin grid0.N, cond0_1 (grid0.coords t) ↔ (3 ≤ t.val / 10 % 21 ∧ t.val / 10 % 21 ≤ 5))

/-- The condition of the body's branch 2. -/
abbrev cond0_2 (i : grid0.Coords) : Prop := k0_cond3 i = 1#1

/-- The branch condition 2 in closed form, over the number of the point. -/
theorem hcond0_2 : ∀ t : Fin cfg0.N, cond0_2 (grid0.coords t) ↔ (6 ≤ t.val / 10 % 21 ∧ t.val / 10 % 21 ≤ 8) :=
  (by decide +kernel : ∀ t : Fin grid0.N, cond0_2 (grid0.coords t) ↔ (6 ≤ t.val / 10 % 21 ∧ t.val / 10 % 21 ≤ 8))

/-- The condition of the body's branch 3. -/
abbrev cond0_3 (i : grid0.Coords) : Prop := (Scalar.cmpi .ne (Scalar.extui (Scalar.andi (Scalar.cmpi .eq (BitVec.ofNat 32 (i 0).val) 9#32) (Scalar.cmpi .eq (BitVec.ofNat 32 (i 1).val) 0#32))) 0#32) = 1#1

/-- The branch condition 3 in closed form, over the number of the point. -/
theorem hcond0_3 : ∀ t : Fin cfg0.N, cond0_3 (grid0.coords t) ↔ t.val % 210 = 90 :=
  (fun t => by
    have ht : t.val < 210 := Nat.lt_of_lt_of_eq t.isLt N_0
    have e0 : (grid0.coords t 0).val = t.val / 10 % 21 := Pipeline.Grid.coords_val t 0 (by decide) rfl
    have e1 : (grid0.coords t 1).val = t.val / 1 % 10 := Pipeline.Grid.coords_val t 1 (by decide) rfl
    simp only [cond0_3, e0, e1]
    word_cmp
   : ∀ t : Fin grid0.N, cond0_3 (grid0.coords t) ↔ t.val % 210 = 90)

/-- The condition of the body's branch 4. -/
abbrev cond0_4 (i : grid0.Coords) : Prop := k0_cond5 i = 1#1

/-- The branch condition 4 in closed form, over the number of the point. -/
theorem hcond0_4 : ∀ t : Fin cfg0.N, cond0_4 (grid0.coords t) ↔ 90 ≤ t.val :=
  (by decide +kernel : ∀ t : Fin grid0.N, cond0_4 (grid0.coords t) ↔ 90 ≤ t.val)

/-- The condition of the body's branch 5. -/
abbrev cond0_5 (i : grid0.Coords) : Prop := k0_cond6 i = 1#1

/-- The branch condition 5 in closed form, over the number of the point. -/
theorem hcond0_5 : ∀ t : Fin cfg0.N, cond0_5 (grid0.coords t) ↔ t.val % 210 = 209 :=
  (fun t => by
    have ht : t.val < 210 := Nat.lt_of_lt_of_eq t.isLt N_0
    have e0 : (grid0.coords t 0).val = t.val / 10 % 21 := Pipeline.Grid.coords_val t 0 (by decide) rfl
    have e1 : (grid0.coords t 1).val = t.val / 1 % 10 := Pipeline.Grid.coords_val t 1 (by decide) rfl
    simp only [cond0_5, k0_cond6, e0, e1]
    word_cmp
   : ∀ t : Fin grid0.N, cond0_5 (grid0.coords t) ↔ t.val % 210 = 209)

/-- Window 0 is used at every point. -/
theorem liveAt0_0 : ∀ t : Fin cfg0.N, cfg0.idle 0 (grid0.coords t) = false := fun _ => rfl

/-- Window 1 is used at every point. -/
theorem liveAt0_1 : ∀ t : Fin cfg0.N, cfg0.idle 1 (grid0.coords t) = false := fun _ => rfl

/-- Window 2 is used at every point. -/
theorem liveAt0_2 : ∀ t : Fin cfg0.N, cfg0.idle 2 (grid0.coords t) = false := fun _ => rfl

/-- Window 3 is used at every point. -/
theorem liveAt0_3 : ∀ t : Fin cfg0.N, cfg0.idle 3 (grid0.coords t) = false := fun _ => rfl

/-- Window 4 is used at every point. -/
theorem liveAt0_4 : ∀ t : Fin cfg0.N, cfg0.idle 4 (grid0.coords t) = false := fun _ => rfl

/-- Window 5 is used at every point. -/
theorem liveAt0_5 : ∀ t : Fin cfg0.N, cfg0.idle 5 (grid0.coords t) = false := fun _ => rfl

/-- Window 6 is used at every point. -/
theorem liveAt0_6 : ∀ t : Fin cfg0.N, cfg0.idle 6 (grid0.coords t) = false := fun _ => rfl

/-- Window 7 is used at every point. -/
theorem liveAt0_7 : ∀ t : Fin cfg0.N, cfg0.idle 7 (grid0.coords t) = false := fun _ => rfl

/-- Window 8 is used at every point. -/
theorem liveAt0_8 : ∀ t : Fin cfg0.N, cfg0.idle 8 (grid0.coords t) = false := fun _ => rfl

/-- Window 9 is used at every point. -/
theorem liveAt0_9 : ∀ t : Fin cfg0.N, cfg0.idle 9 (grid0.coords t) = false := fun _ => rfl

/-- The staging buffer of window 0 at a point. -/
abbrev ms0_0 (t : Fin cfg0.N) : Memref sig .tc .smem S1 .f32 := win0_0.stage (cfg0.slots t 0)
/-- It is a whole buffer. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .smem S1 .f32 := win0_1.stage (cfg0.slots t 1)
/-- It is a whole buffer. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S7680x3072 .fp8e4m3 := win0_2.stage (cfg0.slots t 2)
/-- It is a whole buffer. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S3072x1024 .fp8e4m3 := win0_3.stage (cfg0.slots t 3)
/-- It is a whole buffer. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S1x1024 .f32 := win0_4.stage (cfg0.slots t 4)
/-- It is a whole buffer. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S1x1024 .f32 := win0_5.stage (cfg0.slots t 5)
/-- It is a whole buffer. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S1x128 .f32 := win0_6.stage (cfg0.slots t 6)
/-- It is a whole buffer. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S1x128 .f32 := win0_7.stage (cfg0.slots t 7)
/-- It is a whole buffer. -/
abbrev hs0_7 (t : Fin cfg0.N) : (ms0_7 t).IsWhole := hstage0_7 ((cfg0.slots t 7).cast nbuf0_7)
/-- The staging buffer of window 8 at a point. -/
abbrev ms0_8 (t : Fin cfg0.N) : Memref sig .tc .vmem S768x128 .f32 := win0_8.stage (cfg0.slots t 8)
/-- It is a whole buffer. -/
abbrev hs0_8 (t : Fin cfg0.N) : (ms0_8 t).IsWhole := hstage0_8 ((cfg0.slots t 8).cast nbuf0_8)
/-- The staging buffer of window 9 at a point. -/
abbrev ms0_9 (t : Fin cfg0.N) : Memref sig .tc .vmem S768x128 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at a point. -/
abbrev ms0_10 (t : Fin cfg0.N) : Memref sig .tc .vmem S768x8x128 .bf16 := win0_10.stage (cfg0.slots t 10)
/-- It is a whole buffer. -/
abbrev hs0_10 (t : Fin cfg0.N) : (ms0_10 t).IsWhole := hstage0_10 ((cfg0.slots t 10).cast nbuf0_10)
/-- The staging buffer of window 11 at a point. -/
abbrev ms0_11 (t : Fin cfg0.N) : Memref sig .tc .vmem S768x8x128 .bf16 := win0_11.stage (cfg0.slots t 11)
/-- It is a whole buffer. -/
abbrev hs0_11 (t : Fin cfg0.N) : (ms0_11 t).IsWhole := hstage0_11 ((cfg0.slots t 11).cast nbuf0_11)
/-- The staging buffer of window 12 at a point. -/
abbrev ms0_12 (t : Fin cfg0.N) : Memref sig .tc .vmem S8x768x128 .bf16 := win0_12.stage (cfg0.slots t 12)
/-- It is a whole buffer. -/
abbrev hs0_12 (t : Fin cfg0.N) : (ms0_12 t).IsWhole := hstage0_12 ((cfg0.slots t 12).cast nbuf0_12)
/-- The staging buffer of window 13 at a point. -/
abbrev ms0_13 (t : Fin cfg0.N) : Memref sig .tc .vmem S8x768x128 .bf16 := win0_13.stage (cfg0.slots t 13)
/-- It is a whole buffer. -/
abbrev hs0_13 (t : Fin cfg0.N) : (ms0_13 t).IsWhole := hstage0_13 ((cfg0.slots t 13).cast nbuf0_13)
/-- The staging buffer of window 14 at a point. -/
abbrev ms0_14 (t : Fin cfg0.N) : Memref sig .tc .vmem S1024x768 .bf16 := win0_14.stage (cfg0.slots t 14)
/-- It is a whole buffer. -/
abbrev hs0_14 (t : Fin cfg0.N) : (ms0_14 t).IsWhole := hstage0_14 ((cfg0.slots t 14).cast nbuf0_14)
/-- The staging buffer of window 15 at a point. -/
abbrev ms0_15 (t : Fin cfg0.N) : Memref sig .tc .vmem S768x1024 .fp8e4m3 := win0_15.stage (cfg0.slots t 15)
/-- It is a whole buffer. -/
abbrev hs0_15 (t : Fin cfg0.N) : (ms0_15 t).IsWhole := hstage0_15 ((cfg0.slots t 15).cast nbuf0_15)
/-- The staging buffer of window 16 at a point. -/
abbrev ms0_16 (t : Fin cfg0.N) : Memref sig .tc .smem S1x1 .f32 := win0_16.stage (cfg0.slots t 16)
/-- It is a whole buffer. -/
abbrev hs0_16 (t : Fin cfg0.N) : (ms0_16 t).IsWhole := hstage0_16 ((cfg0.slots t 16).cast nbuf0_16)

/-- The scratch that carries the running maximum. -/
abbrev scM0_0 : Memref sig .tc .vmem S8x512 .f32 := Memref.whole cc0_scratch0

/-- The invariant between points: the scratch is owned at some contents, and so is the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Linear1.Own

end
-- ==== Proof.Linear1CaseA.lean ====
/- `linear1`, the kernel as written: the body at points 0 to 29 (the query columns). -/
module

public import proofs.«01_k».proof.Proof.Linear1Points

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 1324000 in

/-- The body in case A, points 0 to 29 (the query columns): on whole staging buffers, the inputs' at their contents, the outputs' and the scratch at anything, it runs to its end with the inputs' buffers as they were and the pieces it stored written into the named outputs' buffers. Nothing is said of what the other outputs and the scratch hold. -/
theorem kernelRun0_A (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : cond0_0 i) (hc1 : ¬cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_linear1_eq_skeleton]; unfold cc0_linear1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.Linear1.Own

end
-- ==== Proof.Linear1CaseB.lean ====
/- `linear1`, the kernel as written: the body at points 30 to 59 (the key columns). -/
module

public import proofs.«01_k».proof.Proof.Linear1Points

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 1324000 in

/-- The body in case B, points 30 to 59 (the key columns): on whole staging buffers, the inputs' at their contents, the outputs' and the scratch at anything, it runs to its end with the inputs' buffers as they were and the pieces it stored written into the named outputs' buffers. Nothing is said of what the other outputs and the scratch hold. -/
theorem kernelRun0_B (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_linear1_eq_skeleton]; unfold cc0_linear1_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.Linear1.Own

end
-- ==== Proof.Linear1CaseC.lean ====
/- `linear1`, the kernel as written: the body at points 60 to 89 (the value columns). -/
module

public import proofs.«01_k».proof.Proof.Linear1Points

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 1000000 in

/-- The body in case C, points 60 to 89 (the value columns): on whole staging buffers, the inputs' at their contents, the outputs' and the scratch at anything, it runs to its end with the inputs' buffers as they were and the pieces it stored written into the named outputs' buffers. Nothing is said of what the other outputs and the scratch hold. -/
theorem kernelRun0_C (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_linear1_eq_skeleton]; unfold cc0_linear1_skel
    simp only [k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.Linear1.Own

end
-- ==== Proof.Linear1CaseD.lean ====
/- `linear1`, the kernel as written: the body at point 90 (the first tile of the MLP columns, which clears the running maximum first). -/
module

public import proofs.«01_k».proof.Proof.Linear1Points

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 1000000 in

/-- The body in case D, point 90 (the first tile of the MLP columns, which clears the running maximum first): on whole staging buffers, the inputs' at their contents, the outputs' and the scratch at anything, it runs to its end with the inputs' buffers as they were and the pieces it stored written into the named outputs' buffers. Nothing is said of what the other outputs and the scratch hold. -/
theorem kernelRun0_D (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_linear1_eq_skeleton]; unfold cc0_linear1_skel
    simp only [k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.Linear1.Own

end
-- ==== Proof.Linear1CaseE.lean ====
/- `linear1`, the kernel as written: the body at points 91 to 208 (the MLP columns). -/
module

public import proofs.«01_k».proof.Proof.Linear1Points

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 1000000 in

/-- The body in case E, points 91 to 208 (the MLP columns): on whole staging buffers, the inputs' at their contents, the outputs' and the scratch at anything, it runs to its end with the inputs' buffers as they were and the pieces it stored written into the named outputs' buffers. Nothing is said of what the other outputs and the scratch hold. -/
theorem kernelRun0_E (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_linear1_eq_skeleton]; unfold cc0_linear1_skel
    simp only [k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.Linear1.Own

end
-- ==== Proof.Linear1CaseF.lean ====
/- `linear1`, the kernel as written: the body at point 209 (the last tile, which also writes the running maximum out). -/
module

public import proofs.«01_k».proof.Proof.Linear1Points

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 1000000 in

/-- The body in case F, point 209 (the last tile, which also writes the running maximum out): on whole staging buffers, the inputs' at their contents, the outputs' and the scratch at anything, it runs to its end with the inputs' buffers as they were and the pieces it stored written into the named outputs' buffers. Nothing is said of what the other outputs and the scratch hold. -/
theorem kernelRun0_F (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_linear1_eq_skeleton]; unfold cc0_linear1_skel
    simp only [k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.Linear1.Own

end
-- ==== Proof.Linear1Frame.lean ====
/- `linear1`, the kernel as written: the pipeline's proof data, the body at every point, and the frame claim. -/
module

public import proofs.«01_k».proof.Proof.Linear1CaseA
public import proofs.«01_k».proof.Proof.Linear1CaseB
public import proofs.«01_k».proof.Proof.Linear1CaseC
public import proofs.«01_k».proof.Proof.Linear1CaseD
public import proofs.«01_k».proof.Proof.Linear1CaseE
public import proofs.«01_k».proof.Proof.Linear1CaseF
public import Idealize.ShloMosaic.Lib.Claim

@[expose] public section

set_option maxRecDepth 16384

noncomputable section

namespace Cert.Linear1.Own

open Cert.Linear1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-- The outputs of which nothing is stated. -/
def forgets0 : Fin 17 → Bool := fun w => w.val == 10 || w.val == 11 || w.val == 12 || w.val == 13 || w.val == 14 || w.val == 15 || w.val == 16

/-- The proof data of the pipeline on core `c`: the arrays as the region finds them; after the body at a point each input's buffer at its block and each named output's at what its part of the grid stores; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- The proof data at window 0. -/
theorem after0_0 (c : Dev nD) (t : Fin cfg0.N) : (dats m 0 c).after 0 t = iblk m c 0 t := by dsimp only [dats]
/-- The proof data at window 1. -/
theorem after0_1 (c : Dev nD) (t : Fin cfg0.N) : (dats m 0 c).after 1 t = iblk m c 1 t := by dsimp only [dats]
/-- The proof data at window 2. -/
theorem after0_2 (c : Dev nD) (t : Fin cfg0.N) : (dats m 0 c).after 2 t = iblk m c 2 t := by dsimp only [dats]
/-- The proof data at window 3. -/
theorem after0_3 (c : Dev nD) (t : Fin cfg0.N) : (dats m 0 c).after 3 t = iblk m c 3 t := by dsimp only [dats]
/-- The proof data at window 4. -/
theorem after0_4 (c : Dev nD) (t : Fin cfg0.N) : (dats m 0 c).after 4 t = iblk m c 4 t := by dsimp only [dats]
/-- The proof data at window 5. -/
theorem after0_5 (c : Dev nD) (t : Fin cfg0.N) : (dats m 0 c).after 5 t = iblk m c 5 t := by dsimp only [dats]
/-- The proof data at window 6. -/
theorem after0_6 (c : Dev nD) (t : Fin cfg0.N) : (dats m 0 c).after 6 t = iblk m c 6 t := by dsimp only [dats]
/-- The proof data at window 7. -/
theorem after0_7 (c : Dev nD) (t : Fin cfg0.N) : (dats m 0 c).after 7 t = iblk m c 7 t := by dsimp only [dats]
/-- The proof data at window 8. -/
theorem after0_8 (c : Dev nD) (t : Fin cfg0.N) : (dats m 0 c).after 8 t = iblk m c 8 t := by dsimp only [dats]
/-- The proof data at window 9. -/
theorem after0_9 (c : Dev nD) (t : Fin cfg0.N) : (dats m 0 c).after 9 t = iblk m c 9 t := by dsimp only [dats]

/-- The staging buffer of window 0 (the scale `s_x`) holds its block at every point. -/
theorem before0_0 (c : Dev nD) (t : Fin cfg0.N) (d) : (dats m 0 c).before 0 t d = iblk m c 0 t :=
  before0_0_of m (dats m 0 c) (A_eq m c 0) (after0_0 m c) t d
/-- The staging buffer of window 1 (the scale `s_m`) holds its block at every point. -/
theorem before0_1 (c : Dev nD) (t : Fin cfg0.N) (d) : (dats m 0 c).before 1 t d = iblk m c 1 t :=
  before0_1_of m (dats m 0 c) (A_eq m c 1) (after0_1 m c) t d
/-- The staging buffer of window 2 (the activation codes) holds its block at every point. -/
theorem before0_2 (c : Dev nD) (t : Fin cfg0.N) (d) : (dats m 0 c).before 2 t d = iblk m c 2 t :=
  before0_2_of m (dats m 0 c) (A_eq m c 2) (after0_2 m c) t d
/-- The staging buffer of window 3 (the weight tile) holds its block at every point. -/
theorem before0_3 (c : Dev nD) (t : Fin cfg0.N) (d) : (dats m 0 c).before 3 t d = iblk m c 3 t :=
  before0_3_of m (dats m 0 c) (A_eq m c 3) (after0_3 m c) t d
/-- The staging buffer of window 4 (the weight scale tile) holds its block at every point. -/
theorem before0_4 (c : Dev nD) (t : Fin cfg0.N) (d) : (dats m 0 c).before 4 t d = iblk m c 4 t :=
  before0_4_of m (dats m 0 c) (A_eq m c 4) (after0_4 m c) t d
/-- The staging buffer of window 5 (the bias tile) holds its block at every point. -/
theorem before0_5 (c : Dev nD) (t : Fin cfg0.N) (d) : (dats m 0 c).before 5 t d = iblk m c 5 t :=
  before0_5_of m (dats m 0 c) (A_eq m c 5) (after0_5 m c) t d
/-- The staging buffer of window 6 (the query norm weights) holds its block at every point. -/
theorem before0_6 (c : Dev nD) (t : Fin cfg0.N) (d) : (dats m 0 c).before 6 t d = iblk m c 6 t :=
  before0_6_of m (dats m 0 c) (A_eq m c 6) (after0_6 m c) t d
/-- The staging buffer of window 7 (the key norm weights) holds its block at every point. -/
theorem before0_7 (c : Dev nD) (t : Fin cfg0.N) (d) : (dats m 0 c).before 7 t d = iblk m c 7 t :=
  before0_7_of m (dats m 0 c) (A_eq m c 7) (after0_7 m c) t d
/-- The staging buffer of window 8 (the cosine table) holds its block at every point. -/
theorem before0_8 (c : Dev nD) (t : Fin cfg0.N) (d) : (dats m 0 c).before 8 t d = iblk m c 8 t :=
  before0_8_of m (dats m 0 c) (A_eq m c 8) (after0_8 m c) t d
/-- The staging buffer of window 9 (the signed sine table) holds its block at every point. -/
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- What the body returns at point `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 9600000 in

/-- The body at any point: the closed forms of the branch conditions decide the case, and the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 210 := lt_of_lt_of_eq t.isLt (show cfg0.N = 210 from N_0)
  by_cases h0 : t.val < 30
  · by_cases h1 : (3 ≤ t.val / 10 % 21 ∧ t.val / 10 % 21 ≤ 5)
    · exfalso; omega
    · by_cases h2 : (6 ≤ t.val / 10 % 21 ∧ t.val / 10 % 21 ≤ 8)
      · exfalso; omega
      · by_cases h3 : t.val % 210 = 90
        · exfalso; omega
        · by_cases h4 : 90 ≤ t.val
          · exfalso; omega
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
  · by_cases h1 : (3 ≤ t.val / 10 % 21 ∧ t.val / 10 % 21 ≤ 5)
    · by_cases h2 : (6 ≤ t.val / 10 % 21 ∧ t.val / 10 % 21 ≤ 8)
      · exfalso; omega
      · by_cases h3 : t.val % 210 = 90
        · exfalso; omega
        · by_cases h4 : 90 ≤ t.val
          · exfalso; omega
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
    · by_cases h2 : (6 ≤ t.val / 10 % 21 ∧ t.val / 10 % 21 ≤ 8)
      · by_cases h3 : t.val % 210 = 90
        · exfalso; omega
        · by_cases h4 : 90 ≤ t.val
          · exfalso; omega
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
      · by_cases h3 : t.val % 210 = 90
        · by_cases h4 : 90 ≤ t.val
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_D c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
          · exfalso; omega
        · by_cases h4 : 90 ≤ t.val
          · by_cases h5 : t.val % 210 = 209
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_F c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t)) Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_E c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]; · iexact H15
              iexact H16
          · exfalso; omega

/-- The body called by the pipeline at point `t`. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in

/-- The whole program terminates in the pipeline's final state, with every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program terminates in the pipeline's final state. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- The frame claim: the program terminates, its arguments end unchanged, and every semaphore counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Linear1.Own

end
-- ==== Proof.Linear1IdealPoints.lean ====
/- `linear1`, the idealised kernel: the program up to the pipelined region, the windows' blocks, the branch conditions point by point and the
   staging buffers. -/
module

public import proofs.«01_k».proof.Proof.Gen.Linear1Ideal.Launch
public import proofs.«01_k».proof.Proof.Gen.Linear1Ideal.Skeleton
public import proofs.«01_k».proof.Proof.Gen.Linear1Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers of core `c` when the pipelined region is entered: after the host operations that reshape the operands and build the rotation tables. -/
abbrev V (c : Dev nD) (b : Ref sig .tc) : Buf (Elt F) ((c : Thread nD τ).loc b) := StableHlo.after hostOps0 (fun b => m (c, b)) b

/-- The host operations before the region allocate nothing. -/
theorem hostOps0_fresh : (hostOps0 : List (HloOp τ sig (Elt F))).Forall fun op => op.fresh = ∅ := by
  simp only [List.Forall]; repeat' constructor

set_option maxHeartbeats 800000 in

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Argument 0 is as launched when the pipelined region is entered: no host operation before it writes it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 1 is as launched when the pipelined region is entered: no host operation before it writes it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 2 is as launched when the pipelined region is entered: no host operation before it writes it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 3 is as launched when the pipelined region is entered: no host operation before it writes it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 4 is as launched when the pipelined region is entered: no host operation before it writes it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 5 is as launched when the pipelined region is entered: no host operation before it writes it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 6 is as launched when the pipelined region is entered: no host operation before it writes it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 7 is as launched when the pipelined region is entered: no host operation before it writes it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 8 is as launched when the pipelined region is entered: no host operation before it writes it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 9 is as launched when the pipelined region is entered: no host operation before it writes it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of window `w` at point `t`, read from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of window 0 (the scale `s_x`) holds the window's block at every point, for any proof data over the arrays `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 1 (the scale `s_m`) holds the window's block at every point, for any proof data over the arrays `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 2 (the activation codes) holds the window's block at every point, for any proof data over the arrays `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 3 (the weight tile) holds the window's block at every point, for any proof data over the arrays `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 4 (the weight scale tile) holds the window's block at every point, for any proof data over the arrays `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 5 (the bias tile) holds the window's block at every point, for any proof data over the arrays `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 6 (the query norm weights) holds the window's block at every point, for any proof data over the arrays `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 7 (the key norm weights) holds the window's block at every point, for any proof data over the arrays `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 8 (the cosine table) holds the window's block at every point, for any proof data over the arrays `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The staging buffer of window 9 (the signed sine table) holds the window's block at every point, for any proof data over the arrays `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1020000 in

/-- From any run of the pipeline that leaves the input arrays alone: every argument ends unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-- The condition of the body's branch 0. -/
abbrev cond0_0 (i : grid0.Coords) : Prop := k0_cond1 i = 1#1

/-- The branch condition 0 in closed form, over the number of the point. -/
theorem hcond0_0 : ∀ t : Fin cfg0.N, cond0_0 (grid0.coords t) ↔ t.val < 30 :=
  (by decide +kernel : ∀ t : Fin grid0.N, cond0_0 (grid0.coords t) ↔ t.val < 30)

/-- The condition of the body's branch 1. -/
abbrev cond0_1 (i : grid0.Coords) : Prop := k0_cond2 i = 1#1

/-- The branch condition 1 in closed form, over the number of the point. -/
theorem hcond0_1 : ∀ t : Fin cfg0.N, cond0_1 (grid0.coords t) ↔ (3 ≤ t.val / 10 % 21 ∧ t.val / 10 % 21 ≤ 5) :=
  (by decide +kernel : ∀ t : Fin grid0.N, cond0_1 (grid0.coords t) ↔ (3 ≤ t.val / 10 % 21 ∧ t.val / 10 % 21 ≤ 5))

/-- The condition of the body's branch 2. -/
abbrev cond0_2 (i : grid0.Coords) : Prop := k0_cond3 i = 1#1

/-- The branch condition 2 in closed form, over the number of the point. -/
theorem hcond0_2 : ∀ t : Fin cfg0.N, cond0_2 (grid0.coords t) ↔ (6 ≤ t.val / 10 % 21 ∧ t.val / 10 % 21 ≤ 8) :=
  (by decide +kernel : ∀ t : Fin grid0.N, cond0_2 (grid0.coords t) ↔ (6 ≤ t.val / 10 % 21 ∧ t.val / 10 % 21 ≤ 8))

/-- The condition of the body's branch 3. -/
abbrev cond0_3 (i : grid0.Coords) : Prop := (Scalar.cmpi .ne (Scalar.extui (Scalar.andi (Scalar.cmpi .eq (BitVec.ofNat 32 (i 0).val) 9#32) (Scalar.cmpi .eq (BitVec.ofNat 32 (i 1).val) 0#32))) 0#32) = 1#1

/-- The branch condition 3 in closed form, over the number of the point. -/
theorem hcond0_3 : ∀ t : Fin cfg0.N, cond0_3 (grid0.coords t) ↔ t.val % 210 = 90 :=
  (fun t => by
    have ht : t.val < 210 := Nat.lt_of_lt_of_eq t.isLt N_0
    have e0 : (grid0.coords t 0).val = t.val / 10 % 21 := Pipeline.Grid.coords_val t 0 (by decide) rfl
    have e1 : (grid0.coords t 1).val = t.val / 1 % 10 := Pipeline.Grid.coords_val t 1 (by decide) rfl
    simp only [cond0_3, e0, e1]
    word_cmp
   : ∀ t : Fin grid0.N, cond0_3 (grid0.coords t) ↔ t.val % 210 = 90)

/-- The condition of the body's branch 4. -/
abbrev cond0_4 (i : grid0.Coords) : Prop := k0_cond5 i = 1#1

/-- The branch condition 4 in closed form, over the number of the point. -/
theorem hcond0_4 : ∀ t : Fin cfg0.N, cond0_4 (grid0.coords t) ↔ 90 ≤ t.val :=
  (by decide +kernel : ∀ t : Fin grid0.N, cond0_4 (grid0.coords t) ↔ 90 ≤ t.val)

/-- The condition of the body's branch 5. -/
abbrev cond0_5 (i : grid0.Coords) : Prop := k0_cond6 i = 1#1

/-- The branch condition 5 in closed form, over the number of the point. -/
theorem hcond0_5 : ∀ t : Fin cfg0.N, cond0_5 (grid0.coords t) ↔ t.val % 210 = 209 :=
  (fun t => by
    have ht : t.val < 210 := Nat.lt_of_lt_of_eq t.isLt N_0
    have e0 : (grid0.coords t 0).val = t.val / 10 % 21 := Pipeline.Grid.coords_val t 0 (by decide) rfl
    have e1 : (grid0.coords t 1).val = t.val / 1 % 10 := Pipeline.Grid.coords_val t 1 (by decide) rfl
    simp only [cond0_5, k0_cond6, e0, e1]
    word_cmp
   : ∀ t : Fin grid0.N, cond0_5 (grid0.coords t) ↔ t.val % 210 = 209)

/-- Window 0 is used at every point. -/
theorem liveAt0_0 : ∀ t : Fin cfg0.N, cfg0.idle 0 (grid0.coords t) = false := fun _ => rfl

/-- Window 1 is used at every point. -/
theorem liveAt0_1 : ∀ t : Fin cfg0.N, cfg0.idle 1 (grid0.coords t) = false := fun _ => rfl

/-- Window 2 is used at every point. -/
theorem liveAt0_2 : ∀ t : Fin cfg0.N, cfg0.idle 2 (grid0.coords t) = false := fun _ => rfl

/-- Window 3 is used at every point. -/
theorem liveAt0_3 : ∀ t : Fin cfg0.N, cfg0.idle 3 (grid0.coords t) = false := fun _ => rfl

/-- Window 4 is used at every point. -/
theorem liveAt0_4 : ∀ t : Fin cfg0.N, cfg0.idle 4 (grid0.coords t) = false := fun _ => rfl

/-- Window 5 is used at every point. -/
theorem liveAt0_5 : ∀ t : Fin cfg0.N, cfg0.idle 5 (grid0.coords t) = false := fun _ => rfl

/-- Window 6 is used at every point. -/
theorem liveAt0_6 : ∀ t : Fin cfg0.N, cfg0.idle 6 (grid0.coords t) = false := fun _ => rfl

/-- Window 7 is used at every point. -/
theorem liveAt0_7 : ∀ t : Fin cfg0.N, cfg0.idle 7 (grid0.coords t) = false := fun _ => rfl

/-- Window 8 is used at every point. -/
theorem liveAt0_8 : ∀ t : Fin cfg0.N, cfg0.idle 8 (grid0.coords t) = false := fun _ => rfl

/-- Window 9 is used at every point. -/
theorem liveAt0_9 : ∀ t : Fin cfg0.N, cfg0.idle 9 (grid0.coords t) = false := fun _ => rfl

/-- The branch conditions of case A: points 0 to 29 (the query columns). -/
abbrev conds0_A (i : grid0.Coords) : Prop := cond0_0 i ∧ ¬cond0_1 i ∧ ¬cond0_2 i ∧ ¬cond0_3 i ∧ ¬cond0_4 i ∧ ¬cond0_5 i
/-- Which case a point is in is decidable. -/
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance inferInstance))))

/-- The branch conditions of case B: points 30 to 59 (the key columns). -/
abbrev conds0_B (i : grid0.Coords) : Prop := ¬cond0_0 i ∧ cond0_1 i ∧ ¬cond0_2 i ∧ ¬cond0_3 i ∧ ¬cond0_4 i ∧ ¬cond0_5 i
/-- Which case a point is in is decidable. -/
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance inferInstance))))

/-- The branch conditions of case C: points 60 to 89 (the value columns). -/
abbrev conds0_C (i : grid0.Coords) : Prop := ¬cond0_0 i ∧ ¬cond0_1 i ∧ cond0_2 i ∧ ¬cond0_3 i ∧ ¬cond0_4 i ∧ ¬cond0_5 i
/-- Which case a point is in is decidable. -/
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance inferInstance))))

/-- The branch conditions of case D: point 90 (the first tile of the MLP columns, which clears the running maximum first). -/
abbrev conds0_D (i : grid0.Coords) : Prop := ¬cond0_0 i ∧ ¬cond0_1 i ∧ ¬cond0_2 i ∧ cond0_3 i ∧ cond0_4 i ∧ ¬cond0_5 i
/-- Which case a point is in is decidable. -/
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance inferInstance))))

/-- The branch conditions of case E: points 91 to 208 (the MLP columns). -/
abbrev conds0_E (i : grid0.Coords) : Prop := ¬cond0_0 i ∧ ¬cond0_1 i ∧ ¬cond0_2 i ∧ ¬cond0_3 i ∧ cond0_4 i ∧ ¬cond0_5 i
/-- Which case a point is in is decidable. -/
instance conds0_E.dec (i : grid0.Coords) : Decidable (conds0_E i) :=
  @instDecidableAnd _ _ inferInstance (@instDecidableAnd _ _ inferInstance (@instDecidableAnd _ _ inferInstance (@instDecidableAnd _ _ inferInstance (@instDecidableAnd _ _ inferInstance inferInstance))))

/-- The branch conditions of case F: point 209 (the last tile, which also writes the running maximum out). -/
abbrev conds0_F (i : grid0.Coords) : Prop := ¬cond0_0 i ∧ ¬cond0_1 i ∧ ¬cond0_2 i ∧ ¬cond0_3 i ∧ cond0_4 i ∧ cond0_5 i
/-- Which case a point is in is decidable. -/
instance conds0_F.dec (i : grid0.Coords) : Decidable (conds0_F i) :=
  @instDecidableAnd _ _ inferInstance (@instDecidableAnd _ _ inferInstance (@instDecidableAnd _ _ inferInstance (@instDecidableAnd _ _ inferInstance (@instDecidableAnd _ _ inferInstance inferInstance))))

/-- At points 0 to 29 (the query columns) the body stores the rotated queries. -/
theorem liveAt0_10_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 10 (grid0.coords t) = false :=
  fun t h0 h1 h2 h3 h4 h5 => (by decide +kernel : ∀ t : Fin cfg0.N, conds0_A (grid0.coords t) → cfg0.idle 10 (grid0.coords t) = false) t ⟨h0, h1, h2, h3, h4, h5⟩

/-- At points 30 to 59 (the key columns) the body stores nothing into the window of the rotated queries. -/
theorem idleAt0_10_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 10 (grid0.coords t) = true :=
  fun t h0 h1 h2 h3 h4 h5 => (by decide +kernel : ∀ t : Fin cfg0.N, conds0_B (grid0.coords t) → cfg0.idle 10 (grid0.coords t) = true) t ⟨h0, h1, h2, h3, h4, h5⟩

/-- At points 30 to 59 (the key columns) the block of the rotated queries is not written back. -/
theorem noFlush0_10_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → (cfg0.win 10).flush t = false :=
  fun t h0 h1 h2 h3 h4 h5 => (by decide +kernel : ∀ t : Fin cfg0.N, conds0_B (grid0.coords t) → (cfg0.win 10).flush t = false) t ⟨h0, h1, h2, h3, h4, h5⟩

/-- At points 60 to 89 (the value columns) the body stores nothing into the window of the rotated queries. -/
theorem idleAt0_10_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 10 (grid0.coords t) = true :=
  fun t h0 h1 h2 h3 h4 h5 => (by decide +kernel : ∀ t : Fin cfg0.N, conds0_C (grid0.coords t) → cfg0.idle 10 (grid0.coords t) = true) t ⟨h0, h1, h2, h3, h4, h5⟩

/-- At points 60 to 89 (the value columns) the block of the rotated queries is not written back. -/
theorem noFlush0_10_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 10).flush t = false :=
  fun t h0 h1 h2 h3 h4 h5 => (by decide +kernel : ∀ t : Fin cfg0.N, conds0_C (grid0.coords t) → (cfg0.win 10).flush t = false) t ⟨h0, h1, h2, h3, h4, h5⟩

/-- At point 90 (the first tile of the MLP columns, which clears the running maximum first) the body stores nothing into the window of the rotated queries. -/
theorem idleAt0_10_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → cfg0.idle 10 (grid0.coords t) = true :=
  fun t h0 h1 h2 h3 h4 h5 => (by decide +kernel : ∀ t : Fin cfg0.N, conds0_D (grid0.coords t) → cfg0.idle 10 (grid0.coords t) = true) t ⟨h0, h1, h2, h3, h4, h5⟩

/-- At point 90 (the first tile of the MLP columns, which clears the running maximum first) the block of the rotated queries is not written back. -/
theorem noFlush0_10_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → (cfg0.win 10).flush t = false :=
  fun t h0 h1 h2 h3 h4 h5 => (by decide +kernel : ∀ t : Fin cfg0.N, conds0_D (grid0.coords t) → (cfg0.win 10).flush t = false) t ⟨h0, h1, h2, h3, h4, h5⟩

/-- At points 91 to 208 (the MLP columns) the body stores nothing into the window of the rotated queries. -/
theorem idleAt0_10_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 10 (grid0.coords t) = true :=
  fun t h0 h1 h2 h3 h4 h5 => (by decide +kernel : ∀ t : Fin cfg0.N, conds0_E (grid0.coords t) → cfg0.idle 10 (grid0.coords t) = true) t ⟨h0, h1, h2, h3, h4, h5⟩

/-- At points 91 to 208 (the MLP columns) the block of the rotated queries is not written back. -/
theorem noFlush0_10_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → (cfg0.win 10).flush t = false :=
  fun t h0 h1 h2 h3 h4 h5 => (by decide +kernel : ∀ t : Fin cfg0.N, conds0_E (grid0.coords t) → (cfg0.win 10).flush t = false) t ⟨h0, h1, h2, h3, h4, h5⟩

/-- At point 209 (the last tile, which also writes the running maximum out) the body stores nothing into the window of the rotated queries. -/
theorem idleAt0_10_F : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → cfg0.idle 10 (grid0.coords t) = true :=
  fun t h0 h1 h2 h3 h4 h5 => (by decide +kernel : ∀ t : Fin cfg0.N, conds0_F (grid0.coords t) → cfg0.idle 10 (grid0.coords t) = true) t ⟨h0, h1, h2, h3, h4, h5⟩

/-- At point 209 (the last tile, which also writes the running maximum out) the block of the rotated queries is written back. -/
theorem flush0_10_F : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → (cfg0.win 10).flush t = true :=
  fun t h0 h1 h2 h3 h4 h5 => (by decide +kernel : ∀ t : Fin cfg0.N, conds0_F (grid0.coords t) → (cfg0.win 10).flush t = true) t ⟨h0, h1, h2, h3, h4, h5⟩

/-- At points 0 to 29 (the query columns) the body stores nothing into the window of the rotated keys. -/
theorem idleAt0_11_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 11 (grid0.coords t) = true :=
  fun t h0 h1 h2 h3 h4 h5 => (by decide +kernel : ∀ t : Fin cfg0.N, conds0_A (grid0.coords t) → cfg0.idle 11 (grid0.coords t) = true) t ⟨h0, h1, h2, h3, h4, h5⟩

/-- At points 0 to 29 (the query columns) the block of the rotated keys is not written back. -/
theorem noFlush0_11_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 11).flush t = false :=
  fun t h0 h1 h2 h3 h4 h5 => (by decide +kernel : ∀ t : Fin cfg0.N, conds0_A (grid0.coords t) → (cfg0.win 11).flush t = false) t ⟨h0, h1, h2, h3, h4, h5⟩

/-- At points 30 to 59 (the key columns) the body stores the rotated keys. -/
theorem liveAt0_11_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 11 (grid0.coords t) = false :=
  fun t h0 h1 h2 h3 h4 h5 => (by decide +kernel : ∀ t : Fin cfg0.N, conds0_B (grid0.coords t) → cfg0.idle 11 (grid0.coords t) = false) t ⟨h0, h1, h2, h3, h4, h5⟩

/-- At points 60 to 89 (the value columns) the body stores nothing into the window of the rotated keys. -/
theorem idleAt0_11_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 11 (grid0.coords t) = true :=
  fun t h0 h1 h2 h3 h4 h5 => (by decide +kernel : ∀ t : Fin cfg0.N, conds0_C (grid0.coords t) → cfg0.idle 11 (grid0.coords t) = true) t ⟨h0, h1, h2, h3, h4, h5⟩

/-- At points 60 to 89 (the value columns) the block of the rotated keys is not written back. -/
theorem noFlush0_11_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 11).flush t = false :=
  fun t h0 h1 h2 h3 h4 h5 => (by decide +kernel : ∀ t : Fin cfg0.N, conds0_C (grid0.coords t) → (cfg0.win 11).flush t = false) t ⟨h0, h1, h2, h3, h4, h5⟩

/-- At point 90 (the first tile of the MLP columns, which clears the running maximum first) the body stores nothing into the window of the rotated keys. -/
theorem idleAt0_11_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → cfg0.idle 11 (grid0.coords t) = true :=
  fun t h0 h1 h2 h3 h4 h5 => (by decide +kernel : ∀ t : Fin cfg0.N, conds0_D (grid0.coords t) → cfg0.idle 11 (grid0.coords t) = true) t ⟨h0, h1, h2, h3, h4, h5⟩

/-- At point 90 (the first tile of the MLP columns, which clears the running maximum first) the block of the rotated keys is not written back. -/
theorem noFlush0_11_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → (cfg0.win 11).flush t = false :=
  fun t h0 h1 h2 h3 h4 h5 => (by decide +kernel : ∀ t : Fin cfg0.N, conds0_D (grid0.coords t) → (cfg0.win 11).flush t = false) t ⟨h0, h1, h2, h3, h4, h5⟩

/-- At points 91 to 208 (the MLP columns) the body stores nothing into the window of the rotated keys. -/
theorem idleAt0_11_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 11 (grid0.coords t) = true :=
  fun t h0 h1 h2 h3 h4 h5 => (by decide +kernel : ∀ t : Fin cfg0.N, conds0_E (grid0.coords t) → cfg0.idle 11 (grid0.coords t) = true) t ⟨h0, h1, h2, h3, h4, h5⟩

/-- At points 91 to 208 (the MLP columns) the block of the rotated keys is not written back. -/
theorem noFlush0_11_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → (cfg0.win 11).flush t = false :=
  fun t h0 h1 h2 h3 h4 h5 => (by decide +kernel : ∀ t : Fin cfg0.N, conds0_E (grid0.coords t) → (cfg0.win 11).flush t = false) t ⟨h0, h1, h2, h3, h4, h5⟩

/-- At point 209 (the last tile, which also writes the running maximum out) the body stores nothing into the window of the rotated keys. -/
theorem idleAt0_11_F : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → cfg0.idle 11 (grid0.coords t) = true :=
  fun t h0 h1 h2 h3 h4 h5 => (by decide +kernel : ∀ t : Fin cfg0.N, conds0_F (grid0.coords t) → cfg0.idle 11 (grid0.coords t) = true) t ⟨h0, h1, h2, h3, h4, h5⟩

/-- At point 209 (the last tile, which also writes the running maximum out) the block of the rotated keys is written back. -/
theorem flush0_11_F : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → (cfg0.win 11).flush t = true :=
  fun t h0 h1 h2 h3 h4 h5 => (by decide +kernel : ∀ t : Fin cfg0.N, conds0_F (grid0.coords t) → (cfg0.win 11).flush t = true) t ⟨h0, h1, h2, h3, h4, h5⟩

/-- At points 0 to 29 (the query columns) the body stores nothing into the window of the MLP codes. -/
theorem idleAt0_15_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 15 (grid0.coords t) = true :=
  fun t h0 h1 h2 h3 h4 h5 => (by decide +kernel : ∀ t : Fin cfg0.N, conds0_A (grid0.coords t) → cfg0.idle 15 (grid0.coords t) = true) t ⟨h0, h1, h2, h3, h4, h5⟩

/-- At points 0 to 29 (the query columns) the block of the MLP codes is not written back. -/
theorem noFlush0_15_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 15).flush t = false :=
  fun t h0 h1 h2 h3 h4 h5 => (by decide +kernel : ∀ t : Fin cfg0.N, conds0_A (grid0.coords t) → (cfg0.win 15).flush t = false) t ⟨h0, h1, h2, h3, h4, h5⟩

/-- At points 30 to 59 (the key columns) the body stores nothing into the window of the MLP codes. -/
theorem idleAt0_15_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 15 (grid0.coords t) = true :=
  fun t h0 h1 h2 h3 h4 h5 => (by decide +kernel : ∀ t : Fin cfg0.N, conds0_B (grid0.coords t) → cfg0.idle 15 (grid0.coords t) = true) t ⟨h0, h1, h2, h3, h4, h5⟩

/-- At points 30 to 59 (the key columns) the block of the MLP codes is not written back. -/
theorem noFlush0_15_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → (cfg0.win 15).flush t = false :=
  fun t h0 h1 h2 h3 h4 h5 => (by decide +kernel : ∀ t : Fin cfg0.N, conds0_B (grid0.coords t) → (cfg0.win 15).flush t = false) t ⟨h0, h1, h2, h3, h4, h5⟩

/-- At points 60 to 89 (the value columns) the body stores nothing into the window of the MLP codes. -/
theorem idleAt0_15_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 15 (grid0.coords t) = true :=
  fun t h0 h1 h2 h3 h4 h5 => (by decide +kernel : ∀ t : Fin cfg0.N, conds0_C (grid0.coords t) → cfg0.idle 15 (grid0.coords t) = true) t ⟨h0, h1, h2, h3, h4, h5⟩

/-- At points 60 to 89 (the value columns) the block of the MLP codes is not written back. -/
theorem noFlush0_15_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 15).flush t = false :=
  fun t h0 h1 h2 h3 h4 h5 => (by decide +kernel : ∀ t : Fin cfg0.N, conds0_C (grid0.coords t) → (cfg0.win 15).flush t = false) t ⟨h0, h1, h2, h3, h4, h5⟩

/-- At point 90 (the first tile of the MLP columns, which clears the running maximum first) the body stores the MLP codes. -/
theorem liveAt0_15_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → cfg0.idle 15 (grid0.coords t) = false :=
  fun t h0 h1 h2 h3 h4 h5 => (by decide +kernel : ∀ t : Fin cfg0.N, conds0_D (grid0.coords t) → cfg0.idle 15 (grid0.coords t) = false) t ⟨h0, h1, h2, h3, h4, h5⟩

/-- At points 91 to 208 (the MLP columns) the body stores the MLP codes. -/
theorem liveAt0_15_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 15 (grid0.coords t) = false :=
  fun t h0 h1 h2 h3 h4 h5 => (by decide +kernel : ∀ t : Fin cfg0.N, conds0_E (grid0.coords t) → cfg0.idle 15 (grid0.coords t) = false) t ⟨h0, h1, h2, h3, h4, h5⟩

/-- At point 209 (the last tile, which also writes the running maximum out) the body stores the MLP codes. -/
theorem liveAt0_15_F : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → cfg0.idle 15 (grid0.coords t) = false :=
  fun t h0 h1 h2 h3 h4 h5 => (by decide +kernel : ∀ t : Fin cfg0.N, conds0_F (grid0.coords t) → cfg0.idle 15 (grid0.coords t) = false) t ⟨h0, h1, h2, h3, h4, h5⟩

/-- The staging buffer of the rotated queries, as a view. -/
abbrev VO0_10 : View sig .tc .vmem S768x8x128 .bf16 := (Memref.whole cc0_stg10_0 : Memref sig .tc .vmem S768x8x128 .bf16).view

/-- The staging buffer of the rotated keys, as a view. -/
abbrev VO0_11 : View sig .tc .vmem S768x8x128 .bf16 := (Memref.whole cc0_stg11_0 : Memref sig .tc .vmem S768x8x128 .bf16).view

/-- The staging buffer of the MLP codes, as a view. -/
abbrev VO0_15 : View sig .tc .vmem S768x1024 .fp8e4m3 := (Memref.whole cc0_stg15_0 : Memref sig .tc .vmem S768x1024 .fp8e4m3).view

/-- The staging buffer of window 0 at a point. -/
abbrev ms0_0 (t : Fin cfg0.N) : Memref sig .tc .smem S1 .f32 := win0_0.stage (cfg0.slots t 0)
/-- It is a whole buffer. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .smem S1 .f32 := win0_1.stage (cfg0.slots t 1)
/-- It is a whole buffer. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S7680x3072 .fp8e4m3 := win0_2.stage (cfg0.slots t 2)
/-- It is a whole buffer. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S3072x1024 .fp8e4m3 := win0_3.stage (cfg0.slots t 3)
/-- It is a whole buffer. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S1x1024 .f32 := win0_4.stage (cfg0.slots t 4)
/-- It is a whole buffer. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S1x1024 .f32 := win0_5.stage (cfg0.slots t 5)
/-- It is a whole buffer. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S1x128 .f32 := win0_6.stage (cfg0.slots t 6)
/-- It is a whole buffer. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S1x128 .f32 := win0_7.stage (cfg0.slots t 7)
/-- It is a whole buffer. -/
abbrev hs0_7 (t : Fin cfg0.N) : (ms0_7 t).IsWhole := hstage0_7 ((cfg0.slots t 7).cast nbuf0_7)
/-- The staging buffer of window 8 at a point. -/
abbrev ms0_8 (t : Fin cfg0.N) : Memref sig .tc .vmem S768x128 .f32 := win0_8.stage (cfg0.slots t 8)
/-- It is a whole buffer. -/
abbrev hs0_8 (t : Fin cfg0.N) : (ms0_8 t).IsWhole := hstage0_8 ((cfg0.slots t 8).cast nbuf0_8)
/-- The staging buffer of window 9 at a point. -/
abbrev ms0_9 (t : Fin cfg0.N) : Memref sig .tc .vmem S768x128 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at a point. -/
abbrev ms0_10 (t : Fin cfg0.N) : Memref sig .tc .vmem S768x8x128 .bf16 := win0_10.stage (cfg0.slots t 10)
/-- It is a whole buffer. -/
abbrev hs0_10 (t : Fin cfg0.N) : (ms0_10 t).IsWhole := hstage0_10 ((cfg0.slots t 10).cast nbuf0_10)
/-- The staging buffer of window 11 at a point. -/
abbrev ms0_11 (t : Fin cfg0.N) : Memref sig .tc .vmem S768x8x128 .bf16 := win0_11.stage (cfg0.slots t 11)
/-- It is a whole buffer. -/
abbrev hs0_11 (t : Fin cfg0.N) : (ms0_11 t).IsWhole := hstage0_11 ((cfg0.slots t 11).cast nbuf0_11)
/-- The staging buffer of window 12 at a point. -/
abbrev ms0_12 (t : Fin cfg0.N) : Memref sig .tc .vmem S8x768x128 .bf16 := win0_12.stage (cfg0.slots t 12)
/-- It is a whole buffer. -/
abbrev hs0_12 (t : Fin cfg0.N) : (ms0_12 t).IsWhole := hstage0_12 ((cfg0.slots t 12).cast nbuf0_12)
/-- The staging buffer of window 13 at a point. -/
abbrev ms0_13 (t : Fin cfg0.N) : Memref sig .tc .vmem S8x768x128 .bf16 := win0_13.stage (cfg0.slots t 13)
/-- It is a whole buffer. -/
abbrev hs0_13 (t : Fin cfg0.N) : (ms0_13 t).IsWhole := hstage0_13 ((cfg0.slots t 13).cast nbuf0_13)
/-- The staging buffer of window 14 at a point. -/
abbrev ms0_14 (t : Fin cfg0.N) : Memref sig .tc .vmem S1024x768 .bf16 := win0_14.stage (cfg0.slots t 14)
/-- It is a whole buffer. -/
abbrev hs0_14 (t : Fin cfg0.N) : (ms0_14 t).IsWhole := hstage0_14 ((cfg0.slots t 14).cast nbuf0_14)
/-- The staging buffer of window 15 at a point. -/
abbrev ms0_15 (t : Fin cfg0.N) : Memref sig .tc .vmem S768x1024 .fp8e4m3 := win0_15.stage (cfg0.slots t 15)
/-- It is a whole buffer. -/
abbrev hs0_15 (t : Fin cfg0.N) : (ms0_15 t).IsWhole := hstage0_15 ((cfg0.slots t 15).cast nbuf0_15)
/-- The staging buffer of window 16 at a point. -/
abbrev ms0_16 (t : Fin cfg0.N) : Memref sig .tc .smem S1x1 .f32 := win0_16.stage (cfg0.slots t 16)
/-- It is a whole buffer. -/
abbrev hs0_16 (t : Fin cfg0.N) : (ms0_16 t).IsWhole := hstage0_16 ((cfg0.slots t 16).cast nbuf0_16)

/-- The scratch that carries the running maximum. -/
abbrev scM0_0 : Memref sig .tc .vmem S8x512 .f32 := Memref.whole cc0_scratch0

/-- The invariant between points: the scratch is owned at some contents, and so is the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Linear1Ideal.Own

end
-- ==== Proof.Linear1IdealCaseA.lean ====
/- `linear1`, the idealised kernel: the body at points 0 to 29 (the query columns). -/
module

public import proofs.«01_k».proof.Proof.Linear1IdealPoints

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1456000 in

/-- The body in case A, points 0 to 29 (the query columns): on whole staging buffers, the inputs' at their contents, the outputs' and the scratch at anything, it runs to its end with the inputs' buffers as they were and the pieces it stored written into the named outputs' buffers. Nothing is said of what the other outputs and the scratch hold. -/
noncomputable def kernelRun0_A (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : cond0_0 i) (hc1 : ¬cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
    Σ' (L10 : List (View.Piece (Elt F) S768x8x128 .bf16)), Σ' (L11 : List (View.Piece (Elt F) S768x8x128 .bf16)), { L15 : List (View.Piece (Elt F) S768x1024 .fp8e4m3) //
      ∀ (xi11 : Vec F S768x8x128 .bf16) (xi15 : Vec F S768x1024 .fp8e4m3) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, [], [], fun xi11 xi15 E K => ?run⟩
  case run =>
    simp only [cc0_linear1_eq_skeleton]; unfold cc0_linear1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, ⟨%d14, %f14, -, H14⟩, ⟨%f15, %hf15, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg17.eq_unread hf15
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _; isplitr; · ipureintro; exact harg17.read_unread _
      iexact H15
    isplitl [H16]
    · iexists _, _; isplitr; swap; · iexact H16
      ipureintro; rfl
    iexists _, _; isplitr; swap; · iexact HS0
    ipureintro; rfl

end Cert.Linear1Ideal.Own

end
-- ==== Proof.Linear1IdealCaseB.lean ====
/- `linear1`, the idealised kernel: the body at points 30 to 59 (the key columns). -/
module

public import proofs.«01_k».proof.Proof.Linear1IdealPoints

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1456000 in

/-- The body in case B, points 30 to 59 (the key columns): on whole staging buffers, the inputs' at their contents, the outputs' and the scratch at anything, it runs to its end with the inputs' buffers as they were and the pieces it stored written into the named outputs' buffers. Nothing is said of what the other outputs and the scratch hold. -/
noncomputable def kernelRun0_B (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
    Σ' (L10 : List (View.Piece (Elt F) S768x8x128 .bf16)), Σ' (L11 : List (View.Piece (Elt F) S768x8x128 .bf16)), { L15 : List (View.Piece (Elt F) S768x1024 .fp8e4m3) //
      ∀ (xi10 : Vec F S768x8x128 .bf16) (xi15 : Vec F S768x1024 .fp8e4m3) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, [], fun xi10 xi15 E K => ?run⟩
  case run =>
    simp only [cc0_linear1_eq_skeleton]; unfold cc0_linear1_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _; isplitr; · ipureintro; exact harg17.read_unread _
      iexact H15
    isplitl [H16]
    · iexists _, _; isplitr; swap; · iexact H16
      ipureintro; rfl
    iexists _, _; isplitr; swap; · iexact HS0
    ipureintro; rfl

end Cert.Linear1Ideal.Own

end
-- ==== Proof.Linear1IdealCaseC.lean ====
/- `linear1`, the idealised kernel: the body at points 60 to 89 (the value columns). -/
module

public import proofs.«01_k».proof.Proof.Linear1IdealPoints

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

/-- The body in case C, points 60 to 89 (the value columns): on whole staging buffers, the inputs' at their contents, the outputs' and the scratch at anything, it runs to its end with the inputs' buffers as they were and the pieces it stored written into the named outputs' buffers. Nothing is said of what the other outputs and the scratch hold. -/
noncomputable def kernelRun0_C (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
    Σ' (L10 : List (View.Piece (Elt F) S768x8x128 .bf16)), Σ' (L11 : List (View.Piece (Elt F) S768x8x128 .bf16)), { L15 : List (View.Piece (Elt F) S768x1024 .fp8e4m3) //
      ∀ (xi10 : Vec F S768x8x128 .bf16) (xi11 : Vec F S768x8x128 .bf16) (xi15 : Vec F S768x1024 .fp8e4m3) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xi15 ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], [], fun xi10 xi11 xi15 E K => ?run⟩
  case run =>
    simp only [cc0_linear1_eq_skeleton]; unfold cc0_linear1_skel
    simp only [k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _; isplitr; · ipureintro; exact harg17.read_unread _
      iexact H15
    isplitl [H16]
    · iexists _, _; isplitr; swap; · iexact H16
      ipureintro; rfl
    iexists _, _; isplitr; swap; · iexact HS0
    ipureintro; rfl

end Cert.Linear1Ideal.Own

end
-- ==== Proof.Linear1IdealCaseD.lean ====
/- `linear1`, the idealised kernel: the body at point 90 (the first tile of the MLP columns, which clears the running maximum first). -/
module

public import proofs.«01_k».proof.Proof.Linear1IdealPoints

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

/-- The body in case D, point 90 (the first tile of the MLP columns, which clears the running maximum first): on whole staging buffers, the inputs' at their contents, the outputs' and the scratch at anything, it runs to its end with the inputs' buffers as they were and the pieces it stored written into the named outputs' buffers. Nothing is said of what the other outputs and the scratch hold. -/
noncomputable def kernelRun0_D (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
    Σ' (L10 : List (View.Piece (Elt F) S768x8x128 .bf16)), Σ' (L11 : List (View.Piece (Elt F) S768x8x128 .bf16)), { L15 : List (View.Piece (Elt F) S768x1024 .fp8e4m3) //
      ∀ (xi10 : Vec F S768x8x128 .bf16) (xi11 : Vec F S768x8x128 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f L15) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], ?_, fun xi10 xi11 E K => ?run⟩
  case run =>
    simp only [cc0_linear1_eq_skeleton]; unfold cc0_linear1_skel
    simp only [k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]; · iexists _; iexact H15
    isplitl [H16]
    · iexists _, _; isplitr; swap; · iexact H16
      ipureintro; rfl
    iexists _, _; isplitr; swap; · iexact HS0
    ipureintro; rfl

end Cert.Linear1Ideal.Own

end
-- ==== Proof.Linear1IdealCaseE.lean ====
/- `linear1`, the idealised kernel: the body at points 91 to 208 (the MLP columns). -/
module

public import proofs.«01_k».proof.Proof.Linear1IdealPoints

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

/-- The body in case E, points 91 to 208 (the MLP columns): on whole staging buffers, the inputs' at their contents, the outputs' and the scratch at anything, it runs to its end with the inputs' buffers as they were and the pieces it stored written into the named outputs' buffers. Nothing is said of what the other outputs and the scratch hold. -/
noncomputable def kernelRun0_E (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
    Σ' (L10 : List (View.Piece (Elt F) S768x8x128 .bf16)), Σ' (L11 : List (View.Piece (Elt F) S768x8x128 .bf16)), { L15 : List (View.Piece (Elt F) S768x1024 .fp8e4m3) //
      ∀ (xi10 : Vec F S768x8x128 .bf16) (xi11 : Vec F S768x8x128 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f L15) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], ?_, fun xi10 xi11 E K => ?run⟩
  case run =>
    simp only [cc0_linear1_eq_skeleton]; unfold cc0_linear1_skel
    simp only [k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]; · iexists _; iexact H15
    isplitl [H16]
    · iexists _, _; isplitr; swap; · iexact H16
      ipureintro; rfl
    iexists _, _; isplitr; swap; · iexact HS0
    ipureintro; rfl

end Cert.Linear1Ideal.Own

end
-- ==== Proof.Linear1IdealCaseF.lean ====
/- `linear1`, the idealised kernel: the body at point 209 (the last tile, which also writes the running maximum out). -/
module

public import proofs.«01_k».proof.Proof.Linear1IdealPoints

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

/-- The body in case F, point 209 (the last tile, which also writes the running maximum out): on whole staging buffers, the inputs' at their contents, the outputs' and the scratch at anything, it runs to its end with the inputs' buffers as they were and the pieces it stored written into the named outputs' buffers. Nothing is said of what the other outputs and the scratch hold. -/
noncomputable def kernelRun0_F (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) :
    Σ' (L10 : List (View.Piece (Elt F) S768x8x128 .bf16)), Σ' (L11 : List (View.Piece (Elt F) S768x8x128 .bf16)), { L15 : List (View.Piece (Elt F) S768x1024 .fp8e4m3) //
      ∀ (xi10 : Vec F S768x8x128 .bf16) (xi11 : Vec F S768x8x128 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f L15) ∗ (∃ d, owns (c : Thread nD τ) arg18 fullShare d) ∗ (∃ d, owns (c : Thread nD τ) arg19 fullShare d)) -∗ K ⟨⟩))
          ⊢ wp frame (wpE (defs₀ (F := F)) Variants.none c none) E (cc0_linear1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], ?_, fun xi10 xi11 E K => ?run⟩
  case run =>
    simp only [cc0_linear1_eq_skeleton]; unfold cc0_linear1_skel
    simp only [k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]; · iexists _; iexact H15
    isplitl [H16]
    · iexists _, _; isplitr; swap; · iexact H16
      ipureintro; rfl
    iexists _, _; isplitr; swap; · iexact HS0
    ipureintro; rfl

end Cert.Linear1Ideal.Own

end
-- ==== Proof.Linear1IdealTiles.lean ====
/- `linear1`, the idealised kernel: what the stores of each case leave in the outputs' buffers. -/
module

public import proofs.«01_k».proof.Proof.Linear1IdealCaseA
public import proofs.«01_k».proof.Proof.Linear1IdealCaseB
public import proofs.«01_k».proof.Proof.Linear1IdealCaseC
public import proofs.«01_k».proof.Proof.Linear1IdealCaseD
public import proofs.«01_k».proof.Proof.Linear1IdealCaseE
public import proofs.«01_k».proof.Proof.Linear1IdealCaseF
public import Idealize.ShloMosaic.Lib.Claim

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Case A: the pieces stored into the buffer of the rotated queries tile it. -/
theorem cover0_A_10 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : cond0_0 i) (hc1 : ¬cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) (y : S768x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).1 S256x2x128.size (by sl_kernel_rfl) y

/-- Case A: what the stores leave in the buffer of the rotated queries. -/
def out0_A_10 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : cond0_0 i) (hc1 : ¬cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) : Vec F S768x8x128 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).1)

/-- Case B: the pieces stored into the buffer of the rotated keys tile it. -/
theorem cover0_B_11 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) (y : S768x8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.1 S256x2x128.size (by sl_kernel_rfl) y

/-- Case B: what the stores leave in the buffer of the rotated keys. -/
def out0_B_11 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : cond0_1 i) (hc2 : ¬cond0_2 i) (hc3 : ¬cond0_3 i) (hc4 : ¬cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) : Vec F S768x8x128 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.1)

/-- Case D: the pieces stored into the buffer of the MLP codes tile it. -/
theorem cover0_D_15 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) (y : S768x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1 S256x512.size (by sl_kernel_rfl) y

/-- Case D: what the stores leave in the buffer of the MLP codes. -/
def out0_D_15 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) : Vec F S768x1024 .fp8e4m3 :=
  VO0_15.read (Elt F) (VO0_15.writes (Elt F) VO0_15.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1)

/-- Case E: the pieces stored into the buffer of the MLP codes tile it. -/
theorem cover0_E_15 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) (y : S768x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1 S256x512.size (by sl_kernel_rfl) y

/-- Case E: what the stores leave in the buffer of the MLP codes. -/
def out0_E_15 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : ¬cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) : Vec F S768x1024 .fp8e4m3 :=
  VO0_15.read (Elt F) (VO0_15.writes (Elt F) VO0_15.junk (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1)

/-- Case F: the pieces stored into the buffer of the MLP codes tile it. -/
theorem cover0_F_15 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) (y : S768x1024.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1 S256x512.size (by sl_kernel_rfl) y

/-- Case F: what the stores leave in the buffer of the MLP codes. -/
def out0_F_15 (c : Dev nD) (i : grid0.Coords) (arg2 : Memref sig .tc .smem S1 .f32) (harg2 : arg2.IsWhole) (arg3 : Memref sig .tc .smem S1 .f32) (harg3 : arg3.IsWhole) (arg4 : Memref sig .tc .vmem S7680x3072 .fp8e4m3) (harg4 : arg4.IsWhole) (arg5 : Memref sig .tc .vmem S3072x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S768x8x128 .bf16) (harg12 : arg12.IsWhole) (arg13 : Memref sig .tc .vmem S768x8x128 .bf16) (harg13 : arg13.IsWhole) (arg14 : Memref sig .tc .vmem S8x768x128 .bf16) (harg14 : arg14.IsWhole) (arg15 : Memref sig .tc .vmem S8x768x128 .bf16) (harg15 : arg15.IsWhole) (arg16 : Memref sig .tc .vmem S1024x768 .bf16) (harg16 : arg16.IsWhole) (arg17 : Memref sig .tc .vmem S768x1024 .fp8e4m3) (harg17 : arg17.IsWhole) (arg18 : Memref sig .tc .smem S1x1 .f32) (harg18 : arg18.IsWhole) (arg19 : Memref sig .tc .vmem S8x512 .f32) (harg19 : arg19.IsWhole) (hc0 : ¬cond0_0 i) (hc1 : ¬cond0_1 i) (hc2 : ¬cond0_2 i) (hc3 : ¬cond0_3 i) (hc4 : cond0_4 i) (hc5 : cond0_5 i)
    (x0 : Vec F S1 .f32) (x1 : Vec F S1 .f32) (x2 : Vec F S7680x3072 .fp8e4m3) (x3 : Vec F S3072x1024 .fp8e4m3) (x4 : Vec F S1x1024 .f32) (x5 : Vec F S1x1024 .f32) (x6 : Vec F S1x128 .f32) (x7 : Vec F S1x128 .f32) (x8 : Vec F S768x128 .f32) (x9 : Vec F S768x128 .f32) : Vec F S768x1024 .fp8e4m3 :=
  VO0_15.read (Elt F) (VO0_15.writes (Elt F) VO0_15.junk (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 hc4 hc5 x0 x1 x2 x3 x4 x5 x6 x7 x8 x9).2.2.1)

end Cert.Linear1Ideal.Own

end
-- ==== Proof.Linear1IdealData.lean ====
/- `linear1`, the idealised kernel: the pipeline's proof data. -/
module

public import proofs.«01_k».proof.Proof.Linear1IdealTiles
public import Idealize.ShloMosaic.Lib.Pipeline.TableIdle

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The rotated queries' tile that point `t` of the query part stores. -/
def qAt (c : Dev nD) (t : Fin cfg0.N) (h : t.val < 30) : Vec F S768x8x128 .bf16 :=
  out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr (by omega)) (fun e => by have := (hcond0_1 t).mp e; omega) (fun e => by have := (hcond0_2 t).mp e; omega) (fun e => by have := (hcond0_3 t).mp e; omega) (fun e => by have := (hcond0_4 t).mp e; omega) (fun e => by have := (hcond0_5 t).mp e; omega) (iblk m c 0 t) (iblk m c 1 t) (iblk m c 2 t) (iblk m c 3 t) (iblk m c 4 t) (iblk m c 5 t) (iblk m c 6 t) (iblk m c 7 t) (iblk m c 8 t) (iblk m c 9 t)

/-- The rotated keys' tile that point `t` of the key part stores. -/
def kAt (c : Dev nD) (t : Fin cfg0.N) (h : 30 ≤ t.val ∧ t.val < 60) : Vec F S768x8x128 .bf16 :=
  out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun e => by have := (hcond0_0 t).mp e; omega) ((hcond0_1 t).mpr (by omega)) (fun e => by have := (hcond0_2 t).mp e; omega) (fun e => by have := (hcond0_3 t).mp e; omega) (fun e => by have := (hcond0_4 t).mp e; omega) (fun e => by have := (hcond0_5 t).mp e; omega) (iblk m c 0 t) (iblk m c 1 t) (iblk m c 2 t) (iblk m c 3 t) (iblk m c 4 t) (iblk m c 5 t) (iblk m c 6 t) (iblk m c 7 t) (iblk m c 8 t) (iblk m c 9 t)

/-- The MLP codes' tile that point `t` of the MLP part stores. -/
def mlpAt (c : Dev nD) (t : Fin cfg0.N) (h : 90 ≤ t.val) : Vec F S768x1024 .fp8e4m3 :=
  have hN : t.val < 210 := lt_of_lt_of_eq t.isLt (show cfg0.N = 210 from N_0)
  if h3 : t.val % 210 = 90 then
    out0_D_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun e => by have := (hcond0_0 t).mp e; omega) (fun e => by have := (hcond0_1 t).mp e; omega) (fun e => by have := (hcond0_2 t).mp e; omega) ((hcond0_3 t).mpr (by omega)) ((hcond0_4 t).mpr (by omega)) (fun e => by have := (hcond0_5 t).mp e; omega) (iblk m c 0 t) (iblk m c 1 t) (iblk m c 2 t) (iblk m c 3 t) (iblk m c 4 t) (iblk m c 5 t) (iblk m c 6 t) (iblk m c 7 t) (iblk m c 8 t) (iblk m c 9 t)
  else if h5 : t.val % 210 = 209 then
    out0_F_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun e => by have := (hcond0_0 t).mp e; omega) (fun e => by have := (hcond0_1 t).mp e; omega) (fun e => by have := (hcond0_2 t).mp e; omega) (fun e => by have := (hcond0_3 t).mp e; omega) ((hcond0_4 t).mpr (by omega)) ((hcond0_5 t).mpr (by omega)) (iblk m c 0 t) (iblk m c 1 t) (iblk m c 2 t) (iblk m c 3 t) (iblk m c 4 t) (iblk m c 5 t) (iblk m c 6 t) (iblk m c 7 t) (iblk m c 8 t) (iblk m c 9 t)
  else
    out0_E_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun e => by have := (hcond0_0 t).mp e; omega) (fun e => by have := (hcond0_1 t).mp e; omega) (fun e => by have := (hcond0_2 t).mp e; omega) (fun e => by have := (hcond0_3 t).mp e; omega) ((hcond0_4 t).mpr (by omega)) (fun e => by have := (hcond0_5 t).mp e; omega) (iblk m c 0 t) (iblk m c 1 t) (iblk m c 2 t) (iblk m c 3 t) (iblk m c 4 t) (iblk m c 5 t) (iblk m c 6 t) (iblk m c 7 t) (iblk m c 8 t) (iblk m c 9 t)

/-- The last point of the query part up to point `t`: its tile is what the queries' buffer holds after point `t`. -/
def qPt (t : Fin cfg0.N) : Fin cfg0.N := ⟨min t.val 29, lt_of_le_of_lt (Nat.min_le_left _ _) t.isLt⟩

/-- It lies in the query part. -/
theorem qPt_lt (t : Fin cfg0.N) : (qPt t).val < 30 := by unfold qPt; dsimp only; omega

/-- The point of the key part nearest to point `t`: its tile is what the keys' buffer holds after point `t`, from the key part on. -/
def kPt (t : Fin cfg0.N) : Fin cfg0.N := ⟨max 30 (min t.val 59), lt_of_lt_of_eq (show max 30 (min t.val 59) < 210 by omega) (show cfg0.N = 210 from N_0).symm⟩

/-- It lies in the key part. -/
theorem kPt_mem (t : Fin cfg0.N) : 30 ≤ (kPt t).val ∧ (kPt t).val < 60 := by unfold kPt; dsimp only; omega

/-- The point of the MLP part nearest to point `t`. -/
def mPt (t : Fin cfg0.N) : Fin cfg0.N := ⟨max 90 t.val, lt_of_lt_of_eq (max_lt (by decide) (lt_of_lt_of_eq t.isLt (show cfg0.N = 210 from N_0))) (show cfg0.N = 210 from N_0).symm⟩

/-- It lies in the MLP part. -/
theorem mPt_le (t : Fin cfg0.N) : 90 ≤ (mPt t).val := by unfold mPt; dsimp only; omega

/-- The tile depends on the point alone. -/
theorem qAt_congr (c : Dev nD) (s t : Fin cfg0.N) (hs) (ht) (e : s = t) : qAt m c s hs = qAt m c t ht := by
  subst e
  rfl

/-- In the query part the queries' buffer holds the point's own tile. -/
theorem qAt_qPt (c : Dev nD) (t : Fin cfg0.N) (h : t.val < 30) : qAt m c (qPt t) (qPt_lt t) = qAt m c t h := by
  have e : qPt t = t := Fin.ext (by unfold qPt; dsimp only; omega)
  exact qAt_congr m c _ _ _ _ e

/-- The tile depends on the point alone. -/
theorem kAt_congr (c : Dev nD) (s t : Fin cfg0.N) (hs) (ht) (e : s = t) : kAt m c s hs = kAt m c t ht := by
  subst e
  rfl

/-- In the key part the keys' buffer holds the point's own tile. -/
theorem kAt_kPt (c : Dev nD) (t : Fin cfg0.N) (h : 30 ≤ t.val ∧ t.val < 60) : kAt m c (kPt t) (kPt_mem t) = kAt m c t h := by
  have e : kPt t = t := Fin.ext (by unfold kPt; dsimp only; omega)
  exact kAt_congr m c _ _ _ _ e

/-- The tile depends on the point alone. -/
theorem mlpAt_congr (c : Dev nD) (s t : Fin cfg0.N) (hs) (ht) (e : s = t) : mlpAt m c s hs = mlpAt m c t ht := by
  subst e
  rfl

/-- In the MLP part the codes' buffer holds the point's own tile. -/
theorem mlpAt_mPt (c : Dev nD) (t : Fin cfg0.N) (h : 90 ≤ t.val) : mlpAt m c (mPt t) (mPt_le t) = mlpAt m c t h := by
  have e : mPt t = t := Fin.ext (by unfold mPt; dsimp only; omega)
  exact mlpAt_congr m c _ _ _ _ e

/-- The MLP codes' tile in case D: point 90 (the first tile of the MLP columns, which clears the running maximum first). -/
theorem mlpAt_D (c : Dev nD) (t : Fin cfg0.N) (h : 90 ≤ t.val) (h3 : t.val % 210 = 90) (hN : t.val < 210) :
    mlpAt m c t h = out0_D_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun e => by have := (hcond0_0 t).mp e; omega) (fun e => by have := (hcond0_1 t).mp e; omega) (fun e => by have := (hcond0_2 t).mp e; omega) ((hcond0_3 t).mpr (by omega)) ((hcond0_4 t).mpr (by omega)) (fun e => by have := (hcond0_5 t).mp e; omega) (iblk m c 0 t) (iblk m c 1 t) (iblk m c 2 t) (iblk m c 3 t) (iblk m c 4 t) (iblk m c 5 t) (iblk m c 6 t) (iblk m c 7 t) (iblk m c 8 t) (iblk m c 9 t) :=
  dif_pos h3

/-- The MLP codes' tile in case E: points 91 to 208 (the MLP columns). -/
theorem mlpAt_E (c : Dev nD) (t : Fin cfg0.N) (h : 90 ≤ t.val) (h3 : ¬t.val % 210 = 90) (h5 : ¬t.val % 210 = 209) (hN : t.val < 210) :
    mlpAt m c t h = out0_E_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun e => by have := (hcond0_0 t).mp e; omega) (fun e => by have := (hcond0_1 t).mp e; omega) (fun e => by have := (hcond0_2 t).mp e; omega) (fun e => by have := (hcond0_3 t).mp e; omega) ((hcond0_4 t).mpr (by omega)) (fun e => by have := (hcond0_5 t).mp e; omega) (iblk m c 0 t) (iblk m c 1 t) (iblk m c 2 t) (iblk m c 3 t) (iblk m c 4 t) (iblk m c 5 t) (iblk m c 6 t) (iblk m c 7 t) (iblk m c 8 t) (iblk m c 9 t) :=
  (dif_neg h3).trans (dif_neg h5)

/-- The MLP codes' tile in case F: point 209 (the last tile, which also writes the running maximum out). -/
theorem mlpAt_F (c : Dev nD) (t : Fin cfg0.N) (h : 90 ≤ t.val) (h3 : ¬t.val % 210 = 90) (h5 : t.val % 210 = 209) (hN : t.val < 210) :
    mlpAt m c t h = out0_F_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun e => by have := (hcond0_0 t).mp e; omega) (fun e => by have := (hcond0_1 t).mp e; omega) (fun e => by have := (hcond0_2 t).mp e; omega) (fun e => by have := (hcond0_3 t).mp e; omega) ((hcond0_4 t).mpr (by omega)) ((hcond0_5 t).mpr (by omega)) (iblk m c 0 t) (iblk m c 1 t) (iblk m c 2 t) (iblk m c 3 t) (iblk m c 4 t) (iblk m c 5 t) (iblk m c 6 t) (iblk m c 7 t) (iblk m c 8 t) (iblk m c 9 t) :=
  (dif_neg h3).trans (dif_pos h5)

/-- The outputs of which nothing is stated. -/
def forgets0 : Fin 17 → Bool := fun w => w.val == 12 || w.val == 13 || w.val == 14 || w.val == 16
/-- This output is not among them. -/
theorem forgets0_10 : forgets0 (10 : Fin 17) = false := by decide
/-- This output is not among them. -/
theorem forgets0_11 : forgets0 (11 : Fin 17) = false := by decide
/-- This output is not among them. -/
theorem forgets0_15 : forgets0 (15 : Fin 17) = false := by decide

/-- The proof data of the pipeline on core `c`: the arrays as the region finds them; after the body at a point each input's buffer at its block and each named output's at what its part of the grid stores; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => qAt m c (qPt t) (qPt_lt t)
    | ⟨11, _⟩ => kAt m c (kPt t) (kPt_mem t)
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, _⟩ => mlpAt m c (mPt t) (mPt_le t)
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- The proof data at window 0. -/
theorem after0_0 (c : Dev nD) (t : Fin cfg0.N) : (dats m 0 c).after 0 t = iblk m c 0 t := by dsimp only [dats]
/-- The proof data at window 1. -/
theorem after0_1 (c : Dev nD) (t : Fin cfg0.N) : (dats m 0 c).after 1 t = iblk m c 1 t := by dsimp only [dats]
/-- The proof data at window 2. -/
theorem after0_2 (c : Dev nD) (t : Fin cfg0.N) : (dats m 0 c).after 2 t = iblk m c 2 t := by dsimp only [dats]
/-- The proof data at window 3. -/
theorem after0_3 (c : Dev nD) (t : Fin cfg0.N) : (dats m 0 c).after 3 t = iblk m c 3 t := by dsimp only [dats]
/-- The proof data at window 4. -/
theorem after0_4 (c : Dev nD) (t : Fin cfg0.N) : (dats m 0 c).after 4 t = iblk m c 4 t := by dsimp only [dats]
/-- The proof data at window 5. -/
theorem after0_5 (c : Dev nD) (t : Fin cfg0.N) : (dats m 0 c).after 5 t = iblk m c 5 t := by dsimp only [dats]
/-- The proof data at window 6. -/
theorem after0_6 (c : Dev nD) (t : Fin cfg0.N) : (dats m 0 c).after 6 t = iblk m c 6 t := by dsimp only [dats]
/-- The proof data at window 7. -/
theorem after0_7 (c : Dev nD) (t : Fin cfg0.N) : (dats m 0 c).after 7 t = iblk m c 7 t := by dsimp only [dats]
/-- The proof data at window 8. -/
theorem after0_8 (c : Dev nD) (t : Fin cfg0.N) : (dats m 0 c).after 8 t = iblk m c 8 t := by dsimp only [dats]
/-- The proof data at window 9. -/
theorem after0_9 (c : Dev nD) (t : Fin cfg0.N) : (dats m 0 c).after 9 t = iblk m c 9 t := by dsimp only [dats]
/-- The proof data at window 10. -/
theorem after0_10 (c : Dev nD) (t : Fin cfg0.N) : (dats m 0 c).after 10 t = qAt m c (qPt t) (qPt_lt t) := by dsimp only [dats]
/-- The proof data at window 11. -/
theorem after0_11 (c : Dev nD) (t : Fin cfg0.N) : (dats m 0 c).after 11 t = kAt m c (kPt t) (kPt_mem t) := by dsimp only [dats]
/-- The proof data at window 15. -/
theorem after0_15 (c : Dev nD) (t : Fin cfg0.N) : (dats m 0 c).after 15 t = mlpAt m c (mPt t) (mPt_le t) := by dsimp only [dats]

/-- The staging buffer of window 0 (the scale `s_x`) holds its block at every point. -/
theorem before0_0 (c : Dev nD) (t : Fin cfg0.N) (d) : (dats m 0 c).before 0 t d = iblk m c 0 t :=
  before0_0_of m (dats m 0 c) (A_eq m c 0) (after0_0 m c) t d
/-- The staging buffer of window 1 (the scale `s_m`) holds its block at every point. -/
theorem before0_1 (c : Dev nD) (t : Fin cfg0.N) (d) : (dats m 0 c).before 1 t d = iblk m c 1 t :=
  before0_1_of m (dats m 0 c) (A_eq m c 1) (after0_1 m c) t d
/-- The staging buffer of window 2 (the activation codes) holds its block at every point. -/
theorem before0_2 (c : Dev nD) (t : Fin cfg0.N) (d) : (dats m 0 c).before 2 t d = iblk m c 2 t :=
  before0_2_of m (dats m 0 c) (A_eq m c 2) (after0_2 m c) t d
/-- The staging buffer of window 3 (the weight tile) holds its block at every point. -/
theorem before0_3 (c : Dev nD) (t : Fin cfg0.N) (d) : (dats m 0 c).before 3 t d = iblk m c 3 t :=
  before0_3_of m (dats m 0 c) (A_eq m c 3) (after0_3 m c) t d
/-- The staging buffer of window 4 (the weight scale tile) holds its block at every point. -/
theorem before0_4 (c : Dev nD) (t : Fin cfg0.N) (d) : (dats m 0 c).before 4 t d = iblk m c 4 t :=
  before0_4_of m (dats m 0 c) (A_eq m c 4) (after0_4 m c) t d
/-- The staging buffer of window 5 (the bias tile) holds its block at every point. -/
theorem before0_5 (c : Dev nD) (t : Fin cfg0.N) (d) : (dats m 0 c).before 5 t d = iblk m c 5 t :=
  before0_5_of m (dats m 0 c) (A_eq m c 5) (after0_5 m c) t d
/-- The staging buffer of window 6 (the query norm weights) holds its block at every point. -/
theorem before0_6 (c : Dev nD) (t : Fin cfg0.N) (d) : (dats m 0 c).before 6 t d = iblk m c 6 t :=
  before0_6_of m (dats m 0 c) (A_eq m c 6) (after0_6 m c) t d
/-- The staging buffer of window 7 (the key norm weights) holds its block at every point. -/
theorem before0_7 (c : Dev nD) (t : Fin cfg0.N) (d) : (dats m 0 c).before 7 t d = iblk m c 7 t :=
  before0_7_of m (dats m 0 c) (A_eq m c 7) (after0_7 m c) t d
/-- The staging buffer of window 8 (the cosine table) holds its block at every point. -/
theorem before0_8 (c : Dev nD) (t : Fin cfg0.N) (d) : (dats m 0 c).before 8 t d = iblk m c 8 t :=
  before0_8_of m (dats m 0 c) (A_eq m c 8) (after0_8 m c) t d
/-- The staging buffer of window 9 (the signed sine table) holds its block at every point. -/
theorem before0_9 (c : Dev nD) (t : Fin cfg0.N) (d) : (dats m 0 c).before 9 t d = iblk m c 9 t :=
  before0_9_of m (dats m 0 c) (A_eq m c 9) (after0_9 m c) t d

/-- After point 29 nothing touches the buffer of the rotated queries until the write-back at the last point. -/
theorem idle_run_10 : ∀ j : Fin cfg0.N, 29 < j.val → j.val < 209 → cfg0.idle 10 (grid0.coords j) = true ∧ (cfg0.win 10).flush j = false := by decide +kernel

/-- Point 29 stores the rotated queries. -/
theorem live_last_10 : ∀ j : Fin cfg0.N, j.val = 29 → cfg0.idle 10 (grid0.coords j) = false ∧ (cfg0.win 10).flush j = false := by decide +kernel

/-- So at the last point the buffer of the rotated queries still holds the tile of point 29. -/
theorem before0_10_F (c : Dev nD) (t : Fin cfg0.N) (h5 : t.val % 210 = 209) (d) : (dats m 0 c).before 10 t d = (dats m 0 c).after 10 t := by
  have hN : t.val < 210 := lt_of_lt_of_eq t.isLt (show cfg0.N = 210 from N_0)
  rw [(dats m 0 c).before_idle_run 10 (fun _ => rfl) d 179 t (by omega) (fun j h₁ h₂ => idle_run_10 j (by omega) (by omega))]
  have hl := live_last_10 ⟨t.val - 179 - 1, by omega⟩ (by simp only; omega)
  rw [Dat.before_of_pos (dats m 0 c) 10 _ (by simp only; omega) rfl]
  rw [hl.2, if_neg Bool.false_ne_true]
  unfold Dat.left
  rw [hl.1]
  show (dats m 0 c).after 10 _ = _
  rw [after0_10, after0_10]
  have e : qPt ⟨t.val - 179 - 1, by omega⟩ = qPt t := Fin.ext (by unfold qPt; simp only; omega)
  exact qAt_congr m c _ _ _ _ e

/-- After point 59 nothing touches the buffer of the rotated keys until the write-back at the last point. -/
theorem idle_run_11 : ∀ j : Fin cfg0.N, 59 < j.val → j.val < 209 → cfg0.idle 11 (grid0.coords j) = true ∧ (cfg0.win 11).flush j = false := by decide +kernel

/-- Point 59 stores the rotated keys. -/
theorem live_last_11 : ∀ j : Fin cfg0.N, j.val = 59 → cfg0.idle 11 (grid0.coords j) = false ∧ (cfg0.win 11).flush j = false := by decide +kernel

/-- So at the last point the buffer of the rotated keys still holds the tile of point 59. -/
theorem before0_11_F (c : Dev nD) (t : Fin cfg0.N) (h5 : t.val % 210 = 209) (d) : (dats m 0 c).before 11 t d = (dats m 0 c).after 11 t := by
  have hN : t.val < 210 := lt_of_lt_of_eq t.isLt (show cfg0.N = 210 from N_0)
  rw [(dats m 0 c).before_idle_run 11 (fun _ => rfl) d 149 t (by omega) (fun j h₁ h₂ => idle_run_11 j (by omega) (by omega))]
  have hl := live_last_11 ⟨t.val - 149 - 1, by omega⟩ (by simp only; omega)
  rw [Dat.before_of_pos (dats m 0 c) 11 _ (by simp only; omega) rfl]
  rw [hl.2, if_neg Bool.false_ne_true]
  unfold Dat.left
  rw [hl.1]
  show (dats m 0 c).after 11 _ = _
  rw [after0_11, after0_11]
  have e : kPt ⟨t.val - 149 - 1, by omega⟩ = kPt t := Fin.ext (by unfold kPt; simp only; omega)
  exact kAt_congr m c _ _ _ _ e

end Cert.Linear1Ideal.Own

end
-- ==== Proof.Linear1IdealFrame.lean ====
/- `linear1`, the idealised kernel: the body at every point, and the frame claim. -/
module

public import proofs.«01_k».proof.Proof.Linear1IdealData

@[expose] public section

set_option maxRecDepth 16384

noncomputable section

namespace Cert.Linear1Ideal.Own

open Cert.Linear1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare ((dats m 0 c).before 15 t d))
    ∗ (∃ d, owns (c : Thread nD τ) (ms0_16 t) fullShare d))

/-- What the body returns at point `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (dats m 0 c).leavesExact 15 t
    ∗ (∃ d, owns (c : Thread nD τ) (ms0_16 t) fullShare d))

set_option maxHeartbeats 9600000 in

/-- The body at any point: the closed forms of the branch conditions decide the case, and the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 210 := lt_of_lt_of_eq t.isLt (show cfg0.N = 210 from N_0)
  by_cases h0 : t.val < 30
  · by_cases h1 : (3 ≤ t.val / 10 % 21 ∧ t.val / 10 % 21 ≤ 5)
    · exfalso; omega
    · by_cases h2 : (6 ≤ t.val / 10 % 21 ∧ t.val / 10 % 21 ≤ 8)
      · exfalso; omega
      · by_cases h3 : t.val % 210 = 90
        · exfalso; omega
        · by_cases h4 : 90 ≤ t.val
          · exfalso; omega
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))], after0_10]
              rw [Dat.leavesExact_idle (dats m 0 c) 11 t (idleAt0_11_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))) (noFlush0_11_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 15 t (idleAt0_15_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))) (noFlush0_15_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)))]
              rw [qAt_qPt m c t h0]
              unfold qAt out0_A_10; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexact H11
              isplitl [H12]; · iexists _; iexact H12
              isplitl [H13]; · iexists _; iexact H13
              isplitl [H14]; · iexists _; iexact H14
              isplitl [H15]; · iexact H15
              isplitl [H16]; · iexists _; iexact H16
              isplitl [HS0]; · iexact HS0
              iintro ⟨H0, H1, H2, H3, H4, H5, H6, H7, H8, H9, ⟨%e10, H10⟩, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _)
              isplitl [H11]; · iexists _; iexact H11
              isplitl [H12]; · iexact H12
              isplitl [H13]; · iexact H13
              isplitl [H14]; · iexact H14
              isplitl [H15]; · iexists _; iexact H15
              iexact H16
  · by_cases h1 : (3 ≤ t.val / 10 % 21 ∧ t.val / 10 % 21 ≤ 5)
    · by_cases h2 : (6 ≤ t.val / 10 % 21 ∧ t.val / 10 % 21 ≤ 8)
      · exfalso; omega
      · by_cases h3 : t.val % 210 = 90
        · exfalso; omega
        · by_cases h4 : 90 ≤ t.val
          · exfalso; omega
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [Dat.leavesExact_idle (dats m 0 c) 10 t (idleAt0_10_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))) (noFlush0_10_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)))]
              rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))], after0_11]
              rw [Dat.leavesExact_idle (dats m 0 c) 15 t (idleAt0_15_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))) (noFlush0_15_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)))]
              rw [kAt_kPt m c t ⟨by omega, by omega⟩]
              unfold kAt out0_B_11; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexists _; iexact H11
              isplitl [H12]; · iexists _; iexact H12
              isplitl [H13]; · iexists _; iexact H13
              isplitl [H14]; · iexists _; iexact H14
              isplitl [H15]; · iexact H15
              isplitl [H16]; · iexists _; iexact H16
              isplitl [HS0]; · iexact HS0
              iintro ⟨H0, H1, H2, H3, H4, H5, H6, H7, H8, H9, H10, ⟨%e11, H11⟩, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]
              · unfold owns; iexists _; isplitr
                swap; · iexact H11
                ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _)
              isplitl [H12]; · iexact H12
              isplitl [H13]; · iexact H13
              isplitl [H14]; · iexact H14
              isplitl [H15]; · iexists _; iexact H15
              iexact H16
    · by_cases h2 : (6 ≤ t.val / 10 % 21 ∧ t.val / 10 % 21 ≤ 8)
      · by_cases h3 : t.val % 210 = 90
        · exfalso; omega
        · by_cases h4 : 90 ≤ t.val
          · exfalso; omega
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [Dat.leavesExact_idle (dats m 0 c) 10 t (idleAt0_10_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))) (noFlush0_10_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)))]
              rw [Dat.leavesExact_idle (dats m 0 c) 11 t (idleAt0_11_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))) (noFlush0_11_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)))]
              rw [Dat.leavesExact_idle (dats m 0 c) 15 t (idleAt0_15_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))) (noFlush0_15_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)))]
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexists _; iexact H12
              isplitl [H13]; · iexists _; iexact H13
              isplitl [H14]; · iexists _; iexact H14
              isplitl [H15]; · iexact H15
              isplitl [H16]; · iexists _; iexact H16
              isplitl [HS0]; · iexact HS0
              iintro ⟨H0, H1, H2, H3, H4, H5, H6, H7, H8, H9, H10, H11, H12, H13, H14, H15, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexact H12
              isplitl [H13]; · iexact H13
              isplitl [H14]; · iexact H14
              isplitl [H15]; · iexists _; iexact H15
              iexact H16
      · by_cases h3 : t.val % 210 = 90
        · by_cases h4 : 90 ≤ t.val
          · by_cases h5 : t.val % 210 = 209
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [Dat.leavesExact_idle (dats m 0 c) 10 t (idleAt0_10_D t (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h))) (noFlush0_10_D t (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)))]
              rw [Dat.leavesExact_idle (dats m 0 c) 11 t (idleAt0_11_D t (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h))) (noFlush0_11_D t (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)))]
              rw [show (dats m 0 c).leavesExact 15 t = owns (c : Thread nD τ) (ms0_15 t) fullShare ((dats m 0 c).after 15 t) from by
      unfold Dat.leavesExact; rw [liveAt0_15_D t (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h))], after0_15]
              rw [mlpAt_mPt m c t h4, mlpAt_D m c t h4 h3 hN]
              unfold out0_D_15; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_D c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, ⟨%e15, H15⟩, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexact H12
              isplitl [H13]; · iexact H13
              isplitl [H14]; · iexact H14
              isplitl [H15]
              · unfold owns; iexists _; isplitr
                swap; · iexact H15
                ipureintro; exact View.read_writes_of_cover _ _ _ _ _ (cover0_D_15 c _ _ _ _ _ _ _ _ _ _ _ _ _ _ _ _ _ _ _ _ _ _ _ _ _ _ _ _ _ _ _ _ _ _ _ _ _ _ _ _ _ _ _ _ _ _ _ _ _ _ _ _ _)
              iexact H16
          · exfalso; omega
        · by_cases h4 : 90 ≤ t.val
          · by_cases h5 : t.val % 210 = 209
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [show (dats m 0 c).leavesExact 10 t = owns (c : Thread nD τ) (ms0_10 t) fullShare ((dats m 0 c).after 10 t) from by
      unfold Dat.leavesExact; rw [(idleAt0_10_F t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5)), (flush0_10_F t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5))]]
              simp only [before0_10_F m c t h5]
              rw [show (dats m 0 c).leavesExact 11 t = owns (c : Thread nD τ) (ms0_11 t) fullShare ((dats m 0 c).after 11 t) from by
      unfold Dat.leavesExact; rw [(idleAt0_11_F t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5)), (flush0_11_F t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5))]]
              simp only [before0_11_F m c t h5]
              rw [show (dats m 0 c).leavesExact 15 t = owns (c : Thread nD τ) (ms0_15 t) fullShare ((dats m 0 c).after 15 t) from by
      unfold Dat.leavesExact; rw [liveAt0_15_F t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5)], after0_15]
              rw [mlpAt_mPt m c t h4, mlpAt_F m c t h4 h3 h5 hN]
              unfold out0_F_15; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_F c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t)).2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, ⟨%e15, H15⟩, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [H13]; · iexact H13
              isplitl [H14]; · iexact H14
              isplitl [H15]
              · unfold owns; iexists _; isplitr
                swap; · iexact H15
                ipureintro; exact View.read_writes_of_cover _ _ _ _ _ (cover0_F_15 c _ _ _ _ _ _ _ _ _ _ _ _ _ _ _ _ _ _ _ _ _ _ _ _ _ _ _ _ _ _ _ _ _ _ _ _ _ _ _ _ _ _ _ _ _ _ _ _ _ _ _ _ _)
              iexact H16
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [Dat.leavesExact_idle (dats m 0 c) 10 t (idleAt0_10_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))) (noFlush0_10_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)))]
              rw [Dat.leavesExact_idle (dats m 0 c) 11 t (idleAt0_11_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))) (noFlush0_11_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)))]
              rw [show (dats m 0 c).leavesExact 15 t = owns (c : Thread nD τ) (ms0_15 t) fullShare ((dats m 0 c).after 15 t) from by
      unfold Dat.leavesExact; rw [liveAt0_15_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))], after0_15]
              rw [mlpAt_mPt m c t h4, mlpAt_E m c t h4 h3 h5 hN]
              unfold out0_E_15; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
              iapply ((kernelRun0_E c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexists _; iexact H12
              isplitl [H13]; · iexists _; iexact H13
              isplitl [H14]; · iexists _; iexact H14
              isplitl [H15]; · iexists _; iexact H15
              isplitl [H16]; · iexists _; iexact H16
              isplitl [HS0]; · iexact HS0
              iintro ⟨H0, H1, H2, H3, H4, H5, H6, H7, H8, H9, H10, H11, H12, H13, H14, ⟨%e15, H15⟩, H16, HS0⟩
              isplitl [HS0 Hg]
              · isplitl [HS0]
                · iexact HS0
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexact H12
              isplitl [H13]; · iexact H13
              isplitl [H14]; · iexact H14
              isplitl [H15]
              · unfold owns; iexists _; isplitr
                swap; · iexact H15
                ipureintro; exact View.read_writes_of_cover _ _ _ _ _ (cover0_E_15 c _ _ _ _ _ _ _ _ _ _ _ _ _ _ _ _ _ _ _ _ _ _ _ _ _ _ _ _ _ _ _ _ _ _ _ _ _ _ _ _ _ _ _ _ _ _ _ _ _ _ _ _ _)
              iexact H16
          · exfalso; omega

/-- The body called by the pipeline at point `t`. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in

/-- The whole program terminates in the pipeline's final state, with every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program terminates in the pipeline's final state. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- The frame claim: the program terminates, its arguments end unchanged, and every semaphore counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Linear1Ideal.Own

end
-- ==== Proof.Linear1Run.lean ====
/- The run of the idealised first linear layer: the three named arrays at its end. -/
module
public import proofs.«01_k».proof.Proof.Linear1IdealFrame
@[expose] public section
set_option maxRecDepth 16384
noncomputable section
namespace Cert.Linear1Ideal.Own
open Cert.Linear1Ideal Cert.Linear1Ideal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ) (ρ : Dev nD → PrngReg)

/-- Every run ends with the queries, the keys and the feed-forward codes that the write-backs leave, and the arguments as they were. -/
theorem run_blocks : θ_run defs (onTc (τ := τ) (main (F := F))) ⟨m, fun _ => 0, ρ⟩ (fun r => ∀ c : Dev nD,
      r.2.mem ((c.tc : Thread nD τ).loc main_v13_0) = (dats m 0 c).arrAt 10 cfg0.N
      ∧ r.2.mem ((c.tc : Thread nD τ).loc main_v13_1) = (dats m 0 c).arrAt 11 cfg0.N
      ∧ r.2.mem ((c.tc : Thread nD τ).loc main_v13_5) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(Dat.toRForget_arrAt_iff (dats m 0 c) forgets0_10 cfg0.N _).mp ((h.2 c).1 (10 : Fin 17)),
      (Dat.toRForget_arrAt_iff (dats m 0 c) forgets0_11 cfg0.N _).mp ((h.2 c).1 (11 : Fin 17)),
      (Dat.toRForget_arrAt_iff (dats m 0 c) forgets0_15 cfg0.N _).mp ((h.2 c).1 (15 : Fin 17)), h.1 c⟩)
    (θ_run_and (unchanged m ρ) (run_main m ρ))
end Cert.Linear1Ideal.Own
end
-- ==== Proof.Linear1Blocks.lean ====
/- What the blocks that the idealised first linear layer stages hold, in terms of the arguments, and what a load of part of one reads. -/
module
public import proofs.«01_k».proof.Proof.Linear1IdealPoints
public import Idealize.ShloMosaic.Lib.Pipeline.ValueKit
public import Idealize.ShloMosaic.Lib.Pipeline.ReadBack
public import Idealize.ShloMosaic.Lib.Pointwise
public import Idealize.ShloMosaic.Lib.Tactic
@[expose] public section
set_option maxRecDepth 16384
noncomputable section
namespace Cert.Linear1Ideal.Mine
open Cert.Linear1Ideal Cert.Linear1Ideal.Gen Cert.Linear1Ideal.Own Idealize.ShloMosaic Idealize.ShloMosaic.TcCoe Idealize.SL.Sem
open Idealize.ShloMosaic.Pipeline (Dat)
variable (m : (ℓ : Loc nD τ sig) → Buf (Elt Ideal) ℓ)

theorem t_lt (t : Fin cfg0.N) : t.val < 210 := lt_of_lt_of_eq t.isLt (show cfg0.N = 210 from N_0)

/-- Which block each window stages at grid point `t`, of column block `t / 10` and row block `t % 10`. -/
theorem idx : ∀ t : Fin cfg0.N, win0_0.index t = ![0] ∧ win0_1.index t = ![0] ∧ win0_2.index t = ![0, 0] ∧ win0_3.index t = ![0, t.val / 10] ∧ win0_4.index t = ![0, t.val / 10]
    ∧ win0_5.index t = ![0, t.val / 10] ∧ win0_6.index t = ![0, 0] ∧ win0_7.index t = ![0, 0] ∧ win0_10.index t = ![min t.val 29 % 10, min t.val 29 / 10, 0]
    ∧ win0_15.index t = ![if t.val < 90 then 0 else t.val % 10, t.val / 10 - 9] :=
  (by decide +kernel : ∀ t : Fin grid0.N, win0_0.index t = ![0] ∧ win0_1.index t = ![0] ∧ win0_2.index t = ![0, 0] ∧ win0_3.index t = ![0, t.val / 10] ∧ win0_4.index t = ![0, t.val / 10]
    ∧ win0_5.index t = ![0, t.val / 10] ∧ win0_6.index t = ![0, 0] ∧ win0_7.index t = ![0, 0] ∧ win0_10.index t = ![min t.val 29 % 10, min t.val 29 / 10, 0]
    ∧ win0_15.index t = ![if t.val < 90 then 0 else t.val % 10, t.val / 10 - 9])
theorem idx_trig : ∀ t : Fin cfg0.N, t.val < 60 → win0_8.index t = ![t.val % 10, 0] ∧ win0_9.index t = ![t.val % 10, 0] :=
  (by decide +kernel : ∀ t : Fin grid0.N, t.val < 60 → win0_8.index t = ![t.val % 10, 0] ∧ win0_9.index t = ![t.val % 10, 0])
theorem idx_k : ∀ t : Fin cfg0.N, 30 ≤ t.val → win0_11.index t = ![min t.val 59 % 10, min t.val 59 / 10 - 3, 0] :=
  (by decide +kernel : ∀ t : Fin grid0.N, 30 ≤ t.val → win0_11.index t = ![min t.val 59 % 10, min t.val 59 / 10 - 3, 0])
theorem off1 : ∀ t : Fin cfg0.N, k0_off1 (grid0.coords t) 0#32 = ![768 * (t.val % 10) + 0, 0] ∧ k0_off1 (grid0.coords t) 256#32 = ![768 * (t.val % 10) + 256, 0]
    ∧ k0_off1 (grid0.coords t) 512#32 = ![768 * (t.val % 10) + 512, 0] :=
  (by decide +kernel : ∀ t : Fin grid0.N, k0_off1 (grid0.coords t) 0#32 = ![768 * (t.val % 10) + 0, 0] ∧ k0_off1 (grid0.coords t) 256#32 = ![768 * (t.val % 10) + 256, 0]
    ∧ k0_off1 (grid0.coords t) 512#32 = ![768 * (t.val % 10) + 512, 0])
theorem off2 : @k0_off2 = @k0_off1 := rfl
theorem off4 : @k0_off4 = @k0_off1 := rfl

theorem b0 (c : Dev nD) (t : Fin cfg0.N) (j) : iblk m c 0 t j = m ((c : Thread nD τ).loc main_arg8) ix0 := by
  blk_simp [iblk, V, idx t]
  entry_read
  pointwise
theorem b1 (c : Dev nD) (t : Fin cfg0.N) (j) : iblk m c 1 t j = m ((c : Thread nD τ).loc main_arg9) ix0 := by
  blk_simp [iblk, V, idx t]
  entry_read
  pointwise
theorem b2 (c : Dev nD) (t : Fin cfg0.N) (a : Fin 7680) (b : Fin 3072) : iblk m c 2 t (ix2 a b) = m ((c : Thread nD τ).loc main_arg0) (ix2 a b) := by
  blk_ext [iblk, V, idx t]
/-- The column of the linear layer that an entry of the block's columns is. -/
def col (t : Fin cfg0.N) (b : Fin 1024) : Fin 21504 := ⟨1024 * (t.val / 10) + b, by have := t_lt t; omega⟩
theorem b3 (c : Dev nD) (t : Fin cfg0.N) (a : Fin 3072) (b : Fin 1024) : iblk m c 3 t (ix2 a b) = m ((c : Thread nD τ).loc main_arg1) (ix2 a (col t b)) := by
  blk_ext [iblk, V, idx t, col]
theorem b4 (c : Dev nD) (t : Fin cfg0.N) (a : Fin 1) (b : Fin 1024) : iblk m c 4 t (ix2 a b) = m ((c : Thread nD τ).loc main_arg2) (ix1 (col t b)) := by
  blk_simp [iblk, V, idx t]
  entry_read
  rw [show ((win0_4.blk t).view.emb (ix2 a b)) = ix2 a (col t b) by blk_ext [idx t, col]]
  pointwise
theorem b5 (c : Dev nD) (t : Fin cfg0.N) (a : Fin 1) (b : Fin 1024) : iblk m c 5 t (ix2 a b) = m ((c : Thread nD τ).loc main_arg3) (ix1 (col t b)) := by
  blk_simp [iblk, V, idx t]
  entry_read
  rw [show ((win0_5.blk t).view.emb (ix2 a b)) = ix2 a (col t b) by blk_ext [idx t, col]]
  pointwise
theorem b6 (c : Dev nD) (t : Fin cfg0.N) (a : Fin 1) (b : Fin 128) : iblk m c 6 t (ix2 a b) = m ((c : Thread nD τ).loc main_arg4) (ix1 b) := by
  blk_simp [iblk, V, idx t]
  entry_read
  rw [show ((win0_6.blk t).view.emb (ix2 a b)) = ix2 a b by blk_ext [idx t]]
  pointwise
theorem b7 (c : Dev nD) (t : Fin cfg0.N) (a : Fin 1) (b : Fin 128) : iblk m c 7 t (ix2 a b) = m ((c : Thread nD τ).loc main_arg5) (ix1 b) := by
  blk_simp [iblk, V, idx t]
  entry_read
  rw [show ((win0_7.blk t).view.emb (ix2 a b)) = ix2 a b by blk_ext [idx t]]
  pointwise
theorem b8 (c : Dev nD) (t : Fin cfg0.N) (ht : t.val < 60) (a : Fin 768) (d : Fin 128) (i : Fin 7680) (hi : i.val = 768 * (t.val % 10) + a) :
    iblk m c 8 t (ix2 a d) = m ((c : Thread nD τ).loc main_arg6) (ix2 i ⟨d / 2, by omega⟩) := by
  blk_simp [iblk, V, idx_trig t ht]
  entry_read
  rw [show ((win0_8.blk t).view.emb (ix2 a d)) = ix2 i d by blk_ext [idx_trig t ht, hi]]
  pointwise
theorem b9 (c : Dev nD) (t : Fin cfg0.N) (ht : t.val < 60) (a : Fin 768) (d : Fin 128) (i : Fin 7680) (hi : i.val = 768 * (t.val % 10) + a) :
    iblk m c 9 t (ix2 a d) = if d.val % 2 = 0 then Neg.neg (α := EReal) (m ((c : Thread nD τ).loc main_arg7) (ix2 i ⟨d / 2, by omega⟩)) else m ((c : Thread nD τ).loc main_arg7) (ix2 i ⟨d / 2, by omega⟩) := by
  blk_simp [iblk, V, idx_trig t ht]
  entry_read
  rw [show ((win0_9.blk t).view.emb (ix2 a d)) = ix2 i d by blk_ext [idx_trig t ht, hi]]
  pointwise
  simp only [Nat.lt_one_iff]
  split <;> rfl

/-! ## Loads of part of a block -/

theorem ld_rows {h w n k : ℕ} {e : EltTy} (X : (⟨2, ![h, w]⟩ : Shape).Idx → Elt Ideal e) (o p : ℕ) (off : Fin 2 → ℕ) (hoff : off = ![o, p]) (inb) (r : Fin n) (j : Fin k) (r' : Fin h) (j' : Fin w)
    (hr : r'.val = o + r) (hj : j'.val = p + j) :
    View.ld (Val := Elt Ideal) (e' := e) X (Rect.unit (s := ⟨2, ![h, w]⟩) off ![n, k] inb) (ix2 r j) = X (ix2 r' j') := by
  subst hoff
  refine View.ld_unit_apply_of _ _ _ _ _ _ fun a => ?_
  fin_cases a
  · simp [ix2, hr]
  · simp [ix2, hj]
theorem ld0 (c : Dev nD) (t : Fin cfg0.N) (r) (j) : View.ld (iblk m c 0 t) r j = m ((c : Thread nD τ).loc main_arg8) ix0 := b0 m c t _
theorem ld1 (c : Dev nD) (t : Fin cfg0.N) (r) (j) : View.ld (iblk m c 1 t) r j = m ((c : Thread nD τ).loc main_arg9) ix0 := b1 m c t _
theorem ld2 (c : Dev nD) (t : Fin cfg0.N) (o : ℕ) (off : Fin 2 → ℕ) (hoff : off = ![768 * (t.val % 10) + o, 0]) (inb) (r : Fin 256) (k : Fin 3072) (i : Fin 7680) (hi : i.val = 768 * (t.val % 10) + (o + r)) :
    View.ld (iblk m c 2 t) (Rect.unit off ![256, 3072] inb) (ix2 r k) = m ((c : Thread nD τ).loc main_arg0) (ix2 i k) :=
  (ld_rows _ _ _ off hoff _ _ _ i k (by omega) (by omega)).trans (b2 m c t _ _)
theorem ld3 (c : Dev nD) (t : Fin cfg0.N) (p : ℕ) (hp : p ≤ 512) (inb) (k : Fin 3072) (j : Fin 512) (J : Fin 21504) (hJ : J.val = 1024 * (t.val / 10) + p + j) :
    View.ld (iblk m c 3 t) (Rect.unit ![0, p] ![3072, 512] inb) (ix2 k j) = m ((c : Thread nD τ).loc main_arg1) (ix2 k J) :=
  (ld_rows _ _ _ _ rfl _ _ _ k ⟨p + j, by omega⟩ (by omega) rfl).trans ((b3 m c t _ _).trans (by rw [show col t ⟨p + j, by omega⟩ = J from Fin.ext (by simp only [col]; omega)]))
theorem ld4 (c : Dev nD) (t : Fin cfg0.N) (p : ℕ) (hp : p ≤ 512) (inb) (j : Fin 512) (J : Fin 21504) (hJ : J.val = 1024 * (t.val / 10) + p + j) :
    View.ld (iblk m c 4 t) (Rect.unit ![0, p] ![1, 512] inb) (ix2 (0 : Fin 1) j) = m ((c : Thread nD τ).loc main_arg2) (ix1 J) :=
  (ld_rows _ _ _ _ rfl _ _ _ (0 : Fin 1) ⟨p + j, by omega⟩ rfl rfl).trans ((b4 m c t _ _).trans (by rw [show col t ⟨p + j, by omega⟩ = J from Fin.ext (by simp only [col]; omega)]))
theorem ld5 (c : Dev nD) (t : Fin cfg0.N) (p : ℕ) (hp : p ≤ 512) (inb) (j : Fin 512) (J : Fin 21504) (hJ : J.val = 1024 * (t.val / 10) + p + j) :
    View.ld (iblk m c 5 t) (Rect.unit ![0, p] ![1, 512] inb) (ix2 (0 : Fin 1) j) = m ((c : Thread nD τ).loc main_arg3) (ix1 J) :=
  (ld_rows _ _ _ _ rfl _ _ _ (0 : Fin 1) ⟨p + j, by omega⟩ rfl rfl).trans ((b5 m c t _ _).trans (by rw [show col t ⟨p + j, by omega⟩ = J from Fin.ext (by simp only [col]; omega)]))
theorem ld6 (c : Dev nD) (t : Fin cfg0.N) (inb) (j : Fin 128) :
    View.ld (iblk m c 6 t) (Rect.unit ![0, 0] ![1, 128] inb) (ix2 (0 : Fin 1) j) = m ((c : Thread nD τ).loc main_arg4) (ix1 j) :=
  (ld_rows _ _ _ _ rfl _ _ _ (0 : Fin 1) j rfl (by omega)).trans (b6 m c t _ _)
theorem ld7 (c : Dev nD) (t : Fin cfg0.N) (inb) (j : Fin 128) :
    View.ld (iblk m c 7 t) (Rect.unit ![0, 0] ![1, 128] inb) (ix2 (0 : Fin 1) j) = m ((c : Thread nD τ).loc main_arg5) (ix1 j) :=
  (ld_rows _ _ _ _ rfl _ _ _ (0 : Fin 1) j rfl (by omega)).trans (b7 m c t _ _)
theorem ld8 (c : Dev nD) (t : Fin cfg0.N) (ht : t.val < 60) (o : ℕ) (ho : o ≤ 512) (inb) (r : Fin 256) (d : Fin 128) (i : Fin 7680) (hi : i.val = 768 * (t.val % 10) + (o + r)) :
    View.ld (iblk m c 8 t) (Rect.unit ![o, 0] ![256, 128] inb) (ix2 r d) = m ((c : Thread nD τ).loc main_arg6) (ix2 i ⟨d / 2, by omega⟩) :=
  (ld_rows _ _ _ _ rfl _ _ _ ⟨o + r, by omega⟩ d rfl (by omega)).trans (b8 m c t ht _ _ i hi)
theorem ld9 (c : Dev nD) (t : Fin cfg0.N) (ht : t.val < 60) (o : ℕ) (ho : o ≤ 512) (inb) (r : Fin 256) (d : Fin 128) (i : Fin 7680) (hi : i.val = 768 * (t.val % 10) + (o + r)) :
    View.ld (iblk m c 9 t) (Rect.unit ![o, 0] ![256, 128] inb) (ix2 r d) = if d.val % 2 = 0 then Neg.neg (α := EReal) (m ((c : Thread nD τ).loc main_arg7) (ix2 i ⟨d / 2, by omega⟩)) else m ((c : Thread nD τ).loc main_arg7) (ix2 i ⟨d / 2, by omega⟩) :=
  (ld_rows _ _ _ _ rfl _ _ _ ⟨o + r, by omega⟩ d rfl (by omega)).trans (b9 m c t ht _ _ i hi)
end Cert.Linear1Ideal.Mine
end
-- ==== Proof.Linear1Head.lean ====
/- What the idealised first linear layer's body computes, read at an index: the linear layer of one tile of 256 rows and 512 columns; a head of
   128 lanes of it, divided by its root mean square and rotated; two heads interleaved in the rows a store writes; and GELU, divided and clipped. -/
module
public import proofs.«01_k».proof.Proof.Gen.Linear1Ideal.Skeleton
public import Idealize.ShloMosaic.Lib.Pointwise
public import Idealize.ShloMosaic.Lib.Tactic
public import proofs.«01_k».proof.Proof.Linear1Math
@[expose] public section
set_option maxRecDepth 16384
noncomputable section
namespace Cert.Linear1Ideal.Mine
open Cert.Linear1Ideal Cert.Linear1Ideal.Gen Idealize.ShloMosaic Idealize.SL.Sem

theorem lin_at (v0 : EReal) (v31 : FVec Ideal S256x3072 .fp8e4m3) (v32 : FVec Ideal S3072x512 .fp8e4m3) (v36 v40 : FVec Ideal S1x512 .f32) (r : Fin 256) (j : Fin 512) :
    k0_pay4 (F := Ideal) v0 v31 v32 v36 v40 (ix2 r j) = (∑ k : Fin 3072, v31 (ix2 r k) * v32 (ix2 k j)) * v0 * v36 (ix2 0 j) + v40 (ix2 0 j) := by
  pointwise [k0_pay4]

/-! ## One head -/

/-- A head of 128 lanes over its root mean square, times a weight per lane. -/
def normOf (v48 : FVec Ideal S256x128 .f32) (v59 : FVec Ideal S1x128 .f32) : FVec Ideal S256x128 .f32 :=
  mulf (divf v48 (broadcastTo S256x128 (sqrt (addf (mulf (shapeCast S256x1 (multiReduction .add [1] S256 (mulf v48 v48) 0x00000000#32 reduces_S256x128_S256 (.inl rfl) rfl) shapeCasts_S256_S256x1)
    (broadcast S256x1 (Scalar.ofBits .f32 0x3C000000#32))) (broadcast S256x1 (Scalar.ofBits .f32 0x358637BD#32)))) broadcasts_S256x1_S256x128))
    (broadcastTo S256x128 (shapeCast S1x128 v59 shapeCasts_S1x128_S1x128) broadcasts_S1x128_S256x128)

/-- A head, divided, weighted and rotated: on even lanes with the lane after, on odd lanes with the lane before. -/
def headOf (cos sin : FVec Ideal S256x128 .f32) (v48 : FVec Ideal S256x128 .f32) (v59 : FVec Ideal S1x128 .f32) : FVec Ideal S256x128 .f32 :=
  addf (mulf (normOf v48 v59) (k0_pay5 cos))
    (mulf (select k0_pay85 (dynamicRotate 1 127#32 none (normOf v48 v59) rotates_S256x128_d1) (dynamicRotate 1 1#32 none (normOf v48 v59) rotates_S256x128_d1)) (k0_pay6 sin))

/-- The four heads of a tile of 512 columns. -/
def head0 (cos sin : FVec Ideal S256x128 .f32) (L : FVec Ideal S256x512 .f32) (w : FVec Ideal S1x128 .f32) : FVec Ideal S256x128 .f32 :=
  headOf cos sin (extractStridedSlice S256x128 ![0, 0] L slices_S256x512_o0_0_S256x128) w
def head1 (cos sin : FVec Ideal S256x128 .f32) (L : FVec Ideal S256x512 .f32) (w : FVec Ideal S1x128 .f32) : FVec Ideal S256x128 .f32 :=
  headOf cos sin (extractStridedSlice S256x128 ![0, 128] L slices_S256x512_o0_128_S256x128) w
def head2 (cos sin : FVec Ideal S256x128 .f32) (L : FVec Ideal S256x512 .f32) (w : FVec Ideal S1x128 .f32) : FVec Ideal S256x128 .f32 :=
  headOf cos sin (extractStridedSlice S256x128 ![0, 256] L slices_S256x512_o0_256_S256x128) w
def head3 (cos sin : FVec Ideal S256x128 .f32) (L : FVec Ideal S256x512 .f32) (w : FVec Ideal S1x128 .f32) : FVec Ideal S256x128 .f32 :=
  headOf cos sin (extractStridedSlice S256x128 ![0, 384] L slices_S256x512_o0_384_S256x128) w

theorem bits_128 : Ideal.ofBits .f32 0x43000000#32 = ((128 : ℝ) : EReal) := by
  simp [Ideal.ofBits, Ideal.ieee, -EReal.coe_mul]; norm_num
theorem bits_inv_128 : Ideal.ofBits .f32 0x3C000000#32 = ((1 / 128 : ℝ) : EReal) := by
  simp [Ideal.ofBits, Ideal.ieee, -EReal.coe_mul]; norm_num
/-- The kernel multiplies by 1/128 where the reference divides by 128. -/
theorem mul_inv_128 (x : EReal) : x * Ideal.ofBits .f32 0x3C000000#32 = Ideal.div x (Ideal.ofBits .f32 0x43000000#32) := by
  rw [bits_128, bits_inv_128]
  exact (Ideal.div_coe (by norm_num : (128 : ℝ) ≠ 0) x).symm

theorem norm_at (v48 : FVec Ideal S256x128 .f32) (v59 : FVec Ideal S1x128 .f32) (r : Fin 256) (d : Fin 128) :
    normOf v48 v59 (ix2 r d) = Cert.Mine.normAt (fun k => v48 (ix2 r k)) (fun k => v59 (ix2 0 k)) d := by
  pointwise [normOf]
  rw [mul_inv_128]
  rfl

/-- The even lanes. -/
theorem mask_at (r : Fin 256) (d : Fin 128) : (k0_pay85 : IVec S256x128 1) (ix2 r d) = if d.val % 2 = 0 then 1#1 else 0#1 := by
  pointwise [k0_pay85]
  revert d
  decide +kernel

theorem head_even (cos sin v48 : FVec Ideal S256x128 .f32) (v59 : FVec Ideal S1x128 .f32) (r : Fin 256) (d : Fin 128) (h : d.val % 2 = 0) :
    headOf cos sin v48 v59 (ix2 r d) = normOf v48 v59 (ix2 r d) * cos (ix2 r d) + normOf v48 v59 (ix2 r ⟨d + 1, by omega⟩) * sin (ix2 r d) := by
  have hm := mask_at r d
  rw [if_pos h] at hm
  have e : (⟨(d.val + 128 - 127) % 128, by omega⟩ : Fin 128) = ⟨d + 1, by omega⟩ := Fin.ext (by simp only; omega)
  pointwise [headOf, k0_pay5, k0_pay6]
  rw [hm, e]
  rfl
theorem head_odd (cos sin v48 : FVec Ideal S256x128 .f32) (v59 : FVec Ideal S1x128 .f32) (r : Fin 256) (d : Fin 128) (h : d.val % 2 ≠ 0) :
    headOf cos sin v48 v59 (ix2 r d) = normOf v48 v59 (ix2 r d) * cos (ix2 r d) + normOf v48 v59 (ix2 r ⟨d - 1, by omega⟩) * sin (ix2 r d) := by
  have hm := mask_at r d
  rw [if_neg h] at hm
  have e : (⟨(d.val + 128 - 1) % 128, by omega⟩ : Fin 128) = ⟨d - 1, by omega⟩ := Fin.ext (by simp only; omega)
  pointwise [headOf, k0_pay5, k0_pay6]
  rw [hm, e]
  rfl

/-- The head is the rotated head, given the tables of cosines and of signed sines at its row. -/
theorem head_at (cos sin v48 : FVec Ideal S256x128 .f32) (v59 : FVec Ideal S1x128 .f32) (r : Fin 256) (d : Fin 128) (c s : Fin 64 → EReal)
    (hc : ∀ d : Fin 128, cos (ix2 r d) = c ⟨d / 2, by omega⟩)
    (hs : ∀ d : Fin 128, sin (ix2 r d) = if d.val % 2 = 0 then - s ⟨d / 2, by omega⟩ else s ⟨d / 2, by omega⟩) :
    headOf cos sin v48 v59 (ix2 r d) = Cert.Mine.rotAt (Cert.Mine.normAt (fun k => v48 (ix2 r k)) (fun k => v59 (ix2 0 k))) c s d := by
  unfold Cert.Mine.rotAt
  by_cases h : d.val % 2 = 0
  · rw [if_pos h, head_even _ _ _ _ _ _ h, norm_at, norm_at, hc, hs, if_pos h, sub_eq_add_neg, mul_neg, mul_comm (s _), mul_comm (c _)]
    have e1 : (⟨2 * (d.val / 2), by omega⟩ : Fin 128) = d := Fin.ext (by simp only; omega)
    have e2 : (⟨2 * (d.val / 2) + 1, by omega⟩ : Fin 128) = ⟨d + 1, by omega⟩ := Fin.ext (by simp only; omega)
    rw [e1, e2]
  · rw [if_neg h, head_odd _ _ _ _ _ _ h, norm_at, norm_at, hc, hs, if_neg h, add_comm, mul_comm (s _), mul_comm (c _)]
    have e1 : (⟨2 * (d.val / 2), by omega⟩ : Fin 128) = ⟨d - 1, by omega⟩ := Fin.ext (by simp only; omega)
    have e2 : (⟨2 * (d.val / 2) + 1, by omega⟩ : Fin 128) = d := Fin.ext (by simp only; omega)
    rw [e1, e2]

/-- Two heads interleaved. -/
theorem pair_at (a b : FVec Ideal S256x128 .f32) (r : Fin 256) (h : Fin 2) (d : Fin 128) :
    k0_pay22 (F := Ideal) a b (ix3 r h d) = if h.val = 0 then a (ix2 r d) else b (ix2 r d) := by
  pointwise [k0_pay22]
  rw [Nat.mod_eq_of_lt h.isLt]

/-! ## The feed-forward branch -/

theorem mlp_at (v0 v1 : EReal) (v256 : FVec Ideal S256x3072 .fp8e4m3) (v257 : FVec Ideal S3072x512 .fp8e4m3) (v261 v265 : FVec Ideal S1x512 .f32) (r : Fin 256) (j : Fin 512) :
    k0_pay334 (F := Ideal) v0 v1 v256 v257 v261 v265 (ix2 r j)
      = Cert.Mine.geluQ v1 ((∑ k : Fin 3072, v256 (ix2 r k) * v257 (ix2 k j)) * v0 * v261 (ix2 0 j) + v265 (ix2 0 j)) := by
  pointwise [k0_pay334, k0_pay332]
  rfl
/-- Two neighbouring heads of a tile, read at an index of the pair, are two heads of the linear layer's columns. -/
theorem tile_head (O : ℕ) (hO : O ≤ 3072) (x : Cert.Mine.Mat 7680 3072) (w : Cert.Mine.Mat 3072 21504) (ws b : Cert.Mine.Row 21504) (s : Cert.Mine.Num) (G : Cert.Mine.Row 128)
    (cos sin : Cert.Mine.Mat 7680 64) (i : Fin 7680) (H : Fin 24) (v0 : EReal) (X : FVec Ideal S256x3072 .fp8e4m3) (W : FVec Ideal S3072x512 .fp8e4m3) (S B : FVec Ideal S1x512 .f32)
    (C N : FVec Ideal S256x128 .f32) (g : FVec Ideal S1x128 .f32) (v48 : FVec Ideal S256x128 .f32) (r : Fin 256) (d : Fin 128) (q : ℕ) (hq : q + 512 ≤ 21504) (o : ℕ) (ho : o ≤ 384)
    (hqO : q + o = O + 128 * H) (h48 : ∀ k : Fin 128, v48 (ix2 r k) = k0_pay4 (F := Ideal) v0 X W S B (ix2 r ⟨o + k, by omega⟩))
    (hv : v0 = s ix0) (hx : ∀ k, X (ix2 r k) = x (ix2 i k)) (hw : ∀ k (j : Fin 512), W (ix2 k j) = w (ix2 k ⟨q + j, by omega⟩))
    (hS : ∀ j : Fin 512, S (ix2 0 j) = ws (ix1 ⟨q + j, by omega⟩)) (hB : ∀ j : Fin 512, B (ix2 0 j) = b (ix1 ⟨q + j, by omega⟩))
    (hc : ∀ d : Fin 128, C (ix2 r d) = cos (ix2 i ⟨d / 2, by omega⟩))
    (hn : ∀ d : Fin 128, N (ix2 r d) = if d.val % 2 = 0 then - sin (ix2 i ⟨d / 2, by omega⟩) else sin (ix2 i ⟨d / 2, by omega⟩))
    (hg : ∀ k, g (ix2 0 k) = G (ix1 k)) :
    headOf C N v48 g (ix2 r d) = Cert.Mine.headAt O hO x w ws b s G cos sin i H d := by
  rw [head_at C N v48 g r d (fun k => cos (ix2 i k)) (fun k => sin (ix2 i k)) hc hn]
  unfold Cert.Mine.headAt
  have e1 : (fun k => v48 (ix2 r k)) = fun k : Fin 128 => Cert.Mine.linAt x w ws b s i ⟨O + 128 * H + k, by omega⟩ := by
    funext k
    have e : (⟨q + (o + k.val), by omega⟩ : Fin 21504) = ⟨O + 128 * H + k, by omega⟩ := Fin.ext (by simp only; omega)
    rw [h48, lin_at, hv, hS, hB]
    simp only [hx, hw, e, Cert.Mine.linAt]
  have e2 : (fun k => g (ix2 0 k)) = fun k : Fin 128 => G (ix1 k) := funext hg
  rw [e1, e2]

/-- The first two heads of a tile. -/
theorem pair01 (O : ℕ) (hO : O ≤ 3072) (x : Cert.Mine.Mat 7680 3072) (w : Cert.Mine.Mat 3072 21504) (ws b : Cert.Mine.Row 21504) (s : Cert.Mine.Num) (G : Cert.Mine.Row 128)
    (cos sin : Cert.Mine.Mat 7680 64) (i : Fin 7680) (H : Fin 24) (v0 : EReal) (X : FVec Ideal S256x3072 .fp8e4m3) (W : FVec Ideal S3072x512 .fp8e4m3) (S B : FVec Ideal S1x512 .f32)
    (C N : FVec Ideal S256x128 .f32) (g g' : FVec Ideal S1x128 .f32) (r : Fin 256) (h : Fin 2) (d d' : Fin 128) (hd : d'.val = d.val) (q : ℕ) (hq : q + 512 ≤ 21504)
    (hqO : q + 128 * h = O + 128 * H)
    (hv : v0 = s ix0) (hx : ∀ k, X (ix2 r k) = x (ix2 i k)) (hw : ∀ k (j : Fin 512), W (ix2 k j) = w (ix2 k ⟨q + j, by omega⟩))
    (hS : ∀ j : Fin 512, S (ix2 0 j) = ws (ix1 ⟨q + j, by omega⟩)) (hB : ∀ j : Fin 512, B (ix2 0 j) = b (ix1 ⟨q + j, by omega⟩))
    (hc : ∀ d : Fin 128, C (ix2 r d) = cos (ix2 i ⟨d / 2, by omega⟩))
    (hn : ∀ d : Fin 128, N (ix2 r d) = if d.val % 2 = 0 then - sin (ix2 i ⟨d / 2, by omega⟩) else sin (ix2 i ⟨d / 2, by omega⟩))
    (hg : ∀ k, g (ix2 0 k) = G (ix1 k)) (hg' : ∀ k, g' (ix2 0 k) = G (ix1 k)) :
    k0_pay22 (F := Ideal) (head0 C N (k0_pay4 v0 X W S B) g) (head1 C N (k0_pay4 v0 X W S B) g') (ix3 r h d) = Cert.Mine.headAt O hO x w ws b s G cos sin i H d' := by
  obtain rfl : d' = d := Fin.ext hd
  rw [pair_at]
  split
  · refine tile_head O hO x w ws b s G cos sin i H v0 X W S B C N g _ r d' q hq 0 (by omega) (by omega) (fun k => ?_) hv hx hw hS hB hc hn hg
    pointwise
    done
  · refine tile_head O hO x w ws b s G cos sin i H v0 X W S B C N g' _ r d' q hq 128 (by omega) (by omega) (fun k => ?_) hv hx hw hS hB hc hn hg'
    pointwise
    done
/-- The last two heads of a tile. -/
theorem pair23 (O : ℕ) (hO : O ≤ 3072) (x : Cert.Mine.Mat 7680 3072) (w : Cert.Mine.Mat 3072 21504) (ws b : Cert.Mine.Row 21504) (s : Cert.Mine.Num) (G : Cert.Mine.Row 128)
    (cos sin : Cert.Mine.Mat 7680 64) (i : Fin 7680) (H : Fin 24) (v0 : EReal) (X : FVec Ideal S256x3072 .fp8e4m3) (W : FVec Ideal S3072x512 .fp8e4m3) (S B : FVec Ideal S1x512 .f32)
    (C N : FVec Ideal S256x128 .f32) (g g' : FVec Ideal S1x128 .f32) (r : Fin 256) (h : Fin 2) (d d' : Fin 128) (hd : d'.val = d.val) (q : ℕ) (hq : q + 512 ≤ 21504)
    (hqO : q + 256 + 128 * h = O + 128 * H)
    (hv : v0 = s ix0) (hx : ∀ k, X (ix2 r k) = x (ix2 i k)) (hw : ∀ k (j : Fin 512), W (ix2 k j) = w (ix2 k ⟨q + j, by omega⟩))
    (hS : ∀ j : Fin 512, S (ix2 0 j) = ws (ix1 ⟨q + j, by omega⟩)) (hB : ∀ j : Fin 512, B (ix2 0 j) = b (ix1 ⟨q + j, by omega⟩))
    (hc : ∀ d : Fin 128, C (ix2 r d) = cos (ix2 i ⟨d / 2, by omega⟩))
    (hn : ∀ d : Fin 128, N (ix2 r d) = if d.val % 2 = 0 then - sin (ix2 i ⟨d / 2, by omega⟩) else sin (ix2 i ⟨d / 2, by omega⟩))
    (hg : ∀ k, g (ix2 0 k) = G (ix1 k)) (hg' : ∀ k, g' (ix2 0 k) = G (ix1 k)) :
    k0_pay22 (F := Ideal) (head2 C N (k0_pay4 v0 X W S B) g) (head3 C N (k0_pay4 v0 X W S B) g') (ix3 r h d) = Cert.Mine.headAt O hO x w ws b s G cos sin i H d' := by
  obtain rfl : d' = d := Fin.ext hd
  rw [pair_at]
  split
  · refine tile_head O hO x w ws b s G cos sin i H v0 X W S B C N g _ r d' q hq 256 (by omega) (by omega) (fun k => ?_) hv hx hw hS hB hc hn hg
    pointwise
    done
  · refine tile_head O hO x w ws b s G cos sin i H v0 X W S B C N g' _ r d' q hq 384 (by omega) (by omega) (fun k => ?_) hv hx hw hS hB hc hn hg'
    pointwise
    done
/-- A tile of the feed-forward branch. -/
theorem tile_mlp (x : Cert.Mine.Mat 7680 3072) (w : Cert.Mine.Mat 3072 21504) (ws b : Cert.Mine.Row 21504) (s sm : Cert.Mine.Num) (i : Fin 7680) (J : Fin 12288) (v0 v1 : EReal)
    (X : FVec Ideal S256x3072 .fp8e4m3) (W : FVec Ideal S3072x512 .fp8e4m3) (S B : FVec Ideal S1x512 .f32) (r : Fin 256) (j : Fin 512) (q : ℕ) (hq : q + 512 ≤ 21504) (hqJ : q + j = 9216 + J)
    (hv : v0 = s ix0) (hv1 : v1 = sm ix0) (hx : ∀ k, X (ix2 r k) = x (ix2 i k)) (hw : ∀ k (j : Fin 512), W (ix2 k j) = w (ix2 k ⟨q + j, by omega⟩))
    (hS : ∀ j : Fin 512, S (ix2 0 j) = ws (ix1 ⟨q + j, by omega⟩)) (hB : ∀ j : Fin 512, B (ix2 0 j) = b (ix1 ⟨q + j, by omega⟩)) :
    k0_pay334 (F := Ideal) v0 v1 X W S B (ix2 r j) = Cert.Mine.geluQ (sm ix0) (Cert.Mine.linAt x w ws b s i ⟨9216 + J, by omega⟩) := by
  have e : (⟨q + j.val, by omega⟩ : Fin 21504) = ⟨9216 + J, by omega⟩ := Fin.ext hqJ
  rw [mlp_at, hv, hv1, hS, hB]
  simp only [hx, hw, e, Cert.Mine.linAt]
end Cert.Linear1Ideal.Mine
end
-- ==== Proof.Linear1QueryTiles.lean ====
/- The twelve values stored into a block of queries (three row tiles, four pairs of heads) are one function of the tile's operands. -/
module
public import proofs.«01_k».proof.Proof.Linear1Head
@[expose] public section
set_option maxRecDepth 16384
noncomputable section
namespace Cert.Linear1Ideal.Mine
open Cert.Linear1Ideal Cert.Linear1Ideal.Gen Idealize.ShloMosaic Idealize.SL.Sem

theorem q0 (v0 : EReal) (v31 : FVec Ideal S256x3072 .fp8e4m3) (v32 : FVec Ideal S3072x512 .fp8e4m3) (v36 v40 : FVec Ideal S1x512 .f32) (v44 v46 : FVec Ideal S256x128 .f32) (v59 v103 : FVec Ideal S1x128 .f32) :
    k0_pay22 (F := Ideal) (k0_pay9 (k0_pay6 v46) (k0_pay7 v0 v31 v32 v36 v40 v59) (k0_pay8 v0 v31 v32 v36 v40 v44 v59) (iota .tc S256x128 32 [1] iota_S256x128_d1_w32) 2#32 (Scalar.cmpi .eq 2#32 0#32) 1#32) (k0_pay13 (k0_pay6 v46) (k0_pay11 (k0_pay4 v0 v31 v32 v36 v40) v103) (k0_pay12 (k0_pay4 v0 v31 v32 v36 v40) (k0_pay5 v44) v103) (iota .tc S256x128 32 [1] iota_S256x128_d1_w32) 2#32 0#32) =
      k0_pay22 (head0 v44 v46 (k0_pay4 v0 v31 v32 v36 v40) v59) (head1 v44 v46 (k0_pay4 v0 v31 v32 v36 v40) v103) := rfl
theorem q1 (v0 : EReal) (v31 : FVec Ideal S256x3072 .fp8e4m3) (v32 : FVec Ideal S3072x512 .fp8e4m3) (v36 v40 : FVec Ideal S1x512 .f32) (v44 v46 : FVec Ideal S256x128 .f32) (v147 v191 : FVec Ideal S1x128 .f32) :
    k0_pay25 (F := Ideal) (k0_pay23 (k0_pay17 (k0_pay6 v46) (k0_pay15 (k0_pay4 v0 v31 v32 v36 v40) v147) (k0_pay16 (k0_pay4 v0 v31 v32 v36 v40) (k0_pay5 v44) v147) (iota .tc S256x128 32 [1] iota_S256x128_d1_w32))) (k0_pay24 (k0_pay5 v44) (k0_pay6 v46) (k0_pay19 (k0_pay4 v0 v31 v32 v36 v40) v191)) =
      k0_pay22 (head2 v44 v46 (k0_pay4 v0 v31 v32 v36 v40) v147) (head3 v44 v46 (k0_pay4 v0 v31 v32 v36 v40) v191) := rfl
theorem q2 (v0 : EReal) (v237 : FVec Ideal S256x3072 .fp8e4m3) (v238 : FVec Ideal S3072x512 .fp8e4m3) (v242 v246 : FVec Ideal S1x512 .f32) (v250 v252 : FVec Ideal S256x128 .f32) (v265 v309 : FVec Ideal S1x128 .f32) :
    k0_pay48 (F := Ideal) (k0_pay44 (k0_pay30 (k0_pay27 v250) (k0_pay28 v252) (k0_pay29 v0 v237 v238 v242 v246) v265)) (k0_pay45 (k0_pay33 (k0_pay27 v250) (k0_pay28 v252) (k0_pay32 (k0_pay26 v0 v237 v238 v242 v246)) v309)) =
      k0_pay22 (head0 v250 v252 (k0_pay4 v0 v237 v238 v242 v246) v265) (head1 v250 v252 (k0_pay4 v0 v237 v238 v242 v246) v309) := rfl
theorem q3 (v0 : EReal) (v237 : FVec Ideal S256x3072 .fp8e4m3) (v238 : FVec Ideal S3072x512 .fp8e4m3) (v242 v246 : FVec Ideal S1x512 .f32) (v250 v252 : FVec Ideal S256x128 .f32) (v353 v397 : FVec Ideal S1x128 .f32) :
    k0_pay49 (F := Ideal) (k0_pay37 (k0_pay27 v250) (k0_pay28 v252) (k0_pay35 (k0_pay26 v0 v237 v238 v242 v246)) (k0_pay36 (k0_pay26 v0 v237 v238 v242 v246)) v353) (k0_pay42 (k0_pay27 v250) (k0_pay28 v252) (k0_pay39 (k0_pay26 v0 v237 v238 v242 v246)) (k0_pay40 (k0_pay26 v0 v237 v238 v242 v246)) (k0_pay41) v397) =
      k0_pay22 (head2 v250 v252 (k0_pay4 v0 v237 v238 v242 v246) v353) (head3 v250 v252 (k0_pay4 v0 v237 v238 v242 v246) v397) := rfl
theorem q4 (v0 : EReal) (v443 : FVec Ideal S256x3072 .fp8e4m3) (v444 : FVec Ideal S3072x512 .fp8e4m3) (v448 v452 : FVec Ideal S1x512 .f32) (v456 v458 : FVec Ideal S256x128 .f32) (v471 v515 : FVec Ideal S1x128 .f32) :
    k0_pay68 (F := Ideal) (k0_pay55 (k0_pay51 v456) (k0_pay52 v458) (k0_pay53 v0 v443 v444 v448 v452) (k0_pay54 v0 v443 v444 v448 v452) (Scalar.ofBits .f32 0x3C000000#32) v471) (k0_pay59 (k0_pay51 v456) (k0_pay52 v458) (k0_pay57 (k0_pay50 v0 v443 v444 v448 v452)) (k0_pay58 (k0_pay50 v0 v443 v444 v448 v452)) v515) =
      k0_pay22 (head0 v456 v458 (k0_pay4 v0 v443 v444 v448 v452) v471) (head1 v456 v458 (k0_pay4 v0 v443 v444 v448 v452) v515) := rfl
theorem q5 (v0 : EReal) (v443 : FVec Ideal S256x3072 .fp8e4m3) (v444 : FVec Ideal S3072x512 .fp8e4m3) (v448 v452 : FVec Ideal S1x512 .f32) (v456 v458 : FVec Ideal S256x128 .f32) (v559 v603 : FVec Ideal S1x128 .f32) :
    k0_pay69 (F := Ideal) (k0_pay63 (k0_pay51 v456) (k0_pay52 v458) (k0_pay61 (k0_pay50 v0 v443 v444 v448 v452)) (k0_pay62 (k0_pay50 v0 v443 v444 v448 v452)) v559) (k0_pay65 (k0_pay50 v0 v443 v444 v448 v452) (k0_pay51 v456) (k0_pay52 v458) v603) =
      k0_pay22 (head2 v456 v458 (k0_pay4 v0 v443 v444 v448 v452) v559) (head3 v456 v458 (k0_pay4 v0 v443 v444 v448 v452) v603) := rfl
theorem q6 (v0 : EReal) (v649 : FVec Ideal S256x3072 .fp8e4m3) (v650 : FVec Ideal S3072x512 .fp8e4m3) (v654 v658 : FVec Ideal S1x512 .f32) (v662 v664 : FVec Ideal S256x128 .f32) (v677 v721 : FVec Ideal S1x128 .f32) :
    k0_pay89 (F := Ideal) (k0_pay73 (k0_pay70 v0 v649 v650 v654 v658) (k0_pay71 v662) v664 v677) (k0_pay76 (k0_pay70 v0 v649 v650 v654 v658) (k0_pay71 v662) (k0_pay72 v664) v721) =
      k0_pay22 (head0 v662 v664 (k0_pay4 v0 v649 v650 v654 v658) v677) (head1 v662 v664 (k0_pay4 v0 v649 v650 v654 v658) v721) := rfl
theorem q7 (v0 : EReal) (v649 : FVec Ideal S256x3072 .fp8e4m3) (v650 : FVec Ideal S3072x512 .fp8e4m3) (v654 v658 : FVec Ideal S1x512 .f32) (v662 v664 : FVec Ideal S256x128 .f32) (v765 v809 : FVec Ideal S1x128 .f32) :
    k0_pay90 (F := Ideal) (k0_pay72 v664) (k0_pay81 (k0_pay72 v664) (k0_pay79 (k0_pay70 v0 v649 v650 v654 v658) (k0_pay71 v662) v765) (k0_pay80 (k0_pay70 v0 v649 v650 v654 v658) v765)) (k0_pay83 (k0_pay70 v0 v649 v650 v654 v658) v809) (k0_pay84 (k0_pay70 v0 v649 v650 v654 v658) (k0_pay71 v662) v809) k0_pay85 (k0_pay86 (k0_pay70 v0 v649 v650 v654 v658) v809) 1#32 =
      k0_pay22 (head2 v662 v664 (k0_pay4 v0 v649 v650 v654 v658) v765) (head3 v662 v664 (k0_pay4 v0 v649 v650 v654 v658) v809) := rfl
theorem q8 (v0 : EReal) (v855 : FVec Ideal S256x3072 .fp8e4m3) (v856 : FVec Ideal S3072x512 .fp8e4m3) (v860 v864 : FVec Ideal S1x512 .f32) (v868 v870 : FVec Ideal S256x128 .f32) (v883 v927 : FVec Ideal S1x128 .f32) :
    k0_pay120 (F := Ideal) (k0_pay99 (k0_pay94 v870) (k0_pay95 (k0_pay91 v0 v855 v856 v860) v864 v883) (k0_pay96 (k0_pay91 v0 v855 v856 v860) v864 v868 v883) k0_pay97 k0_pay98) (k0_pay104 (k0_pay94 v870) (k0_pay101 (k0_pay92 (k0_pay91 v0 v855 v856 v860) v864) v927) (k0_pay102 (k0_pay92 (k0_pay91 v0 v855 v856 v860) v864) (k0_pay93 v868) v927) k0_pay103) =
      k0_pay22 (head0 v868 v870 (k0_pay4 v0 v855 v856 v860 v864) v883) (head1 v868 v870 (k0_pay4 v0 v855 v856 v860 v864) v927) := rfl
theorem q9 (v0 : EReal) (v855 : FVec Ideal S256x3072 .fp8e4m3) (v856 : FVec Ideal S3072x512 .fp8e4m3) (v860 v864 : FVec Ideal S1x512 .f32) (v868 v870 : FVec Ideal S256x128 .f32) (v971 v1015 : FVec Ideal S1x128 .f32) :
    k0_pay121 (F := Ideal) (k0_pay94 v870) (k0_pay111 (k0_pay94 v870) (k0_pay106 (k0_pay92 (k0_pay91 v0 v855 v856 v860) v864) v971) (k0_pay107 (k0_pay92 (k0_pay91 v0 v855 v856 v860) v864) (k0_pay93 v868) v971) k0_pay108 k0_pay109 k0_pay110) (k0_pay113 (k0_pay92 (k0_pay91 v0 v855 v856 v860) v864) v1015) (k0_pay114 (k0_pay92 (k0_pay91 v0 v855 v856 v860) v864) (k0_pay93 v868) v1015) (Scalar.select (Scalar.cmpi .eq 2#32 0#32) 1#32 2#32) k0_pay115 k0_pay116 k0_pay117 =
      k0_pay22 (head2 v868 v870 (k0_pay4 v0 v855 v856 v860 v864) v971) (head3 v868 v870 (k0_pay4 v0 v855 v856 v860 v864) v1015) := rfl
theorem q10 (v0 : EReal) (v1061 : FVec Ideal S256x3072 .fp8e4m3) (v1062 : FVec Ideal S3072x512 .fp8e4m3) (v1066 v1070 : FVec Ideal S1x512 .f32) (v1074 v1076 : FVec Ideal S256x128 .f32) (v1089 v1133 : FVec Ideal S1x128 .f32) :
    k0_pay150 (F := Ideal) (k0_pay130 (k0_pay124 v1076) (k0_pay125 v0 v1061 v1062 v1066 v1070 v1089) (k0_pay126 v0 v1061 v1062 v1066 v1070 v1074 v1089) (Scalar.select (Scalar.cmpi .eq 2#32 0#32) 1#32 2#32) k0_pay127 k0_pay128 k0_pay129 0#32) (k0_pay137 (k0_pay124 v1076) (k0_pay132 (k0_pay122 v0 v1061 v1062 v1066 v1070) v1133) (k0_pay133 (k0_pay122 v0 v1061 v1062 v1066 v1070) (k0_pay123 v1074) v1133) (Scalar.select (Scalar.cmpi .eq 2#32 0#32) 1#32 2#32) k0_pay134 k0_pay135 k0_pay136) =
      k0_pay22 (head0 v1074 v1076 (k0_pay4 v0 v1061 v1062 v1066 v1070) v1089) (head1 v1074 v1076 (k0_pay4 v0 v1061 v1062 v1066 v1070) v1133) := rfl
theorem q11 (v0 : EReal) (v1061 : FVec Ideal S256x3072 .fp8e4m3) (v1062 : FVec Ideal S3072x512 .fp8e4m3) (v1066 v1070 : FVec Ideal S1x512 .f32) (v1074 v1076 : FVec Ideal S256x128 .f32) (v1177 v1221 : FVec Ideal S1x128 .f32) :
    k0_pay151 (F := Ideal) (k0_pay124 v1076) (k0_pay143 (k0_pay124 v1076) (k0_pay139 (k0_pay122 v0 v1061 v1062 v1066 v1070) v1177) (k0_pay140 (k0_pay122 v0 v1061 v1062 v1066 v1070) (k0_pay123 v1074) v1177) (Scalar.select (Scalar.cmpi .eq 2#32 0#32) 1#32 2#32) k0_pay141 k0_pay142) (k0_pay145 (k0_pay122 v0 v1061 v1062 v1066 v1070) v1221) (k0_pay146 (k0_pay122 v0 v1061 v1062 v1066 v1070) (k0_pay123 v1074) v1221) (Scalar.select (Scalar.cmpi .eq 2#32 0#32) 1#32 2#32) k0_pay147 0#32 =
      k0_pay22 (head2 v1074 v1076 (k0_pay4 v0 v1061 v1062 v1066 v1070) v1177) (head3 v1074 v1076 (k0_pay4 v0 v1061 v1062 v1066 v1070) v1221) := rfl
end Cert.Linear1Ideal.Mine
end
-- ==== Proof.Linear1KernelQ.lean ====
/- The array of queries that the idealised kernel leaves is the function `Cert.Mine.heads` of the arguments. -/
module
public import proofs.«01_k».proof.Proof.Linear1IdealData
public import proofs.«01_k».proof.Proof.Linear1Blocks
public import proofs.«01_k».proof.Proof.Linear1QueryTiles
@[expose] public section
set_option maxRecDepth 16384
noncomputable section
namespace Cert.Linear1Ideal.Mine
open Cert.Linear1Ideal Cert.Linear1Ideal.Gen Cert.Linear1Ideal.Own Idealize.ShloMosaic Idealize.ShloMosaic.TcCoe Idealize.SL.Sem
open Idealize.ShloMosaic.Pipeline (Dat)
variable (m : (ℓ : Loc nD τ sig) → Buf (Elt Ideal) ℓ)

set_option maxHeartbeats 1600000 in
/-- The tile of queries that a point stores: the rotated heads of its rows and columns. -/
theorem qAt_at (c : Dev nD) (t : Fin cfg0.N) (h : t.val < 30) (y : S768x8x128.Idx) (i : Fin 7680) (hi : i.val = 768 * (t.val % 10) + (y 0).val)
    (H : Fin 24) (hH : H.val = 8 * (t.val / 10) + (y 1).val) (d : Fin 128) (hd : d.val = (y 2).val) :
    qAt m c t h y = Cert.Mine.headAt 0 (by omega) (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg4))
      (m ((c : Thread nD τ).loc main_arg6)) (m ((c : Thread nD τ).loc main_arg7)) i H d := by
  have ht : t.val < 60 := by omega
  unfold qAt
  frame_out
  canon_tiles x hx
  · idx_vars x
    refine (congrFun (q11 _ _ _ _ _ _ _ _ _) _).trans ?_
    refine pair23 0 (by omega) _ _ _ _ _ _ _ _ i H _ _ _ _ _ _ _ _ _ x0 x1 x2 d (by omega) (1024 * (t.val / 10) + 512) (by omega) (by omega)
      (ld0 m c t _ _) (fun k => ld2 m c t 512 _ (off1 t).2.2 _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 512 (by norm_num) _ x0 d i (by omega))
      (fun d => ld9 m c t ht 512 (by norm_num) _ x0 d i (by omega)) (fun k => b6 m c t _ k) (fun k => b6 m c t _ k)
  · idx_vars x
    refine (congrFun (q10 _ _ _ _ _ _ _ _ _) _).trans ?_
    refine pair01 0 (by omega) _ _ _ _ _ _ _ _ i H _ _ _ _ _ _ _ _ _ x0 x1 x2 d (by omega) (1024 * (t.val / 10) + 512) (by omega) (by omega)
      (ld0 m c t _ _) (fun k => ld2 m c t 512 _ (off1 t).2.2 _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 512 (by norm_num) _ x0 d i (by omega))
      (fun d => ld9 m c t ht 512 (by norm_num) _ x0 d i (by omega)) (fun k => b6 m c t _ k) (fun k => b6 m c t _ k)
  · idx_vars x
    refine (congrFun (q9 _ _ _ _ _ _ _ _ _) _).trans ?_
    refine pair23 0 (by omega) _ _ _ _ _ _ _ _ i H _ _ _ _ _ _ _ _ _ x0 x1 x2 d (by omega) (1024 * (t.val / 10) + 512) (by omega) (by omega)
      (ld0 m c t _ _) (fun k => ld2 m c t 256 _ (off1 t).2.1 _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 256 (by norm_num) _ x0 d i (by omega))
      (fun d => ld9 m c t ht 256 (by norm_num) _ x0 d i (by omega)) (fun k => b6 m c t _ k) (fun k => b6 m c t _ k)
  · idx_vars x
    refine (congrFun (q8 _ _ _ _ _ _ _ _ _) _).trans ?_
    refine pair01 0 (by omega) _ _ _ _ _ _ _ _ i H _ _ _ _ _ _ _ _ _ x0 x1 x2 d (by omega) (1024 * (t.val / 10) + 512) (by omega) (by omega)
      (ld0 m c t _ _) (fun k => ld2 m c t 256 _ (off1 t).2.1 _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 256 (by norm_num) _ x0 d i (by omega))
      (fun d => ld9 m c t ht 256 (by norm_num) _ x0 d i (by omega)) (fun k => b6 m c t _ k) (fun k => b6 m c t _ k)
  · idx_vars x
    refine (congrFun (q7 _ _ _ _ _ _ _ _ _) _).trans ?_
    refine pair23 0 (by omega) _ _ _ _ _ _ _ _ i H _ _ _ _ _ _ _ _ _ x0 x1 x2 d (by omega) (1024 * (t.val / 10) + 512) (by omega) (by omega)
      (ld0 m c t _ _) (fun k => ld2 m c t 0 _ (off1 t).1 _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 0 (by norm_num) _ x0 d i (by omega))
      (fun d => ld9 m c t ht 0 (by norm_num) _ x0 d i (by omega)) (fun k => b6 m c t _ k) (fun k => b6 m c t _ k)
  · idx_vars x
    refine (congrFun (q6 _ _ _ _ _ _ _ _ _) _).trans ?_
    refine pair01 0 (by omega) _ _ _ _ _ _ _ _ i H _ _ _ _ _ _ _ _ _ x0 x1 x2 d (by omega) (1024 * (t.val / 10) + 512) (by omega) (by omega)
      (ld0 m c t _ _) (fun k => ld2 m c t 0 _ (off1 t).1 _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 0 (by norm_num) _ x0 d i (by omega))
      (fun d => ld9 m c t ht 0 (by norm_num) _ x0 d i (by omega)) (fun k => b6 m c t _ k) (fun k => b6 m c t _ k)
  · idx_vars x
    refine (congrFun (q5 _ _ _ _ _ _ _ _ _) _).trans ?_
    refine pair23 0 (by omega) _ _ _ _ _ _ _ _ i H _ _ _ _ _ _ _ _ _ x0 x1 x2 d (by omega) (1024 * (t.val / 10) + 0) (by omega) (by omega)
      (ld0 m c t _ _) (fun k => ld2 m c t 512 _ (off1 t).2.2 _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 512 (by norm_num) _ x0 d i (by omega))
      (fun d => ld9 m c t ht 512 (by norm_num) _ x0 d i (by omega)) (fun k => b6 m c t _ k) (fun k => b6 m c t _ k)
  · idx_vars x
    refine (congrFun (q4 _ _ _ _ _ _ _ _ _) _).trans ?_
    refine pair01 0 (by omega) _ _ _ _ _ _ _ _ i H _ _ _ _ _ _ _ _ _ x0 x1 x2 d (by omega) (1024 * (t.val / 10) + 0) (by omega) (by omega)
      (ld0 m c t _ _) (fun k => ld2 m c t 512 _ (off1 t).2.2 _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 512 (by norm_num) _ x0 d i (by omega))
      (fun d => ld9 m c t ht 512 (by norm_num) _ x0 d i (by omega)) (fun k => b6 m c t _ k) (fun k => b6 m c t _ k)
  · idx_vars x
    refine (congrFun (q3 _ _ _ _ _ _ _ _ _) _).trans ?_
    refine pair23 0 (by omega) _ _ _ _ _ _ _ _ i H _ _ _ _ _ _ _ _ _ x0 x1 x2 d (by omega) (1024 * (t.val / 10) + 0) (by omega) (by omega)
      (ld0 m c t _ _) (fun k => ld2 m c t 256 _ (off1 t).2.1 _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 256 (by norm_num) _ x0 d i (by omega))
      (fun d => ld9 m c t ht 256 (by norm_num) _ x0 d i (by omega)) (fun k => b6 m c t _ k) (fun k => b6 m c t _ k)
  · idx_vars x
    refine (congrFun (q2 _ _ _ _ _ _ _ _ _) _).trans ?_
    refine pair01 0 (by omega) _ _ _ _ _ _ _ _ i H _ _ _ _ _ _ _ _ _ x0 x1 x2 d (by omega) (1024 * (t.val / 10) + 0) (by omega) (by omega)
      (ld0 m c t _ _) (fun k => ld2 m c t 256 _ (off1 t).2.1 _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 256 (by norm_num) _ x0 d i (by omega))
      (fun d => ld9 m c t ht 256 (by norm_num) _ x0 d i (by omega)) (fun k => b6 m c t _ k) (fun k => b6 m c t _ k)
  · idx_vars x
    refine (congrFun (q1 _ _ _ _ _ _ _ _ _) _).trans ?_
    refine pair23 0 (by omega) _ _ _ _ _ _ _ _ i H _ _ _ _ _ _ _ _ _ x0 x1 x2 d (by omega) (1024 * (t.val / 10) + 0) (by omega) (by omega)
      (ld0 m c t _ _) (fun k => ld2 m c t 0 _ (off1 t).1 _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 0 (by norm_num) _ x0 d i (by omega))
      (fun d => ld9 m c t ht 0 (by norm_num) _ x0 d i (by omega)) (fun k => b6 m c t _ k) (fun k => b6 m c t _ k)
  · idx_vars x
    refine (congrFun (q0 _ _ _ _ _ _ _ _ _) _).trans ?_
    refine pair01 0 (by omega) _ _ _ _ _ _ _ _ i H _ _ _ _ _ _ _ _ _ x0 x1 x2 d (by omega) (1024 * (t.val / 10) + 0) (by omega) (by omega)
      (ld0 m c t _ _) (fun k => ld2 m c t 0 _ (off1 t).1 _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 0 (by norm_num) _ x0 d i (by omega))
      (fun d => ld9 m c t ht 0 (by norm_num) _ x0 d i (by omega)) (fun k => b6 m c t _ k) (fun k => b6 m c t _ k)
/-- The array of queries that the kernel leaves. -/
theorem final_q (c : Dev nD) : (dats m 0 c).arrAt 10 cfg0.N
    = Cert.Mine.heads 0 (by omega) (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg4))
      (m ((c : Thread nD τ).loc main_arg6)) (m ((c : Thread nD τ).loc main_arg7)) := by
  refine (dats m 0 c).arrAt_eq_of_covers 10 _ (by decide +kernel) fun t hf y => ?_
  have hp : (qPt t).val = min t.val 29 := rfl
  blk_simp
  rw [after0_10]
  idx_vars y
  rw [show ((win0_10.blk t).view.emb (ix3 y0 y1 y2)) = ix3 (⟨768 * (min t.val 29 % 10) + y0, by omega⟩ : Fin 7680) (⟨8 * (min t.val 29 / 10) + y1, by omega⟩ : Fin 24) y2 by blk_ext [idx t], Cert.Mine.heads_apply]
  exact qAt_at m c (qPt t) (qPt_lt t) _ _ (by rw [hp]; rfl) _ (by rw [hp]; rfl) _ rfl
end Cert.Linear1Ideal.Mine
end
-- ==== Proof.Linear1KeyTiles.lean ====
/- The twelve values stored into a block of keys (three row tiles, four pairs of heads) are one function of the tile's operands. -/
module
public import proofs.«01_k».proof.Proof.Linear1Head
@[expose] public section
set_option maxRecDepth 16384
noncomputable section
namespace Cert.Linear1Ideal.Mine
open Cert.Linear1Ideal Cert.Linear1Ideal.Gen Idealize.ShloMosaic Idealize.SL.Sem

theorem k0 (v0 : EReal) (v31 : FVec Ideal S256x3072 .fp8e4m3) (v32 : FVec Ideal S3072x512 .fp8e4m3) (v36 v40 : FVec Ideal S1x512 .f32) (v44 v46 : FVec Ideal S256x128 .f32) (v59 v103 : FVec Ideal S1x128 .f32) :
    k0_pay170 (F := Ideal) (k0_pay157 (k0_pay154 v46) (k0_pay155 v0 v31 v32 v36 v40 v59) (k0_pay156 v0 v31 v32 v36 v40 v44 v59) (iota .tc S256x128 32 [1] iota_S256x128_d1_w32) 2#32 (Scalar.cmpi .eq 2#32 0#32) 1#32) (k0_pay161 (k0_pay154 v46) (k0_pay159 (k0_pay152 v0 v31 v32 v36 v40) v103) (k0_pay160 (k0_pay152 v0 v31 v32 v36 v40) (k0_pay153 v44) v103) (iota .tc S256x128 32 [1] iota_S256x128_d1_w32) 2#32 0#32) =
      k0_pay22 (head0 v44 v46 (k0_pay4 v0 v31 v32 v36 v40) v59) (head1 v44 v46 (k0_pay4 v0 v31 v32 v36 v40) v103) := rfl
theorem k1 (v0 : EReal) (v31 : FVec Ideal S256x3072 .fp8e4m3) (v32 : FVec Ideal S3072x512 .fp8e4m3) (v36 v40 : FVec Ideal S1x512 .f32) (v44 v46 : FVec Ideal S256x128 .f32) (v147 v191 : FVec Ideal S1x128 .f32) :
    k0_pay173 (F := Ideal) (k0_pay171 (k0_pay165 (k0_pay154 v46) (k0_pay163 (k0_pay152 v0 v31 v32 v36 v40) v147) (k0_pay164 (k0_pay152 v0 v31 v32 v36 v40) (k0_pay153 v44) v147) (iota .tc S256x128 32 [1] iota_S256x128_d1_w32))) (k0_pay172 (k0_pay153 v44) (k0_pay154 v46) (k0_pay167 (k0_pay152 v0 v31 v32 v36 v40) v191)) =
      k0_pay22 (head2 v44 v46 (k0_pay4 v0 v31 v32 v36 v40) v147) (head3 v44 v46 (k0_pay4 v0 v31 v32 v36 v40) v191) := rfl
theorem k2 (v0 : EReal) (v237 : FVec Ideal S256x3072 .fp8e4m3) (v238 : FVec Ideal S3072x512 .fp8e4m3) (v242 v246 : FVec Ideal S1x512 .f32) (v250 v252 : FVec Ideal S256x128 .f32) (v265 v309 : FVec Ideal S1x128 .f32) :
    k0_pay196 (F := Ideal) (k0_pay192 (k0_pay178 (k0_pay175 v250) (k0_pay176 v252) (k0_pay177 v0 v237 v238 v242 v246) v265)) (k0_pay193 (k0_pay181 (k0_pay175 v250) (k0_pay176 v252) (k0_pay180 (k0_pay174 v0 v237 v238 v242 v246)) v309)) =
      k0_pay22 (head0 v250 v252 (k0_pay4 v0 v237 v238 v242 v246) v265) (head1 v250 v252 (k0_pay4 v0 v237 v238 v242 v246) v309) := rfl
theorem k3 (v0 : EReal) (v237 : FVec Ideal S256x3072 .fp8e4m3) (v238 : FVec Ideal S3072x512 .fp8e4m3) (v242 v246 : FVec Ideal S1x512 .f32) (v250 v252 : FVec Ideal S256x128 .f32) (v353 v397 : FVec Ideal S1x128 .f32) :
    k0_pay197 (F := Ideal) (k0_pay185 (k0_pay175 v250) (k0_pay176 v252) (k0_pay183 (k0_pay174 v0 v237 v238 v242 v246)) (k0_pay184 (k0_pay174 v0 v237 v238 v242 v246)) v353) (k0_pay190 (k0_pay175 v250) (k0_pay176 v252) (k0_pay187 (k0_pay174 v0 v237 v238 v242 v246)) (k0_pay188 (k0_pay174 v0 v237 v238 v242 v246)) (k0_pay189) v397) =
      k0_pay22 (head2 v250 v252 (k0_pay4 v0 v237 v238 v242 v246) v353) (head3 v250 v252 (k0_pay4 v0 v237 v238 v242 v246) v397) := rfl
theorem k4 (v0 : EReal) (v443 : FVec Ideal S256x3072 .fp8e4m3) (v444 : FVec Ideal S3072x512 .fp8e4m3) (v448 v452 : FVec Ideal S1x512 .f32) (v456 v458 : FVec Ideal S256x128 .f32) (v471 v515 : FVec Ideal S1x128 .f32) :
    k0_pay216 (F := Ideal) (k0_pay203 (k0_pay199 v456) (k0_pay200 v458) (k0_pay201 v0 v443 v444 v448 v452) (k0_pay202 v0 v443 v444 v448 v452) (Scalar.ofBits .f32 0x3C000000#32) v471) (k0_pay207 (k0_pay199 v456) (k0_pay200 v458) (k0_pay205 (k0_pay198 v0 v443 v444 v448 v452)) (k0_pay206 (k0_pay198 v0 v443 v444 v448 v452)) v515) =
      k0_pay22 (head0 v456 v458 (k0_pay4 v0 v443 v444 v448 v452) v471) (head1 v456 v458 (k0_pay4 v0 v443 v444 v448 v452) v515) := rfl
theorem k5 (v0 : EReal) (v443 : FVec Ideal S256x3072 .fp8e4m3) (v444 : FVec Ideal S3072x512 .fp8e4m3) (v448 v452 : FVec Ideal S1x512 .f32) (v456 v458 : FVec Ideal S256x128 .f32) (v559 v603 : FVec Ideal S1x128 .f32) :
    k0_pay217 (F := Ideal) (k0_pay211 (k0_pay199 v456) (k0_pay200 v458) (k0_pay209 (k0_pay198 v0 v443 v444 v448 v452)) (k0_pay210 (k0_pay198 v0 v443 v444 v448 v452)) v559) (k0_pay213 (k0_pay198 v0 v443 v444 v448 v452) (k0_pay199 v456) (k0_pay200 v458) v603) =
      k0_pay22 (head2 v456 v458 (k0_pay4 v0 v443 v444 v448 v452) v559) (head3 v456 v458 (k0_pay4 v0 v443 v444 v448 v452) v603) := rfl
theorem k6 (v0 : EReal) (v649 : FVec Ideal S256x3072 .fp8e4m3) (v650 : FVec Ideal S3072x512 .fp8e4m3) (v654 v658 : FVec Ideal S1x512 .f32) (v662 v664 : FVec Ideal S256x128 .f32) (v677 v721 : FVec Ideal S1x128 .f32) :
    k0_pay237 (F := Ideal) (k0_pay221 (k0_pay218 v0 v649 v650 v654 v658) (k0_pay219 v662) v664 v677) (k0_pay224 (k0_pay218 v0 v649 v650 v654 v658) (k0_pay219 v662) (k0_pay220 v664) v721) =
      k0_pay22 (head0 v662 v664 (k0_pay4 v0 v649 v650 v654 v658) v677) (head1 v662 v664 (k0_pay4 v0 v649 v650 v654 v658) v721) := rfl
theorem k7 (v0 : EReal) (v649 : FVec Ideal S256x3072 .fp8e4m3) (v650 : FVec Ideal S3072x512 .fp8e4m3) (v654 v658 : FVec Ideal S1x512 .f32) (v662 v664 : FVec Ideal S256x128 .f32) (v765 v809 : FVec Ideal S1x128 .f32) :
    k0_pay238 (F := Ideal) (k0_pay220 v664) (k0_pay229 (k0_pay220 v664) (k0_pay227 (k0_pay218 v0 v649 v650 v654 v658) (k0_pay219 v662) v765) (k0_pay228 (k0_pay218 v0 v649 v650 v654 v658) v765)) (k0_pay231 (k0_pay218 v0 v649 v650 v654 v658) v809) (k0_pay232 (k0_pay218 v0 v649 v650 v654 v658) (k0_pay219 v662) v809) k0_pay233 (k0_pay234 (k0_pay218 v0 v649 v650 v654 v658) v809) 1#32 =
      k0_pay22 (head2 v662 v664 (k0_pay4 v0 v649 v650 v654 v658) v765) (head3 v662 v664 (k0_pay4 v0 v649 v650 v654 v658) v809) := rfl
theorem k8 (v0 : EReal) (v855 : FVec Ideal S256x3072 .fp8e4m3) (v856 : FVec Ideal S3072x512 .fp8e4m3) (v860 v864 : FVec Ideal S1x512 .f32) (v868 v870 : FVec Ideal S256x128 .f32) (v883 v927 : FVec Ideal S1x128 .f32) :
    k0_pay268 (F := Ideal) (k0_pay247 (k0_pay242 v870) (k0_pay243 (k0_pay239 v0 v855 v856 v860) v864 v883) (k0_pay244 (k0_pay239 v0 v855 v856 v860) v864 v868 v883) k0_pay245 k0_pay246) (k0_pay252 (k0_pay242 v870) (k0_pay249 (k0_pay240 (k0_pay239 v0 v855 v856 v860) v864) v927) (k0_pay250 (k0_pay240 (k0_pay239 v0 v855 v856 v860) v864) (k0_pay241 v868) v927) k0_pay251) =
      k0_pay22 (head0 v868 v870 (k0_pay4 v0 v855 v856 v860 v864) v883) (head1 v868 v870 (k0_pay4 v0 v855 v856 v860 v864) v927) := rfl
theorem k9 (v0 : EReal) (v855 : FVec Ideal S256x3072 .fp8e4m3) (v856 : FVec Ideal S3072x512 .fp8e4m3) (v860 v864 : FVec Ideal S1x512 .f32) (v868 v870 : FVec Ideal S256x128 .f32) (v971 v1015 : FVec Ideal S1x128 .f32) :
    k0_pay269 (F := Ideal) (k0_pay242 v870) (k0_pay259 (k0_pay242 v870) (k0_pay254 (k0_pay240 (k0_pay239 v0 v855 v856 v860) v864) v971) (k0_pay255 (k0_pay240 (k0_pay239 v0 v855 v856 v860) v864) (k0_pay241 v868) v971) k0_pay256 k0_pay257 k0_pay258) (k0_pay261 (k0_pay240 (k0_pay239 v0 v855 v856 v860) v864) v1015) (k0_pay262 (k0_pay240 (k0_pay239 v0 v855 v856 v860) v864) (k0_pay241 v868) v1015) (Scalar.select (Scalar.cmpi .eq 2#32 0#32) 1#32 2#32) k0_pay263 k0_pay264 k0_pay265 =
      k0_pay22 (head2 v868 v870 (k0_pay4 v0 v855 v856 v860 v864) v971) (head3 v868 v870 (k0_pay4 v0 v855 v856 v860 v864) v1015) := rfl
theorem k10 (v0 : EReal) (v1061 : FVec Ideal S256x3072 .fp8e4m3) (v1062 : FVec Ideal S3072x512 .fp8e4m3) (v1066 v1070 : FVec Ideal S1x512 .f32) (v1074 v1076 : FVec Ideal S256x128 .f32) (v1089 v1133 : FVec Ideal S1x128 .f32) :
    k0_pay298 (F := Ideal) (k0_pay278 (k0_pay272 v1076) (k0_pay273 v0 v1061 v1062 v1066 v1070 v1089) (k0_pay274 v0 v1061 v1062 v1066 v1070 v1074 v1089) (Scalar.select (Scalar.cmpi .eq 2#32 0#32) 1#32 2#32) k0_pay275 k0_pay276 k0_pay277 0#32) (k0_pay285 (k0_pay272 v1076) (k0_pay280 (k0_pay270 v0 v1061 v1062 v1066 v1070) v1133) (k0_pay281 (k0_pay270 v0 v1061 v1062 v1066 v1070) (k0_pay271 v1074) v1133) (Scalar.select (Scalar.cmpi .eq 2#32 0#32) 1#32 2#32) k0_pay282 k0_pay283 k0_pay284) =
      k0_pay22 (head0 v1074 v1076 (k0_pay4 v0 v1061 v1062 v1066 v1070) v1089) (head1 v1074 v1076 (k0_pay4 v0 v1061 v1062 v1066 v1070) v1133) := rfl
theorem k11 (v0 : EReal) (v1061 : FVec Ideal S256x3072 .fp8e4m3) (v1062 : FVec Ideal S3072x512 .fp8e4m3) (v1066 v1070 : FVec Ideal S1x512 .f32) (v1074 v1076 : FVec Ideal S256x128 .f32) (v1177 v1221 : FVec Ideal S1x128 .f32) :
    k0_pay299 (F := Ideal) (k0_pay272 v1076) (k0_pay291 (k0_pay272 v1076) (k0_pay287 (k0_pay270 v0 v1061 v1062 v1066 v1070) v1177) (k0_pay288 (k0_pay270 v0 v1061 v1062 v1066 v1070) (k0_pay271 v1074) v1177) (Scalar.select (Scalar.cmpi .eq 2#32 0#32) 1#32 2#32) k0_pay289 k0_pay290) (k0_pay293 (k0_pay270 v0 v1061 v1062 v1066 v1070) v1221) (k0_pay294 (k0_pay270 v0 v1061 v1062 v1066 v1070) (k0_pay271 v1074) v1221) (Scalar.select (Scalar.cmpi .eq 2#32 0#32) 1#32 2#32) k0_pay295 0#32 =
      k0_pay22 (head2 v1074 v1076 (k0_pay4 v0 v1061 v1062 v1066 v1070) v1177) (head3 v1074 v1076 (k0_pay4 v0 v1061 v1062 v1066 v1070) v1221) := rfl
end Cert.Linear1Ideal.Mine
end
-- ==== Proof.Linear1KernelK.lean ====
/- The array of keys that the idealised kernel leaves is the function `Cert.Mine.heads` of the arguments. -/
module
public import proofs.«01_k».proof.Proof.Linear1IdealData
public import proofs.«01_k».proof.Proof.Linear1Blocks
public import proofs.«01_k».proof.Proof.Linear1KeyTiles
@[expose] public section
set_option maxRecDepth 16384
noncomputable section
namespace Cert.Linear1Ideal.Mine
open Cert.Linear1Ideal Cert.Linear1Ideal.Gen Cert.Linear1Ideal.Own Idealize.ShloMosaic Idealize.ShloMosaic.TcCoe Idealize.SL.Sem
open Idealize.ShloMosaic.Pipeline (Dat)
variable (m : (ℓ : Loc nD τ sig) → Buf (Elt Ideal) ℓ)

set_option maxHeartbeats 1600000 in
/-- The tile of keys that a point stores: the rotated heads of its rows and columns. -/
theorem kAt_at (c : Dev nD) (t : Fin cfg0.N) (h : 30 ≤ t.val ∧ t.val < 60) (y : S768x8x128.Idx) (i : Fin 7680) (hi : i.val = 768 * (t.val % 10) + (y 0).val)
    (H : Fin 24) (hH : H.val = 8 * (t.val / 10 - 3) + (y 1).val) (d : Fin 128) (hd : d.val = (y 2).val) :
    kAt m c t h y = Cert.Mine.headAt 3072 (by omega) (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg5))
      (m ((c : Thread nD τ).loc main_arg6)) (m ((c : Thread nD τ).loc main_arg7)) i H d := by
  have ht : t.val < 60 := by omega
  unfold kAt
  frame_out
  canon_tiles x hx
  · idx_vars x
    refine (congrFun (k11 _ _ _ _ _ _ _ _ _) _).trans ?_
    refine pair23 3072 (by omega) _ _ _ _ _ _ _ _ i H _ _ _ _ _ _ _ _ _ x0 x1 x2 d (by omega) (1024 * (t.val / 10) + 512) (by omega) (by omega)
      (ld0 m c t _ _) (fun k => ld2 m c t 512 _ (by rw [off2]; exact (off1 t).2.2) _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 512 (by norm_num) _ x0 d i (by omega))
      (fun d => ld9 m c t ht 512 (by norm_num) _ x0 d i (by omega)) (fun k => b7 m c t _ k) (fun k => b7 m c t _ k)
  · idx_vars x
    refine (congrFun (k10 _ _ _ _ _ _ _ _ _) _).trans ?_
    refine pair01 3072 (by omega) _ _ _ _ _ _ _ _ i H _ _ _ _ _ _ _ _ _ x0 x1 x2 d (by omega) (1024 * (t.val / 10) + 512) (by omega) (by omega)
      (ld0 m c t _ _) (fun k => ld2 m c t 512 _ (by rw [off2]; exact (off1 t).2.2) _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 512 (by norm_num) _ x0 d i (by omega))
      (fun d => ld9 m c t ht 512 (by norm_num) _ x0 d i (by omega)) (fun k => b7 m c t _ k) (fun k => b7 m c t _ k)
  · idx_vars x
    refine (congrFun (k9 _ _ _ _ _ _ _ _ _) _).trans ?_
    refine pair23 3072 (by omega) _ _ _ _ _ _ _ _ i H _ _ _ _ _ _ _ _ _ x0 x1 x2 d (by omega) (1024 * (t.val / 10) + 512) (by omega) (by omega)
      (ld0 m c t _ _) (fun k => ld2 m c t 256 _ (by rw [off2]; exact (off1 t).2.1) _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 256 (by norm_num) _ x0 d i (by omega))
      (fun d => ld9 m c t ht 256 (by norm_num) _ x0 d i (by omega)) (fun k => b7 m c t _ k) (fun k => b7 m c t _ k)
  · idx_vars x
    refine (congrFun (k8 _ _ _ _ _ _ _ _ _) _).trans ?_
    refine pair01 3072 (by omega) _ _ _ _ _ _ _ _ i H _ _ _ _ _ _ _ _ _ x0 x1 x2 d (by omega) (1024 * (t.val / 10) + 512) (by omega) (by omega)
      (ld0 m c t _ _) (fun k => ld2 m c t 256 _ (by rw [off2]; exact (off1 t).2.1) _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 256 (by norm_num) _ x0 d i (by omega))
      (fun d => ld9 m c t ht 256 (by norm_num) _ x0 d i (by omega)) (fun k => b7 m c t _ k) (fun k => b7 m c t _ k)
  · idx_vars x
    refine (congrFun (k7 _ _ _ _ _ _ _ _ _) _).trans ?_
    refine pair23 3072 (by omega) _ _ _ _ _ _ _ _ i H _ _ _ _ _ _ _ _ _ x0 x1 x2 d (by omega) (1024 * (t.val / 10) + 512) (by omega) (by omega)
      (ld0 m c t _ _) (fun k => ld2 m c t 0 _ (by rw [off2]; exact (off1 t).1) _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 0 (by norm_num) _ x0 d i (by omega))
      (fun d => ld9 m c t ht 0 (by norm_num) _ x0 d i (by omega)) (fun k => b7 m c t _ k) (fun k => b7 m c t _ k)
  · idx_vars x
    refine (congrFun (k6 _ _ _ _ _ _ _ _ _) _).trans ?_
    refine pair01 3072 (by omega) _ _ _ _ _ _ _ _ i H _ _ _ _ _ _ _ _ _ x0 x1 x2 d (by omega) (1024 * (t.val / 10) + 512) (by omega) (by omega)
      (ld0 m c t _ _) (fun k => ld2 m c t 0 _ (by rw [off2]; exact (off1 t).1) _ x0 k i (by omega)) (fun k j => ld3 m c t 512 (by norm_num) _ k j _ rfl)
      (fun j => ld4 m c t 512 (by norm_num) _ j _ rfl) (fun j => ld5 m c t 512 (by norm_num) _ j _ rfl) (fun d => ld8 m c t ht 0 (by norm_num) _ x0 d i (by omega))
      (fun d => ld9 m c t ht 0 (by norm_num) _ x0 d i (by omega)) (fun k => b7 m c t _ k) (fun k => b7 m c t _ k)
  · idx_vars x
    refine (congrFun (k5 _ _ _ _ _ _ _ _ _) _).trans ?_
    refine pair23 3072 (by omega) _ _ _ _ _ _ _ _ i H _ _ _ _ _ _ _ _ _ x0 x1 x2 d (by omega) (1024 * (t.val / 10) + 0) (by omega) (by omega)
      (ld0 m c t _ _) (fun k => ld2 m c t 512 _ (by rw [off2]; exact (off1 t).2.2) _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 512 (by norm_num) _ x0 d i (by omega))
      (fun d => ld9 m c t ht 512 (by norm_num) _ x0 d i (by omega)) (fun k => b7 m c t _ k) (fun k => b7 m c t _ k)
  · idx_vars x
    refine (congrFun (k4 _ _ _ _ _ _ _ _ _) _).trans ?_
    refine pair01 3072 (by omega) _ _ _ _ _ _ _ _ i H _ _ _ _ _ _ _ _ _ x0 x1 x2 d (by omega) (1024 * (t.val / 10) + 0) (by omega) (by omega)
      (ld0 m c t _ _) (fun k => ld2 m c t 512 _ (by rw [off2]; exact (off1 t).2.2) _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 512 (by norm_num) _ x0 d i (by omega))
      (fun d => ld9 m c t ht 512 (by norm_num) _ x0 d i (by omega)) (fun k => b7 m c t _ k) (fun k => b7 m c t _ k)
  · idx_vars x
    refine (congrFun (k3 _ _ _ _ _ _ _ _ _) _).trans ?_
    refine pair23 3072 (by omega) _ _ _ _ _ _ _ _ i H _ _ _ _ _ _ _ _ _ x0 x1 x2 d (by omega) (1024 * (t.val / 10) + 0) (by omega) (by omega)
      (ld0 m c t _ _) (fun k => ld2 m c t 256 _ (by rw [off2]; exact (off1 t).2.1) _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 256 (by norm_num) _ x0 d i (by omega))
      (fun d => ld9 m c t ht 256 (by norm_num) _ x0 d i (by omega)) (fun k => b7 m c t _ k) (fun k => b7 m c t _ k)
  · idx_vars x
    refine (congrFun (k2 _ _ _ _ _ _ _ _ _) _).trans ?_
    refine pair01 3072 (by omega) _ _ _ _ _ _ _ _ i H _ _ _ _ _ _ _ _ _ x0 x1 x2 d (by omega) (1024 * (t.val / 10) + 0) (by omega) (by omega)
      (ld0 m c t _ _) (fun k => ld2 m c t 256 _ (by rw [off2]; exact (off1 t).2.1) _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 256 (by norm_num) _ x0 d i (by omega))
      (fun d => ld9 m c t ht 256 (by norm_num) _ x0 d i (by omega)) (fun k => b7 m c t _ k) (fun k => b7 m c t _ k)
  · idx_vars x
    refine (congrFun (k1 _ _ _ _ _ _ _ _ _) _).trans ?_
    refine pair23 3072 (by omega) _ _ _ _ _ _ _ _ i H _ _ _ _ _ _ _ _ _ x0 x1 x2 d (by omega) (1024 * (t.val / 10) + 0) (by omega) (by omega)
      (ld0 m c t _ _) (fun k => ld2 m c t 0 _ (by rw [off2]; exact (off1 t).1) _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 0 (by norm_num) _ x0 d i (by omega))
      (fun d => ld9 m c t ht 0 (by norm_num) _ x0 d i (by omega)) (fun k => b7 m c t _ k) (fun k => b7 m c t _ k)
  · idx_vars x
    refine (congrFun (k0 _ _ _ _ _ _ _ _ _) _).trans ?_
    refine pair01 3072 (by omega) _ _ _ _ _ _ _ _ i H _ _ _ _ _ _ _ _ _ x0 x1 x2 d (by omega) (1024 * (t.val / 10) + 0) (by omega) (by omega)
      (ld0 m c t _ _) (fun k => ld2 m c t 0 _ (by rw [off2]; exact (off1 t).1) _ x0 k i (by omega)) (fun k j => ld3 m c t 0 (by norm_num) _ k j _ rfl)
      (fun j => ld4 m c t 0 (by norm_num) _ j _ rfl) (fun j => ld5 m c t 0 (by norm_num) _ j _ rfl) (fun d => ld8 m c t ht 0 (by norm_num) _ x0 d i (by omega))
      (fun d => ld9 m c t ht 0 (by norm_num) _ x0 d i (by omega)) (fun k => b7 m c t _ k) (fun k => b7 m c t _ k)
/-- A write-back of keys happens in the key part or later. -/
theorem flush_k : ∀ t : Fin cfg0.N, (cfg0.win 11).flush t = true → 30 ≤ t.val := by decide +kernel
/-- The array of keys that the kernel leaves. -/
theorem final_k (c : Dev nD) : (dats m 0 c).arrAt 11 cfg0.N
    = Cert.Mine.heads 3072 (by omega) (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg5))
      (m ((c : Thread nD τ).loc main_arg6)) (m ((c : Thread nD τ).loc main_arg7)) := by
  refine (dats m 0 c).arrAt_eq_of_covers 11 _ (by decide +kernel) fun t hf y => ?_
  have h30 : 30 ≤ t.val := flush_k t hf
  have hp : (kPt t).val = min t.val 59 := by have : (kPt t).val = max 30 (min t.val 59) := rfl; omega
  blk_simp
  rw [after0_11]
  idx_vars y
  rw [show ((win0_11.blk t).view.emb (ix3 y0 y1 y2)) = ix3 (⟨768 * (min t.val 59 % 10) + y0, by omega⟩ : Fin 7680) (⟨8 * (min t.val 59 / 10 - 3) + y1, by omega⟩ : Fin 24) y2 by blk_ext [idx_k t h30], Cert.Mine.heads_apply]
  exact kAt_at m c (kPt t) (kPt_mem t) _ _ (by rw [hp]; rfl) _ (by rw [hp]; rfl) _ rfl
end Cert.Linear1Ideal.Mine
end
-- ==== Proof.Linear1MlpTiles.lean ====
/- The six values stored into a block of the feed-forward branch (three row tiles, two column tiles) are one function of the tile's operands. -/
module
public import proofs.«01_k».proof.Proof.Linear1Head
@[expose] public section
set_option maxRecDepth 16384
noncomputable section
namespace Cert.Linear1Ideal.Mine
open Cert.Linear1Ideal Cert.Linear1Ideal.Gen Idealize.ShloMosaic Idealize.SL.Sem

theorem m0 (v0 v1 : EReal) (v31 : FVec Ideal S256x3072 .fp8e4m3) (v32 : FVec Ideal S3072x512 .fp8e4m3) (v36 v40 : FVec Ideal S1x512 .f32) :
    k0_pay311 (F := Ideal) (k0_pay310 v0 v1 v31 v32 v36 v40) (Scalar.ofBits .f32 0xC3E00000#32) =
      k0_pay334 v0 v1 v31 v32 v36 v40 := rfl
theorem m1 (v0 v1 : EReal) (v76 : FVec Ideal S256x3072 .fp8e4m3) (v77 : FVec Ideal S3072x512 .fp8e4m3) (v81 v85 : FVec Ideal S1x512 .f32) :
    k0_pay315 (F := Ideal) v1 (k0_pay312 v0 v76 v77 v81 v85) =
      k0_pay334 v0 v1 v76 v77 v81 v85 := rfl
theorem m2 (v0 v1 : EReal) (v121 : FVec Ideal S256x3072 .fp8e4m3) (v122 : FVec Ideal S3072x512 .fp8e4m3) (v126 v130 : FVec Ideal S1x512 .f32) :
    k0_pay321 (F := Ideal) v1 (k0_pay317 v0 v121 v122 v126 v130) (k0_pay318 v0 v121 v122 v126 v130) (Scalar.ofBits .f32 0x3F800000#32) =
      k0_pay334 v0 v1 v121 v122 v126 v130 := rfl
theorem m3 (v0 v1 : EReal) (v166 : FVec Ideal S256x3072 .fp8e4m3) (v167 : FVec Ideal S3072x512 .fp8e4m3) (v171 v175 : FVec Ideal S1x512 .f32) :
    k0_pay327 (F := Ideal) v1 (k0_pay322 v0 v166 v167 v171 v175) (k0_pay323 v0 v166 v167 v171 v175) (k0_pay324 v0 v166 v167 v171 v175) =
      k0_pay334 v0 v1 v166 v167 v171 v175 := rfl
theorem m4 (v0 v1 : EReal) (v211 : FVec Ideal S256x3072 .fp8e4m3) (v212 : FVec Ideal S3072x512 .fp8e4m3) (v216 v220 : FVec Ideal S1x512 .f32) :
    k0_pay331 (F := Ideal) v1 (k0_pay328 v0 v211 v212 v216) v220 =
      k0_pay334 v0 v1 v211 v212 v216 v220 := rfl
theorem m5 (v0 v1 : EReal) (v256 : FVec Ideal S256x3072 .fp8e4m3) (v257 : FVec Ideal S3072x512 .fp8e4m3) (v261 v265 : FVec Ideal S1x512 .f32) :
    k0_pay334 (F := Ideal) v0 v1 v256 v257 v261 v265 =
      k0_pay334 v0 v1 v256 v257 v261 v265 := rfl
end Cert.Linear1Ideal.Mine
end
-- ==== Proof.Linear1KernelMlp.lean ====
/- The array of the feed-forward branch that the idealised kernel leaves is the function `Cert.Mine.mlp` of the arguments. -/
module
public import proofs.«01_k».proof.Proof.Linear1IdealData
public import proofs.«01_k».proof.Proof.Linear1Blocks
public import proofs.«01_k».proof.Proof.Linear1MlpTiles
@[expose] public section
set_option maxRecDepth 16384
noncomputable section
namespace Cert.Linear1Ideal.Mine
open Cert.Linear1Ideal Cert.Linear1Ideal.Gen Cert.Linear1Ideal.Own Idealize.ShloMosaic Idealize.ShloMosaic.TcCoe Idealize.SL.Sem
open Idealize.ShloMosaic.Pipeline (Dat)
variable (m : (ℓ : Loc nD τ sig) → Buf (Elt Ideal) ℓ)

set_option maxHeartbeats 1600000 in
/-- The tile of codes that a point stores, at the first point of its columns. -/
theorem mlpAt_at_D (c : Dev nD) (t : Fin cfg0.N) (h : 90 ≤ t.val) (h3 : t.val % 210 = 90) (y : S768x1024.Idx) (i : Fin 7680) (hi : i.val = 768 * (t.val % 10) + (y 0).val)
    (J : Fin 12288) (hJ : J.val = 1024 * (t.val / 10 - 9) + (y 1).val) :
    mlpAt m c t h y = Cert.Mine.mlp (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg9)) (ix2 i J) := by
  have hN := t_lt t
  rw [mlpAt_D m c t h h3 hN, Cert.Mine.mlp_apply]
  frame_out
  canon_tiles x hx
  · idx_vars x
    refine (congrFun (m5 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 512 _ (by rw [off4]; exact (off1 t).2.2) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m4 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 256 _ (by rw [off4]; exact (off1 t).2.1) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m3 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 0 _ (by rw [off4]; exact (off1 t).1) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m2 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 512 _ (by rw [off4]; exact (off1 t).2.2) _ x0 k i (by omega)) (fun k j => ld3 m c t 0 (by norm_num) _ k j _ rfl)
      (fun j => ld4 m c t 0 (by norm_num) _ j _ rfl) (fun j => ld5 m c t 0 (by norm_num) _ j _ rfl)
  · idx_vars x
    refine (congrFun (m1 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 256 _ (by rw [off4]; exact (off1 t).2.1) _ x0 k i (by omega)) (fun k j => ld3 m c t 0 (by norm_num) _ k j _ rfl)
      (fun j => ld4 m c t 0 (by norm_num) _ j _ rfl) (fun j => ld5 m c t 0 (by norm_num) _ j _ rfl)
  · idx_vars x
    refine (congrFun (m0 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 0 _ (by rw [off4]; exact (off1 t).1) _ x0 k i (by omega)) (fun k j => ld3 m c t 0 (by norm_num) _ k j _ rfl)
      (fun j => ld4 m c t 0 (by norm_num) _ j _ rfl) (fun j => ld5 m c t 0 (by norm_num) _ j _ rfl)
set_option maxHeartbeats 1600000 in
/-- The tile of codes that a point stores, between the first and the last point. -/
theorem mlpAt_at_E (c : Dev nD) (t : Fin cfg0.N) (h : 90 ≤ t.val) (h3 : ¬t.val % 210 = 90) (h5 : ¬t.val % 210 = 209) (y : S768x1024.Idx) (i : Fin 7680) (hi : i.val = 768 * (t.val % 10) + (y 0).val)
    (J : Fin 12288) (hJ : J.val = 1024 * (t.val / 10 - 9) + (y 1).val) :
    mlpAt m c t h y = Cert.Mine.mlp (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg9)) (ix2 i J) := by
  have hN := t_lt t
  rw [mlpAt_E m c t h h3 h5 hN, Cert.Mine.mlp_apply]
  frame_out
  canon_tiles x hx
  · idx_vars x
    refine (congrFun (m5 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 512 _ (by rw [off4]; exact (off1 t).2.2) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m4 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 256 _ (by rw [off4]; exact (off1 t).2.1) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m3 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 0 _ (by rw [off4]; exact (off1 t).1) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m2 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 512 _ (by rw [off4]; exact (off1 t).2.2) _ x0 k i (by omega)) (fun k j => ld3 m c t 0 (by norm_num) _ k j _ rfl)
      (fun j => ld4 m c t 0 (by norm_num) _ j _ rfl) (fun j => ld5 m c t 0 (by norm_num) _ j _ rfl)
  · idx_vars x
    refine (congrFun (m1 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 256 _ (by rw [off4]; exact (off1 t).2.1) _ x0 k i (by omega)) (fun k j => ld3 m c t 0 (by norm_num) _ k j _ rfl)
      (fun j => ld4 m c t 0 (by norm_num) _ j _ rfl) (fun j => ld5 m c t 0 (by norm_num) _ j _ rfl)
  · idx_vars x
    refine (congrFun (m0 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 0 _ (by rw [off4]; exact (off1 t).1) _ x0 k i (by omega)) (fun k j => ld3 m c t 0 (by norm_num) _ k j _ rfl)
      (fun j => ld4 m c t 0 (by norm_num) _ j _ rfl) (fun j => ld5 m c t 0 (by norm_num) _ j _ rfl)
set_option maxHeartbeats 1600000 in
/-- The tile of codes that a point stores, at the last point. -/
theorem mlpAt_at_F (c : Dev nD) (t : Fin cfg0.N) (h : 90 ≤ t.val) (h3 : ¬t.val % 210 = 90) (h5 : t.val % 210 = 209) (y : S768x1024.Idx) (i : Fin 7680) (hi : i.val = 768 * (t.val % 10) + (y 0).val)
    (J : Fin 12288) (hJ : J.val = 1024 * (t.val / 10 - 9) + (y 1).val) :
    mlpAt m c t h y = Cert.Mine.mlp (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg9)) (ix2 i J) := by
  have hN := t_lt t
  rw [mlpAt_F m c t h h3 h5 hN, Cert.Mine.mlp_apply]
  frame_out
  canon_tiles x hx
  · idx_vars x
    refine (congrFun (m5 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 512 _ (by rw [off4]; exact (off1 t).2.2) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m4 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 256 _ (by rw [off4]; exact (off1 t).2.1) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m3 _ _ _ _ _ _) _).trans ?_
    exact tile_mlp _ _ _ _ _ _ i J _ _ _ _ _ _ x0 x1 (1024 * (t.val / 10) + 512) (by omega) (by omega) (ld0 m c t _ _) (ld1 m c t _ _)
      (fun k => ld2 m c t 0 _ (by rw [off4]; exact (off1 t).1) _ x0 k i (by omega)) (fun k j => ld3 m c t 512 (by norm_num) _ k j _ rfl)
      (fun j => ld4 m c t 512 (by norm_num) _ j _ rfl) (fun j => ld5 m c t 512 (by norm_num) _ j _ rfl)
  · idx_vars x
    refine (congrFun (m2 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 512 _ (by rw [off4]; exact (off1 t).2.2) _ x0 k i (by omega)) (fun k j => ld3 m c t 0 (by norm_num) _ k j _ rfl)
      (fun j => ld4 m c t 0 (by norm_num) _ j _ rfl) (fun j => ld5 m c t 0 (by norm_num) _ j _ rfl)
  · idx_vars x
    refine (congrFun (m1 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 256 _ (by rw [off4]; exact (off1 t).2.1) _ x0 k i (by omega)) (fun k j => ld3 m c t 0 (by norm_num) _ k j _ rfl)
      (fun j => ld4 m c t 0 (by norm_num) _ j _ rfl) (fun j => ld5 m c t 0 (by norm_num) _ j _ rfl)
  · idx_vars x
    refine (congrFun (m0 _ _ _ _ _ _) _).trans ?_
    exact tile_mlp _ _ _ _ _ _ i J _ _ _ _ _ _ x0 x1 (1024 * (t.val / 10) + 0) (by omega) (by omega) (ld0 m c t _ _) (ld1 m c t _ _)
      (fun k => ld2 m c t 0 _ (by rw [off4]; exact (off1 t).1) _ x0 k i (by omega)) (fun k j => ld3 m c t 0 (by norm_num) _ k j _ rfl)
      (fun j => ld4 m c t 0 (by norm_num) _ j _ rfl) (fun j => ld5 m c t 0 (by norm_num) _ j _ rfl)
/-- A write-back of codes happens in the columns of the feed-forward branch. -/
theorem flush_mlp : ∀ t : Fin cfg0.N, (cfg0.win 15).flush t = true → 90 ≤ t.val := by decide +kernel
/-- The feed-forward branch's array that the kernel leaves. -/
theorem final_mlp (c : Dev nD) : (dats m 0 c).arrAt 15 cfg0.N
    = Cert.Mine.mlp (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg9)) := by
  refine (dats m 0 c).arrAt_eq_of_covers 15 _ (by decide +kernel) fun t hf y => ?_
  have h90 : 90 ≤ t.val := flush_mlp t hf
  have hN := t_lt t
  blk_simp
  rw [after0_15, mlpAt_mPt m c t h90]
  idx_vars y
  rw [show ((win0_15.blk t).view.emb (ix2 y0 y1)) = ix2 (⟨768 * (t.val % 10) + y0, by omega⟩ : Fin 7680) (⟨1024 * (t.val / 10 - 9) + y1, by omega⟩ : Fin 12288) by
    blk_ext [idx t, if_neg (show ¬t.val < 90 by omega)]]
  by_cases h3 : t.val % 210 = 90
  · exact mlpAt_at_D m c t h90 h3 _ _ rfl _ rfl
  · by_cases h5 : t.val % 210 = 209
    · exact mlpAt_at_F m c t h90 h3 h5 _ _ rfl _ rfl
    · exact mlpAt_at_E m c t h90 h3 h5 _ _ rfl _ rfl
end Cert.Linear1Ideal.Mine
end
-- ==== Proof.Linear1Reference.lean ====
/- What the plain reference of the first linear layer computes: the three arrays its one kernel call leaves are the functions `Cert.Mine.heads`
   (queries, keys) and `Cert.Mine.mlp` of the arguments. -/
module
public import proofs.«01_k».proof.Proof.Gen.Linear1RefIdeal.Value
public import Idealize.ShloMosaic.Lib.Pipeline.ValueKit
public import Idealize.ShloMosaic.Lib.Pipeline.ReadBack
public import Idealize.ShloMosaic.Lib.Pointwise
public import Idealize.ShloMosaic.Lib.Tactic
public import proofs.«01_k».proof.Proof.Linear1Math
@[expose] public section
set_option maxRecDepth 16384
noncomputable section
namespace Cert.Linear1RefIdeal.Mine
open Cert.Linear1RefIdeal Cert.Linear1RefIdeal.Gen Idealize.ShloMosaic Idealize.ShloMosaic.TcCoe Idealize.SL.Sem
open Idealize.ShloMosaic.Pipeline (Dat)

/-! ## The body's values at an index -/

theorem lin_at (v0 : FVec Ideal S7680x3072 .fp8e4m3) (v1 : FVec Ideal S3072x21504 .fp8e4m3) (v3 : EReal) (v6 v10 : FVec Ideal S1x21504 .f32) (i : Fin 7680) (j : Fin 21504) :
    k0_pay3 (F := Ideal) v0 v1 v3 v6 v10 (ix2 i j) = (∑ k : Fin 3072, v0 (ix2 i k) * v1 (ix2 k j)) * v3 * v6 (ix2 0 j) + v10 (ix2 0 j) := by
  pointwise [k0_pay3]
theorem mlp_at (v18 : FVec Ideal S7680x12288 .f32) (v112 : EReal) (i : Fin 7680) (j : Fin 12288) :
    k0_pay2 (F := Ideal) v18 v112 (ix2 i j) = Cert.Mine.geluQ v112 (v18 (ix2 i j)) := by
  pointwise [k0_pay2]
  rfl
theorem key_at (v0 : FVec Ideal S7680x3072 .fp8e4m3) (v1 : FVec Ideal S3072x21504 .fp8e4m3) (v3 : EReal) (v6 v10 : FVec Ideal S1x21504 .f32) (i : Fin 7680) (h : Fin 24) (d : Fin 128) :
    k0_pay4 (F := Ideal) v0 v1 v3 v6 v10 (ix3 i h d) = k0_pay3 (F := Ideal) v0 v1 v3 v6 v10 (ix2 i ⟨3072 + 128 * h + d, by omega⟩) := by
  pointwise [k0_pay4]
  simp only [Nat.mul_comm 128, Nat.add_assoc]
theorem feed_at (v0 : FVec Ideal S7680x3072 .fp8e4m3) (v1 : FVec Ideal S3072x21504 .fp8e4m3) (v3 : EReal) (v6 v10 : FVec Ideal S1x21504 .f32) (i : Fin 7680) (j : Fin 12288) :
    k0_pay5 (F := Ideal) v0 v1 v3 v6 v10 (ix2 i j) = k0_pay3 (F := Ideal) v0 v1 v3 v6 v10 (ix2 i ⟨9216 + j, by omega⟩) := by
  pointwise [k0_pay5]
theorem even_q (v0 : FVec Ideal S7680x3072 .fp8e4m3) (v1 : FVec Ideal S3072x21504 .fp8e4m3) (v3 : EReal) (v6 v10 : FVec Ideal S1x21504 .f32) (v19 : FVec Ideal S1x128 .f32) (i : Fin 7680) (h : Fin 24) (d : Fin 64) :
    k0_pay7 (F := Ideal) v0 v1 v3 v6 v10 v19 (ix3 i h d) = Cert.Mine.normAt (fun k => k0_pay3 (F := Ideal) v0 v1 v3 v6 v10 (ix2 i ⟨0 + 128 * h + k, by omega⟩)) (fun k => v19 (ix2 0 k)) ⟨2 * d, by omega⟩ := by
  pointwise [k0_pay7, k0_pay6]
  simp only [Cert.Mine.normAt, Nat.mul_comm 128, Nat.mul_comm 2, Nat.add_assoc]
theorem odd_q (v0 : FVec Ideal S7680x3072 .fp8e4m3) (v1 : FVec Ideal S3072x21504 .fp8e4m3) (v3 : EReal) (v6 v10 : FVec Ideal S1x21504 .f32) (v19 : FVec Ideal S1x128 .f32) (i : Fin 7680) (h : Fin 24) (d : Fin 64) :
    k0_pay8 (F := Ideal) v0 v1 v3 v6 v10 v19 (ix3 i h d) = Cert.Mine.normAt (fun k => k0_pay3 (F := Ideal) v0 v1 v3 v6 v10 (ix2 i ⟨0 + 128 * h + k, by omega⟩)) (fun k => v19 (ix2 0 k)) ⟨2 * d + 1, by omega⟩ := by
  pointwise [k0_pay8, k0_pay6]
  simp only [Cert.Mine.normAt, Nat.mul_comm 128, Nat.mul_comm 2, Nat.add_assoc]
theorem even_k (v17 : FVec Ideal S7680x24x128 .f32) (v59 : FVec Ideal S1x128 .f32) (i : Fin 7680) (h : Fin 24) (d : Fin 64) :
    k0_pay11 (F := Ideal) v17 v59 (ix3 i h d) = Cert.Mine.normAt (fun k => v17 (ix3 i h k)) (fun k => v59 (ix2 0 k)) ⟨2 * d, by omega⟩ := by
  pointwise [k0_pay11, k0_pay10]
  simp only [Cert.Mine.normAt, Nat.mul_comm 128, Nat.mul_comm 2, Nat.add_assoc]
theorem odd_k (v17 : FVec Ideal S7680x24x128 .f32) (v59 : FVec Ideal S1x128 .f32) (i : Fin 7680) (h : Fin 24) (d : Fin 64) :
    k0_pay12 (F := Ideal) v17 v59 (ix3 i h d) = Cert.Mine.normAt (fun k => v17 (ix3 i h k)) (fun k => v59 (ix2 0 k)) ⟨2 * d + 1, by omega⟩ := by
  pointwise [k0_pay12, k0_pay10]
  simp only [Cert.Mine.normAt, Nat.mul_comm 128, Nat.mul_comm 2, Nat.add_assoc]
theorem rot_q (v34 v35 : FVec Ideal S7680x64 .f32) (v38 v40 : FVec Ideal S7680x24x64 .f32) (i : Fin 7680) (h : Fin 24) (d : Fin 128) :
    k0_pay9 (F := Ideal) v34 v35 v38 v40 (ix3 i h d) =
      if d.val % 2 = 0 then v34 (ix2 i ⟨d / 2, by omega⟩) * v38 (ix3 i h ⟨d / 2, by omega⟩) - v35 (ix2 i ⟨d / 2, by omega⟩) * v40 (ix3 i h ⟨d / 2, by omega⟩)
      else v35 (ix2 i ⟨d / 2, by omega⟩) * v38 (ix3 i h ⟨d / 2, by omega⟩) + v34 (ix2 i ⟨d / 2, by omega⟩) * v40 (ix3 i h ⟨d / 2, by omega⟩) := by
  pointwise [k0_pay9]
  simp only [Nat.lt_one_iff]
  split <;> rfl
theorem rot_k_eq (v74 v75 : FVec Ideal S7680x64 .f32) (v17 : FVec Ideal S7680x24x128 .f32) (v59 : FVec Ideal S1x128 .f32) :
    k0_pay1 (F := Ideal) (k0_pay11 v17 v59) (k0_pay12 v17 v59) (k0_pay13 v74) (k0_pay14 v75) (k0_pay15 v17 v59 v74 v75) = k0_pay9 v74 v75 (k0_pay11 v17 v59) (k0_pay12 v17 v59) := rfl

variable (m : (ℓ : Loc nD τ sig) → Buf (Elt Ideal) ℓ)

/-- Every window of the one-point call is its whole array. -/
theorem idx : ∀ t : Fin cfg0.N, win0_0.index t = ![0] ∧ win0_1.index t = ![0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0, 0] ∧ win0_11.index t = ![0, 0, 0] ∧ win0_12.index t = ![0, 0] :=
  (by decide +kernel : ∀ t : Fin grid0.N, win0_0.index t = ![0] ∧ win0_1.index t = ![0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0, 0] ∧ win0_11.index t = ![0, 0, 0] ∧ win0_12.index t = ![0, 0])

/-! ## What each window's block holds, in terms of the arguments -/

theorem r0 (c : Dev nD) (t : Fin cfg0.N) (j) : iblk m c 0 t j = m ((c : Thread nD τ).loc main_arg8) ix0 := by
  blk_simp [iblk, V, idx t]
  entry_read
  pointwise
theorem r1 (c : Dev nD) (t : Fin cfg0.N) (j) : iblk m c 1 t j = m ((c : Thread nD τ).loc main_arg9) ix0 := by
  blk_simp [iblk, V, idx t]
  entry_read
  pointwise
theorem r2 (c : Dev nD) (t : Fin cfg0.N) (a : Fin 7680) (b : Fin 3072) : iblk m c 2 t (ix2 a b) = m ((c : Thread nD τ).loc main_arg0) (ix2 a b) := by
  blk_ext [iblk, V, idx t]
theorem r3 (c : Dev nD) (t : Fin cfg0.N) (a : Fin 3072) (b : Fin 21504) : iblk m c 3 t (ix2 a b) = m ((c : Thread nD τ).loc main_arg1) (ix2 a b) := by
  blk_ext [iblk, V, idx t]
theorem r4 (c : Dev nD) (t : Fin cfg0.N) (a : Fin 1) (b : Fin 21504) : iblk m c 4 t (ix2 a b) = m ((c : Thread nD τ).loc main_arg2) (ix1 b) := by
  blk_simp [iblk, V, idx t]
  entry_read
  rw [show ((win0_4.blk t).view.emb (ix2 a b)) = ix2 a b by blk_ext [idx t]]
  pointwise
theorem r5 (c : Dev nD) (t : Fin cfg0.N) (a : Fin 1) (b : Fin 21504) : iblk m c 5 t (ix2 a b) = m ((c : Thread nD τ).loc main_arg3) (ix1 b) := by
  blk_simp [iblk, V, idx t]
  entry_read
  rw [show ((win0_5.blk t).view.emb (ix2 a b)) = ix2 a b by blk_ext [idx t]]
  pointwise
theorem r6 (c : Dev nD) (t : Fin cfg0.N) (a : Fin 1) (b : Fin 128) : iblk m c 6 t (ix2 a b) = m ((c : Thread nD τ).loc main_arg4) (ix1 b) := by
  blk_simp [iblk, V, idx t]
  entry_read
  rw [show ((win0_6.blk t).view.emb (ix2 a b)) = ix2 a b by blk_ext [idx t]]
  pointwise
theorem r7 (c : Dev nD) (t : Fin cfg0.N) (a : Fin 1) (b : Fin 128) : iblk m c 7 t (ix2 a b) = m ((c : Thread nD τ).loc main_arg5) (ix1 b) := by
  blk_simp [iblk, V, idx t]
  entry_read
  rw [show ((win0_7.blk t).view.emb (ix2 a b)) = ix2 a b by blk_ext [idx t]]
  pointwise
theorem r8 (c : Dev nD) (t : Fin cfg0.N) (a : Fin 7680) (b : Fin 64) : iblk m c 8 t (ix2 a b) = m ((c : Thread nD τ).loc main_arg6) (ix2 a b) := by
  blk_ext [iblk, V, idx t]
theorem r9 (c : Dev nD) (t : Fin cfg0.N) (a : Fin 7680) (b : Fin 64) : iblk m c 9 t (ix2 a b) = m ((c : Thread nD τ).loc main_arg7) (ix2 a b) := by
  blk_ext [iblk, V, idx t]

/-- The linear layer of the blocks is the linear layer of the arguments. -/
theorem lin (c : Dev nD) (t : Fin cfg0.N) (v3 : EReal) (e : v3 = m ((c : Thread nD τ).loc main_arg8) ix0) (i : Fin 7680) (j : Fin 21504) :
    k0_pay3 (F := Ideal) (iblk m c 2 t) (iblk m c 3 t) v3 (iblk m c 4 t) (iblk m c 5 t) (ix2 i j)
      = Cert.Mine.linAt (m ((c : Thread nD τ).loc main_arg0)) (m ((c : Thread nD τ).loc main_arg1)) (m ((c : Thread nD τ).loc main_arg2))
        (m ((c : Thread nD τ).loc main_arg3)) (m ((c : Thread nD τ).loc main_arg8)) i j := by
  rw [lin_at, e]
  simp only [r2, r3, r4, r5, Cert.Mine.linAt]

/-- The array of queries that the reference leaves. -/
theorem final_q (c : Dev nD) : (dats m 0 c).arrAt 10 cfg0.N
    = Cert.Mine.heads 0 (by omega) (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg4))
      (m ((c : Thread nD τ).loc main_arg6)) (m ((c : Thread nD τ).loc main_arg7)) := by
  refine (dats m 0 c).arrAt_eq_of_covers 10 _ (by decide +kernel) fun t hf y => ?_
  blk_simp
  rw [after0_10]
  unfold outsAt0
  frame_out
  idx_vars y
  simp only [read_unread_whole]
  rw [show ((win0_10.blk t).view.emb (ix3 y0 y1 y2)) = ix3 y0 y1 y2 by blk_ext [idx t]]
  rw [rot_q]
  simp only [even_q, odd_q, r8, r9, Cert.Mine.heads_apply, Cert.Mine.headAt, Cert.Mine.rotAt]
  simp only [lin m c t _ (r0 m c t _), r6]
/-- The array of keys that the reference leaves. -/
theorem final_k (c : Dev nD) : (dats m 0 c).arrAt 11 cfg0.N
    = Cert.Mine.heads 3072 (by omega) (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg5))
      (m ((c : Thread nD τ).loc main_arg6)) (m ((c : Thread nD τ).loc main_arg7)) := by
  refine (dats m 0 c).arrAt_eq_of_covers 11 _ (by decide +kernel) fun t hf y => ?_
  blk_simp
  rw [after0_11]
  unfold outsAt0
  frame_out
  idx_vars y
  simp only [read_unread_whole]
  rw [show ((win0_11.blk t).view.emb (ix3 y0 y1 y2)) = ix3 y0 y1 y2 by blk_ext [idx t]]
  rw [rot_k_eq, rot_q]
  simp only [even_k, odd_k, key_at, r8, r9, Cert.Mine.heads_apply, Cert.Mine.headAt, Cert.Mine.rotAt]
  simp only [lin m c t _ (r0 m c t _), r7]
/-- The feed-forward branch's array that the reference leaves. -/
theorem final_mlp (c : Dev nD) : (dats m 0 c).arrAt 12 cfg0.N
    = Cert.Mine.mlp (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg9)) := by
  refine (dats m 0 c).arrAt_eq_of_covers 12 _ (by decide +kernel) fun t hf y => ?_
  blk_simp
  rw [after0_12]
  unfold outsAt0
  frame_out
  idx_vars y
  simp only [read_unread_whole]
  rw [show ((win0_12.blk t).view.emb (ix2 y0 y1)) = ix2 y0 y1 by blk_ext [idx t]]
  rw [mlp_at, feed_at, r1]
  rw [lin m c t _ (r0 m c t _), Cert.Mine.mlp_apply]
end Cert.Linear1RefIdeal.Mine
end
-- ==== Proof.Linear2Math.lean ====
/- The second linear layer as one function of its arguments: `x + gate · ((s_a · attn · w2[:3072] + s_m · mlp · w2[3072:]) · w2_scale + b2)`, the
   gate's row taken by the row's segment. -/
module
public import proofs.«01_k».proof.Proof.SegRow
@[expose] public section
noncomputable section
namespace Cert.Mine
open Idealize.ShloMosaic

/-- Element `(i, j)` of the block's output. -/
def out2At (a : (⟨2, ![7680, 3072]⟩ : Shape).Idx → EReal) (h : (⟨2, ![7680, 12288]⟩ : Shape).Idx → EReal) (w : (⟨2, ![15360, 3072]⟩ : Shape).Idx → EReal)
    (ws b : (⟨1, ![3072]⟩ : Shape).Idx → EReal) (gate : (⟨2, ![6, 3072]⟩ : Shape).Idx → EReal) (x : (⟨2, ![7680, 3072]⟩ : Shape).Idx → EReal)
    (s : Seq) (sa sm : (⟨0, ![]⟩ : Shape).Idx → EReal) (i : Fin 7680) (j : Fin 3072) : EReal :=
  x (ix2 i j) + gate (ix2 (segRow s i) j)
    * ((sa ix0 * (∑ k : Fin 3072, a (ix2 i k) * w (ix2 ⟨k, by omega⟩ j)) + sm ix0 * (∑ k : Fin 12288, h (ix2 i k) * w (ix2 ⟨3072 + k, by omega⟩ j)))
        * ws (ix1 j) + b (ix1 j))

/-- The block's output. -/
def out2 (a : (⟨2, ![7680, 3072]⟩ : Shape).Idx → EReal) (h : (⟨2, ![7680, 12288]⟩ : Shape).Idx → EReal) (w : (⟨2, ![15360, 3072]⟩ : Shape).Idx → EReal)
    (ws b : (⟨1, ![3072]⟩ : Shape).Idx → EReal) (gate : (⟨2, ![6, 3072]⟩ : Shape).Idx → EReal) (x : (⟨2, ![7680, 3072]⟩ : Shape).Idx → EReal)
    (s : Seq) (sa sm : (⟨0, ![]⟩ : Shape).Idx → EReal) : (⟨2, ![7680, 3072]⟩ : Shape).Idx → EReal :=
  fun i => out2At a h w ws b gate x s sa sm (i 0) (i 1)

theorem out2_apply (a h w ws b gate x) (s : Seq) (sa sm) (i : Fin 7680) (j : Fin 3072) :
    out2 a h w ws b gate x s sa sm (ix2 i j) = x (ix2 i j) + gate (ix2 (segRow s i) j)
    * ((sa ix0 * (∑ k : Fin 3072, a (ix2 i k) * w (ix2 ⟨k, by omega⟩ j)) + sm ix0 * (∑ k : Fin 12288, h (ix2 i k) * w (ix2 ⟨3072 + k, by omega⟩ j)))
        * ws (ix1 j) + b (ix1 j)) := rfl
end Cert.Mine
end
-- ==== Proof.Linear2Kernel.lean ====
module
public import proofs.«01_k».proof.Proof.Gen.Linear2Ideal.Value
public import Idealize.ShloMosaic.Lib.Pipeline.ValueKit
public import Idealize.ShloMosaic.Lib.Pipeline.ReadBack
public import Idealize.ShloMosaic.Lib.Pointwise
public import Idealize.ShloMosaic.Lib.Tactic
public import proofs.«01_k».proof.Proof.Linear2Math
@[expose] public section
set_option maxRecDepth 16384
noncomputable section
namespace Cert.Linear2Ideal.Mine
open Cert.Linear2Ideal Cert.Linear2Ideal.Gen Idealize.ShloMosaic Idealize.ShloMosaic.TcCoe Idealize.SL.Sem
open Idealize.ShloMosaic.Pipeline (Dat)
variable (m : (ℓ : Loc nD τ sig) → Buf (Elt Ideal) ℓ)

/-! ## The payloads, entry by entry -/

theorem pay1_at (v0 : BitVec 32) (v207 : FVec Ideal S256x512 .f32) (v228 v231 v239 : BitVec 32) (v241 : BitVec 1) (v244 v248 v257 : BitVec 32) (v264 v266 : FVec Ideal S1x512 .f32) (v274 : FVec Ideal S256x512 .bf16) (r : Fin 256) (j : Fin 512) :
    k0_pay1 v0 v207 v228 v231 v239 v241 v244 v248 v257 v264 v266 v274 (ix2 r j) = v274 (ix2 r j) +
      Scalar.select (IntOp.andi (IntOp.cmpi .sge (IntOp.addi (Scalar.addi v0 512#32) (BitVec.ofNat 32 r)) v257)
        (IntOp.cmpi .sgt (Scalar.addi (Scalar.addi (Scalar.addi v239 (Scalar.extui v241)) (Scalar.extui (Scalar.cmpi .sge v231 v244))) (Scalar.extui (Scalar.cmpi .sge v231 v248))) v228)) (v264 (ix2 0 j)) (v266 (ix2 0 j)) * v207 (ix2 r j) := by
  pointwise [k0_pay1]
  rfl
theorem pay6_at (v114 : FVec Ideal S256x512 .f32) (v135 v158 v159 v164 : BitVec 32) (v171 v173 : FVec Ideal S1x512 .f32) (v181 : FVec Ideal S256x512 .bf16) (r : Fin 256) (j : Fin 512) :
    k0_pay6 v114 v135 v158 v159 v164 v171 v173 v181 (ix2 r j) = v181 (ix2 r j) +
      Scalar.select (IntOp.andi (IntOp.cmpi .sge (IntOp.addi v159 (BitVec.ofNat 32 r)) v164) (IntOp.cmpi .sgt v158 v135)) (v171 (ix2 0 j)) (v173 (ix2 0 j)) * v114 (ix2 r j) := by
  pointwise [k0_pay6]
  rfl
theorem pay4_at (v21 : FVec Ideal S256x512 .f32) (v76 : IVec S256x1 1) (v78 v80 : FVec Ideal S1x512 .f32) (v88 : FVec Ideal S256x512 .bf16) (r : Fin 256) (j : Fin 512) :
    k0_pay4 v21 v76 v78 v80 v88 (ix2 r j) = v88 (ix2 r j) + Scalar.select (v76 (ix2 r 0)) (v78 (ix2 0 j)) (v80 (ix2 0 j)) * v21 (ix2 r j) := by
  pointwise [k0_pay4]
theorem pay3_at (v0 v22 v34 v35 v39 v46 v50 v54 v58 v62 v71 : BitVec 32) (r : Fin 256) :
    k0_pay3 (F := Ideal) v0 v22 v34 v35 v39 v46 v50 v54 v58 v62 v71 (ix2 r 0) =
      (IntOp.andi (IntOp.cmpi .sge (IntOp.addi (Scalar.addi v0 0#32) (BitVec.ofNat 32 r)) v71) (IntOp.cmpi .sgt
        (Scalar.addi (Scalar.addi (Scalar.addi (Scalar.addi (Scalar.addi (0#32) (Scalar.extui (Scalar.cmpi .sge (Scalar.subi (Scalar.addi (Scalar.addi v0 0#32) 256#32) 1#32) v46)))
      (Scalar.extui (Scalar.cmpi .sge (Scalar.subi (Scalar.addi (Scalar.addi v0 0#32) 256#32) 1#32) v50))) (Scalar.extui (Scalar.cmpi .sge (Scalar.subi (Scalar.addi (Scalar.addi v0 0#32) 256#32) 1#32) v54)))
      (Scalar.extui (Scalar.cmpi .sge (Scalar.subi (Scalar.addi (Scalar.addi v0 0#32) 256#32) 1#32) v58))) (Scalar.extui (Scalar.cmpi .sge (Scalar.subi (Scalar.addi (Scalar.addi v0 0#32) 256#32) 1#32) v62)))
        (Scalar.addi (Scalar.addi v34 (Scalar.extui (Scalar.cmpi .sge v22 v35))) (Scalar.extui (Scalar.cmpi .sge v22 v39))))) := by
  pointwise [k0_pay3]
  rfl

theorem lin_at (v1 : FVec Ideal S256x3072 .fp8e4m3) (v2 : FVec Ideal S3072x512 .fp8e4m3) (v4 : FVec Ideal S256x12288 .fp8e4m3) (v5 : FVec Ideal S12288x512 .fp8e4m3) (v7 v10 : EReal) (v14 v18 : FVec Ideal S1x512 .f32) (r : Fin 256) (j : Fin 512) :
    k0_pay2 (F := Ideal) v1 v2 v4 v5 v7 v10 v14 v18 (ix2 r j) = (v7 * (∑ k : Fin 3072, v1 (ix2 r k) * v2 (ix2 k j)) + v10 * (∑ k : Fin 12288, v4 (ix2 r k) * v5 (ix2 k j))) * v14 (ix2 0 j) + v18 (ix2 0 j) := by
  pointwise [k0_pay2]
theorem pay5_eq : @k0_pay5 Ideal _ = k0_pay2 := rfl
theorem pay8_eq (v1 v2 v4 v5 v7 v10 v14 v18) : @k0_pay8 Ideal _ (k0_pay7 v1 v2 v4 v5 v7 v10) v14 v18 = k0_pay2 v1 v2 v4 v5 v7 v10 v14 v18 := rfl

/-! ## Row numbers and the modulation row they pick -/

open Cert.Mine

theorem first_word (i : grid0.Coords) (o : ℕ) (ho : o ≤ 512) :
    (Scalar.addi (Scalar.muli (BitVec.ofNat 32 (i 0).val) 768#32) (BitVec.ofNat 32 o)).toInt = ((768 * (i 0 : ℕ) + o : ℕ) : ℤ) := by
  have h : (i 0 : ℕ) < 10 := (i 0).isLt
  have e : Scalar.addi (Scalar.muli (BitVec.ofNat 32 (i 0).val) 768#32) (BitVec.ofNat 32 o) = BitVec.ofNat 32 (768 * (i 0 : ℕ) + o) := by
    show BitVec.ofNat 32 (i 0).val * BitVec.ofNat 32 768 + BitVec.ofNat 32 o = _
    rw [← BitVec.ofNat_mul, ← BitVec.ofNat_add, Nat.mul_comm]
  rw [e, toInt_ofNat_small _ (by omega)]
theorem last_word (i : grid0.Coords) (o : ℕ) (ho : o ≤ 512) :
    (Scalar.subi (Scalar.addi (Scalar.addi (Scalar.muli (BitVec.ofNat 32 (i 0).val) 768#32) (BitVec.ofNat 32 o)) 256#32) 1#32).toInt
      = ((768 * (i 0 : ℕ) + o + 256 - 1 : ℕ) : ℤ) := by
  have h : (i 0 : ℕ) < 10 := (i 0).isLt
  have e : Scalar.subi (Scalar.addi (Scalar.addi (Scalar.muli (BitVec.ofNat 32 (i 0).val) 768#32) (BitVec.ofNat 32 o)) 256#32) 1#32
      = BitVec.ofNat 32 (768 * (i 0 : ℕ) + o + 256 - 1) := by
    show BitVec.ofNat 32 (i 0).val * BitVec.ofNat 32 768 + BitVec.ofNat 32 o + BitVec.ofNat 32 256 - BitVec.ofNat 32 1 = _
    rw [← BitVec.ofNat_mul, ← BitVec.ofNat_add, ← BitVec.ofNat_add, Nat.mul_comm, ← BitVec.ofNat_sub_ofNat_of_le _ _ (by norm_num) (by omega)]
  rw [e, toInt_ofNat_small _ (by omega)]
theorem row_word (i : grid0.Coords) (o : ℕ) (ho : o ≤ 512) (r : Fin 256) :
    (IntOp.addi (Scalar.addi (Scalar.muli (BitVec.ofNat 32 (i 0).val) 768#32) (BitVec.ofNat 32 o)) (BitVec.ofNat 32 r)).toInt
      = ((768 * (i 0 : ℕ) + o + r : ℕ) : ℤ) := by
  have h : (i 0 : ℕ) < 10 := (i 0).isLt
  have e : IntOp.addi (Scalar.addi (Scalar.muli (BitVec.ofNat 32 (i 0).val) 768#32) (BitVec.ofNat 32 o)) (BitVec.ofNat 32 r)
      = BitVec.ofNat 32 (768 * (i 0 : ℕ) + o + r) := by
    show BitVec.ofNat 32 (i 0).val * BitVec.ofNat 32 768 + BitVec.ofNat 32 o + BitVec.ofNat 32 r = _
    rw [← BitVec.ofNat_mul, ← BitVec.ofNat_add, ← BitVec.ofNat_add, Nat.mul_comm]
  rw [e, toInt_ofNat_small _ (by omega)]
theorem toNat_count (s : Seq) (r : ℕ) : (BitVec.ofNat 32 (count5 s r)).toNat = count5 s r := by
  have := count5_le s r
  simp only [BitVec.toNat_ofNat]
  omega

theorem off1 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off1 i w1 w2 w3 w4 w5 = ![count5 s (768 * (i 0 : ℕ) + 0 + 256 - 1)] := by
  unfold k0_off1
  have e := count_word s _ _ (last_word i 0 (by omega)) w1 w2 w3 w4 w5 h1 h2 h3 h4 h5
  exact congrArg (fun w : BitVec 32 => ![w.toNat]) e |>.trans (by rw [toNat_count])
theorem off2 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off2 i w1 w2 w3 w4 w5 = ![count5 s (768 * (i 0 : ℕ) + 0 + 256 - 1), 0] := by
  unfold k0_off2
  have e := count_word s _ _ (last_word i 0 (by omega)) w1 w2 w3 w4 w5 h1 h2 h3 h4 h5
  exact congrArg (fun w : BitVec 32 => ![w.toNat, 0]) e |>.trans (by rw [toNat_count])
theorem off3 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off3 i w1 w2 w3 w4 w5 = ![count5 s (768 * (i 0 : ℕ) + 0), 0] := by
  unfold k0_off3
  have e := count_word s _ _ (first_word i 0 (by omega)) w1 w2 w3 w4 w5 h1 h2 h3 h4 h5
  exact congrArg (fun w : BitVec 32 => ![w.toNat, 0]) e |>.trans (by rw [toNat_count])
theorem off4 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off4 i w1 w2 w3 w4 w5 = ![count5 s (768 * (i 0 : ℕ) + 256 + 256 - 1)] := by
  unfold k0_off4
  have e := count_word s _ _ (last_word i 256 (by omega)) w1 w2 w3 w4 w5 h1 h2 h3 h4 h5
  exact congrArg (fun w : BitVec 32 => ![w.toNat]) e |>.trans (by rw [toNat_count])
theorem off5 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off5 i w1 w2 w3 w4 w5 = ![count5 s (768 * (i 0 : ℕ) + 256 + 256 - 1), 0] := by
  unfold k0_off5
  have e := count_word s _ _ (last_word i 256 (by omega)) w1 w2 w3 w4 w5 h1 h2 h3 h4 h5
  exact congrArg (fun w : BitVec 32 => ![w.toNat, 0]) e |>.trans (by rw [toNat_count])
theorem off6 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off6 i w1 w2 w3 w4 w5 = ![count5 s (768 * (i 0 : ℕ) + 256), 0] := by
  unfold k0_off6
  have e := count_word s _ _ (first_word i 256 (by omega)) w1 w2 w3 w4 w5 h1 h2 h3 h4 h5
  exact congrArg (fun w : BitVec 32 => ![w.toNat, 0]) e |>.trans (by rw [toNat_count])
theorem off7 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off7 i w1 w2 w3 w4 w5 = ![count5 s (768 * (i 0 : ℕ) + 512 + 256 - 1)] := by
  unfold k0_off7
  have e := count_word s _ _ (last_word i 512 (by omega)) w1 w2 w3 w4 w5 h1 h2 h3 h4 h5
  exact congrArg (fun w : BitVec 32 => ![w.toNat]) e |>.trans (by rw [toNat_count])
theorem off8 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off8 i w1 w2 w3 w4 w5 = ![count5 s (768 * (i 0 : ℕ) + 512 + 256 - 1), 0] := by
  unfold k0_off8
  have e := count_word s _ _ (last_word i 512 (by omega)) w1 w2 w3 w4 w5 h1 h2 h3 h4 h5
  exact congrArg (fun w : BitVec 32 => ![w.toNat, 0]) e |>.trans (by rw [toNat_count])
theorem off9 (i : grid0.Coords) (s : Seq) (w1 w2 w3 w4 w5 : BitVec 32)
    (h1 : w1 = s (ix1 1)) (h2 : w2 = s (ix1 2)) (h3 : w3 = s (ix1 3)) (h4 : w4 = s (ix1 4)) (h5 : w5 = s (ix1 5)) :
    k0_off9 i w1 w2 w3 w4 w5 = ![count5 s (768 * (i 0 : ℕ) + 512), 0] := by
  unfold k0_off9
  have e := count_word s _ _ (first_word i 512 (by omega)) w1 w2 w3 w4 w5 h1 h2 h3 h4 h5
  exact congrArg (fun w : BitVec 32 => ![w.toNat, 0]) e |>.trans (by rw [toNat_count])

theorem ld_word (s : Seq) (off : Fin 1 → ℕ) (inb) (h) (k : Fin 7) (e : off = ![(k : ℕ)]) :
    View.ld (Val := Elt Ideal) (e' := .i32) s (Rect.unit (s := S7) off ![1] inb) (Shape.Idx.first h) = s (ix1 k) := by
  subst e
  exact congrArg s (funext fun a => Fin.ext (by fin_cases a; simp [Shape.Idx.first, ix1]))
theorem ld_row (X : S6x512.Idx → EReal) (off : Fin 2 → ℕ) (inb) (k : Fin 6) (e : off = ![(k : ℕ), 0]) (j : Fin 512) :
    View.ld (Val := Elt Ideal) (e' := .f32) X (Rect.unit (s := S6x512) off ![1, 512] inb) (ix2 (0 : Fin 1) j) = X (ix2 k j) := by
  subst e
  pointwise
theorem gate_row (s : Seq) (h : Apart s) (b : ℕ) (r : Fin 256) (hb : b + 256 ≤ 7680) (w : BitVec 32) (hw : w.toInt = ((b + r : ℕ) : ℤ))
    (X : S6x512.Idx → EReal) (offH : Fin 1 → ℕ) (inbH hH) (off off' : Fin 2 → ℕ) (inb inb') (j : Fin 512) (c1 c0 : BitVec 32)
    (e1 : c1 = BitVec.ofNat 32 (count5 s (b + 256 - 1))) (e0 : c0 = BitVec.ofNat 32 (count5 s b))
    (eH : offH = ![count5 s (b + 256 - 1)]) (e : off = ![count5 s (b + 256 - 1), 0]) (e' : off' = ![count5 s b, 0]) :
    Scalar.select (IntOp.andi (IntOp.cmpi .sge w (View.ld (Val := Elt Ideal) (e' := .i32) s (Rect.unit (s := S7) offH ![1] inbH) (Shape.Idx.first hH)))
        (IntOp.cmpi .sgt c1 c0))
        (View.ld (Val := Elt Ideal) (e' := .f32) X (Rect.unit (s := S6x512) off ![1, 512] inb) (ix2 (0 : Fin 1) j)) (View.ld (Val := Elt Ideal) (e' := .f32) X (Rect.unit (s := S6x512) off' ![1, 512] inb') (ix2 (0 : Fin 1) j))
      = X (ix2 (segRow s (b + r)) j) := by
  subst e1 e0
  have h1 := count5_le s b
  have h2 := count5_le s (b + 256 - 1)
  rw [ld_word s offH inbH hH ⟨count5 s (b + 256 - 1), by omega⟩ eH, ld_row X off inb ⟨count5 s (b + 256 - 1), by omega⟩ e, ld_row X off' inb' ⟨count5 s b, by omega⟩ e']
  exact gate_select s h b 256 r r.isLt le_rfl hb ⟨count5 s (b + 256 - 1), by omega⟩ _ _ rfl rfl rfl w hw fun k => X (ix2 k j)

theorem ld_rows {n : ℕ} {e : EltTy} (X : (⟨2, ![768, n]⟩ : Shape).Idx → Elt Ideal e) (o : ℕ) (ho : o ≤ 512) (inb) (r : Fin 256) (j : Fin n) :
    View.ld (Val := Elt Ideal) (e' := e) X (Rect.unit (s := ⟨2, ![768, n]⟩) ![o, 0] ![256, n] inb) (ix2 r j) = X (ix2 ⟨o + r, by omega⟩ j) := by
  refine View.ld_unit_apply_of _ _ _ _ _ _ fun a => ?_
  fin_cases a <;> simp [ix2]

/-! ## What each window's block holds, in terms of the arguments -/

/-- Which block each window stages at a grid point. -/
theorem idx : ∀ t : Fin cfg0.N, win0_0.index t = ![0] ∧ win0_1.index t = ![0] ∧ win0_2.index t = ![0] ∧ win0_3.index t = ![(grid0.coords t 0 : ℕ), 0] ∧ win0_4.index t = ![(grid0.coords t 0 : ℕ), 0] ∧ win0_5.index t = ![0, (grid0.coords t 1 : ℕ)] ∧ win0_6.index t = ![3072, 512 * (grid0.coords t 1 : ℕ)] ∧ win0_7.index t = ![0, (grid0.coords t 1 : ℕ)] ∧ win0_8.index t = ![0, (grid0.coords t 1 : ℕ)] ∧ win0_9.index t = ![0, (grid0.coords t 1 : ℕ)] ∧ win0_10.index t = ![(grid0.coords t 0 : ℕ), (grid0.coords t 1 : ℕ)] ∧ win0_11.index t = ![(grid0.coords t 0 : ℕ), (grid0.coords t 1 : ℕ)] :=
  (by decide +kernel : ∀ t : Fin grid0.N, win0_0.index t = ![0] ∧ win0_1.index t = ![0] ∧ win0_2.index t = ![0] ∧ win0_3.index t = ![(grid0.coords t 0 : ℕ), 0] ∧ win0_4.index t = ![(grid0.coords t 0 : ℕ), 0] ∧ win0_5.index t = ![0, (grid0.coords t 1 : ℕ)] ∧ win0_6.index t = ![3072, 512 * (grid0.coords t 1 : ℕ)] ∧ win0_7.index t = ![0, (grid0.coords t 1 : ℕ)] ∧ win0_8.index t = ![0, (grid0.coords t 1 : ℕ)] ∧ win0_9.index t = ![0, (grid0.coords t 1 : ℕ)] ∧ win0_10.index t = ![(grid0.coords t 0 : ℕ), (grid0.coords t 1 : ℕ)] ∧ win0_11.index t = ![(grid0.coords t 0 : ℕ), (grid0.coords t 1 : ℕ)])

theorem k0 (c : Dev nD) (t : Fin cfg0.N) : (iblk m c 0 t : Seq) = m ((c : Thread nD τ).loc main_arg7) := by
  funext x
  idx_vars x
  blk_ext [iblk, V, idx t]
theorem k1 (c : Dev nD) (t : Fin cfg0.N) (j) : iblk m c 1 t j = m ((c : Thread nD τ).loc main_arg8) ix0 := by
  blk_simp [iblk, V, idx t]
  entry_read
  pointwise
theorem k2 (c : Dev nD) (t : Fin cfg0.N) (j) : iblk m c 2 t j = m ((c : Thread nD τ).loc main_arg9) ix0 := by
  blk_simp [iblk, V, idx t]
  entry_read
  pointwise
/-- The word `k` of the boundaries, as the block of their window gives it. -/
theorem wd (c : Dev nD) (t : Fin cfg0.N) (k : Fin 7) (inb) (h) :
    View.ld (Val := Elt Ideal) (e' := .i32) (iblk m c 0 t) (Rect.unit (s := S7) ![(k : ℕ)] ![1] inb) (Shape.Idx.first h) = iblk m c 0 t (ix1 k) := ld_word _ _ _ _ k rfl
theorem wu (c : Dev nD) (t : Fin cfg0.N) (k : Fin 7) (inb) (h) :
    View.ld (Val := Elt Ideal) (e' := .i32) (View.read (Elt Ideal) (ms0_0 t).view ((hs0_0 t).unread (iblk m c 0 t))) (Rect.unit (s := S7) ![(k : ℕ)] ![1] inb) (Shape.Idx.first h)
      = iblk m c 0 t (ix1 k) := by
  rw [(hs0_0 t).read_unread]
  exact ld_word _ _ _ _ k rfl
theorem ld1 (c : Dev nD) (t : Fin cfg0.N) (r) (j) : View.ld (iblk m c 1 t) r j = m ((c : Thread nD τ).loc main_arg8) ix0 := k1 m c t _
theorem ld2 (c : Dev nD) (t : Fin cfg0.N) (r) (j) : View.ld (iblk m c 2 t) r j = m ((c : Thread nD τ).loc main_arg9) ix0 := k2 m c t _
theorem row_lt (t : Fin cfg0.N) (a : ℕ) (ha : a < 768) : 768 * (grid0.coords t 0 : ℕ) + a < 7680 := by
  have h : (grid0.coords t 0 : ℕ) < 10 := (grid0.coords t 0).isLt
  omega
theorem col_lt (t : Fin cfg0.N) (b : Fin 512) : 512 * (grid0.coords t 1 : ℕ) + b < 3072 := by
  have h : (grid0.coords t 1 : ℕ) < 6 := (grid0.coords t 1).isLt
  omega
/-- The column of the result that an entry of the block's columns is. -/
def col (t : Fin cfg0.N) (b : Fin 512) : Fin 3072 := ⟨512 * (grid0.coords t 1 : ℕ) + b, col_lt t b⟩
theorem k3 (c : Dev nD) (t : Fin cfg0.N) (a : Fin 768) (b : Fin 3072) : iblk m c 3 t (ix2 a b) = m ((c : Thread nD τ).loc main_arg0) (ix2 ⟨768 * (grid0.coords t 0 : ℕ) + a, row_lt t a a.isLt⟩ b) := by
  blk_ext [iblk, V, idx t]
theorem k4 (c : Dev nD) (t : Fin cfg0.N) (a : Fin 768) (b : Fin 12288) : iblk m c 4 t (ix2 a b) = m ((c : Thread nD τ).loc main_arg1) (ix2 ⟨768 * (grid0.coords t 0 : ℕ) + a, row_lt t a a.isLt⟩ b) := by
  blk_ext [iblk, V, idx t]
theorem k5 (c : Dev nD) (t : Fin cfg0.N) (a : Fin 3072) (b : Fin 512) : iblk m c 5 t (ix2 a b) = m ((c : Thread nD τ).loc main_arg2) (ix2 ⟨a, by omega⟩ (col t b)) := by
  blk_ext [iblk, V, idx t, col]
theorem k6 (c : Dev nD) (t : Fin cfg0.N) (a : Fin 12288) (b : Fin 512) : iblk m c 6 t (ix2 a b) = m ((c : Thread nD τ).loc main_arg2) (ix2 ⟨3072 + a, by omega⟩ (col t b)) := by
  blk_simp [iblk, V, idx t, col]
  obtain ⟨-, -, -, -, -, -, h, -⟩ := idx t
  refine congrArg (m ((c : Thread nD τ).loc main_arg2)) (funext fun x => Fin.ext ?_)
  fin_cases x
  · show win0_6.index t 0 + 1 * (a : ℕ) = 3072 + a
    rw [h]
    simp
  · show win0_6.index t 1 + 1 * (b : ℕ) = 512 * (grid0.coords t 1 : ℕ) + b
    rw [h]
    simp
theorem k7 (c : Dev nD) (t : Fin cfg0.N) (a : Fin 1) (b : Fin 512) : iblk m c 7 t (ix2 a b) = m ((c : Thread nD τ).loc main_arg3) (ix1 (col t b)) := by
  blk_simp [iblk, V, idx t]
  entry_read
  rw [show ((win0_7.blk t).view.emb (ix2 a b)) = ix2 a (col t b) by blk_ext [idx t, col]]
  pointwise
theorem k8 (c : Dev nD) (t : Fin cfg0.N) (a : Fin 1) (b : Fin 512) : iblk m c 8 t (ix2 a b) = m ((c : Thread nD τ).loc main_arg4) (ix1 (col t b)) := by
  blk_simp [iblk, V, idx t]
  entry_read
  rw [show ((win0_8.blk t).view.emb (ix2 a b)) = ix2 a (col t b) by blk_ext [idx t, col]]
  pointwise
theorem k9 (c : Dev nD) (t : Fin cfg0.N) (a : Fin 6) (b : Fin 512) : iblk m c 9 t (ix2 a b) = m ((c : Thread nD τ).loc main_arg5) (ix2 a (col t b)) := by
  blk_ext [iblk, V, idx t, col]
theorem k10 (c : Dev nD) (t : Fin cfg0.N) (a : Fin 768) (b : Fin 512) : iblk m c 10 t (ix2 a b) = m ((c : Thread nD τ).loc main_arg6) (ix2 ⟨768 * (grid0.coords t 0 : ℕ) + a, row_lt t a a.isLt⟩ (col t b)) := by
  blk_ext [iblk, V, idx t, col]

theorem ld3 (c : Dev nD) (t : Fin cfg0.N) (o : ℕ) (ho : o ≤ 512) (inb) (r : Fin 256) (j : Fin 3072) :
    View.ld (iblk m c 3 t) (Rect.unit ![o, 0] ![256, 3072] inb) (ix2 r j) = m ((c : Thread nD τ).loc main_arg0) (ix2 ⟨768 * (grid0.coords t 0 : ℕ) + (o + r), row_lt t _ (by omega)⟩ j) :=
  (ld_rows (n := 3072) _ o ho _ r j).trans (k3 m c t _ _)
theorem ld4 (c : Dev nD) (t : Fin cfg0.N) (o : ℕ) (ho : o ≤ 512) (inb) (r : Fin 256) (j : Fin 12288) :
    View.ld (iblk m c 4 t) (Rect.unit ![o, 0] ![256, 12288] inb) (ix2 r j) = m ((c : Thread nD τ).loc main_arg1) (ix2 ⟨768 * (grid0.coords t 0 : ℕ) + (o + r), row_lt t _ (by omega)⟩ j) :=
  (ld_rows (n := 12288) _ o ho _ r j).trans (k4 m c t _ _)
theorem ld10 (c : Dev nD) (t : Fin cfg0.N) (o : ℕ) (ho : o ≤ 512) (inb) (r : Fin 256) (j : Fin 512) :
    View.ld (iblk m c 10 t) (Rect.unit ![o, 0] ![256, 512] inb) (ix2 r j) = m ((c : Thread nD τ).loc main_arg6) (ix2 ⟨768 * (grid0.coords t 0 : ℕ) + (o + r), row_lt t _ (by omega)⟩ (col t j)) :=
  (ld_rows (n := 512) _ o ho _ r j).trans (k10 m c t _ _)

set_option maxHeartbeats 400000 in
/-- The array that the kernel leaves is the mathematical function of its arguments. -/
theorem final (c : Dev nD) (hA : Apart (m ((c : Thread nD τ).loc main_arg7))) : (dats m 0 c).arrAt 11 cfg0.N
    = Cert.Mine.out2 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  blk_simp
  rw [after0_11]
  unfold outsAt0
  frame_out
  canon_tiles x hx
  · idx_vars x
    rw [pay1_at, pay8_eq, lin_at]
    refine Eq.trans (congrArg (fun z : EReal => _ + z * _) (gate_row (iblk m c 0 t) (k0 m c t ▸ hA) (768 * (grid0.coords t 0 : ℕ) + 512) x0
      (by have := row_lt t 767 (by norm_num); omega) _ (row_word (grid0.coords t) 512 (by norm_num) x0) _ _ _ _ _ _ _ _ _ _ _
      (count_word (iblk m c 0 t) _ _ (last_word (grid0.coords t) 512 (by norm_num)) _ _ _ _ _ (wd m c t 1 _ _) (wd m c t 2 _ _) (wd m c t 3 _ _) (wd m c t 4 _ _) (wd m c t 5 _ _))
      (count_word (iblk m c 0 t) _ _ (first_word (grid0.coords t) 512 (by norm_num)) _ _ _ _ _ (wd m c t 1 _ _) (wd m c t 2 _ _) (wd m c t 3 _ _) (wd m c t 4 _ _) (wd m c t 5 _ _))
      (off7 (grid0.coords t) (iblk m c 0 t) _ _ _ _ _ (wu m c t 1 _ _) (wu m c t 2 _ _) (wu m c t 3 _ _) (wu m c t 4 _ _) (wu m c t 5 _ _))
      (off8 (grid0.coords t) (iblk m c 0 t) _ _ _ _ _ (wu m c t 1 _ _) (wu m c t 2 _ _) (wu m c t 3 _ _) (wu m c t 4 _ _) (wu m c t 5 _ _))
      (off9 (grid0.coords t) (iblk m c 0 t) _ _ _ _ _ (wu m c t 1 _ _) (wu m c t 2 _ _) (wu m c t 3 _ _) (wu m c t 4 _ _) (wu m c t 5 _ _)))) ?_
    beta_reduce
    simp only [ld3 m c t 512 (by norm_num), ld4 m c t 512 (by norm_num), ld10 m c t 512 (by norm_num), ld1, ld2, k5, k6, k7, k8, k9]
    rw [k0 m c t, show ((View.whole main_v4).slice (win0_11.rect t)).emb y = ix2 ⟨768 * (grid0.coords t 0 : ℕ) + (512 + x0), row_lt t _ (by omega)⟩ (col t x1) by
      blk_ext [idx t, col]]
    rw [Cert.Mine.out2_apply]
    simp only [Nat.add_assoc]
  · idx_vars x
    rw [pay6_at, pay5_eq, lin_at]
    refine Eq.trans (congrArg (fun z : EReal => _ + z * _) (gate_row (iblk m c 0 t) (k0 m c t ▸ hA) (768 * (grid0.coords t 0 : ℕ) + 256) x0
      (by have := row_lt t 511 (by norm_num); omega) _ (row_word (grid0.coords t) 256 (by norm_num) x0) _ _ _ _ _ _ _ _ _ _ _
      (count_word (iblk m c 0 t) _ _ (last_word (grid0.coords t) 256 (by norm_num)) _ _ _ _ _ (wd m c t 1 _ _) (wd m c t 2 _ _) (wd m c t 3 _ _) (wd m c t 4 _ _) (wd m c t 5 _ _))
      (count_word (iblk m c 0 t) _ _ (first_word (grid0.coords t) 256 (by norm_num)) _ _ _ _ _ (wd m c t 1 _ _) (wd m c t 2 _ _) (wd m c t 3 _ _) (wd m c t 4 _ _) (wd m c t 5 _ _))
      (off4 (grid0.coords t) (iblk m c 0 t) _ _ _ _ _ (wu m c t 1 _ _) (wu m c t 2 _ _) (wu m c t 3 _ _) (wu m c t 4 _ _) (wu m c t 5 _ _))
      (off5 (grid0.coords t) (iblk m c 0 t) _ _ _ _ _ (wu m c t 1 _ _) (wu m c t 2 _ _) (wu m c t 3 _ _) (wu m c t 4 _ _) (wu m c t 5 _ _))
      (off6 (grid0.coords t) (iblk m c 0 t) _ _ _ _ _ (wu m c t 1 _ _) (wu m c t 2 _ _) (wu m c t 3 _ _) (wu m c t 4 _ _) (wu m c t 5 _ _)))) ?_
    beta_reduce
    simp only [ld3 m c t 256 (by norm_num), ld4 m c t 256 (by norm_num), ld10 m c t 256 (by norm_num), ld1, ld2, k5, k6, k7, k8, k9]
    rw [k0 m c t, show ((View.whole main_v4).slice (win0_11.rect t)).emb y = ix2 ⟨768 * (grid0.coords t 0 : ℕ) + (256 + x0), row_lt t _ (by omega)⟩ (col t x1) by
      blk_ext [idx t, col]]
    rw [Cert.Mine.out2_apply]
    simp only [Nat.add_assoc]
  · idx_vars x
    rw [pay4_at, pay3_at, lin_at]
    refine Eq.trans (congrArg (fun z : EReal => _ + z * _) (gate_row (iblk m c 0 t) (k0 m c t ▸ hA) (768 * (grid0.coords t 0 : ℕ) + 0) x0
      (by have := row_lt t 255 (by norm_num); omega) _ (row_word (grid0.coords t) 0 (by norm_num) x0) _ _ _ _ _ _ _ _ _ _ _
      (count_word (iblk m c 0 t) _ _ (last_word (grid0.coords t) 0 (by norm_num)) _ _ _ _ _ (wd m c t 1 _ _) (wd m c t 2 _ _) (wd m c t 3 _ _) (wd m c t 4 _ _) (wd m c t 5 _ _))
      (count_word (iblk m c 0 t) _ _ (first_word (grid0.coords t) 0 (by norm_num)) _ _ _ _ _ (wd m c t 1 _ _) (wd m c t 2 _ _) (wd m c t 3 _ _) (wd m c t 4 _ _) (wd m c t 5 _ _))
      (off1 (grid0.coords t) (iblk m c 0 t) _ _ _ _ _ (wu m c t 1 _ _) (wu m c t 2 _ _) (wu m c t 3 _ _) (wu m c t 4 _ _) (wu m c t 5 _ _))
      (off2 (grid0.coords t) (iblk m c 0 t) _ _ _ _ _ (wu m c t 1 _ _) (wu m c t 2 _ _) (wu m c t 3 _ _) (wu m c t 4 _ _) (wu m c t 5 _ _))
      (off3 (grid0.coords t) (iblk m c 0 t) _ _ _ _ _ (wu m c t 1 _ _) (wu m c t 2 _ _) (wu m c t 3 _ _) (wu m c t 4 _ _) (wu m c t 5 _ _)))) ?_
    beta_reduce
    simp only [ld3 m c t 0 (by norm_num), ld4 m c t 0 (by norm_num), ld10 m c t 0 (by norm_num), ld1, ld2, k5, k6, k7, k8, k9]
    rw [k0 m c t, show ((View.whole main_v4).slice (win0_11.rect t)).emb y = ix2 ⟨768 * (grid0.coords t 0 : ℕ) + (0 + x0), row_lt t _ (by omega)⟩ (col t x1) by
      blk_ext [idx t, col]]
    rw [Cert.Mine.out2_apply]
    simp only [Nat.add_assoc]
end Cert.Linear2Ideal.Mine
end
-- ==== Proof.Linear2Reference.lean ====
/- What the plain reference of the second linear layer computes: the array its one kernel call leaves is `Cert.Mine.out2` of the arguments. -/
module
public import proofs.«01_k».proof.Proof.Gen.Linear2RefIdeal.Value
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Routing.Ops
public import Idealize.ShloMosaic.Lib.Pointwise.IndexBridge
public import proofs.«01_k».proof.Proof.Linear2Math
@[expose] public section
set_option maxRecDepth 16384
noncomputable section
namespace Cert.Linear2RefIdeal.Mine
open Cert.Linear2RefIdeal Cert.Linear2RefIdeal.Gen Idealize.ShloMosaic Idealize.ShloMosaic.TcCoe Idealize.SL.Sem
open Idealize.ShloMosaic.Pipeline (Dat)
variable (m : (ℓ : Loc nD τ sig) → Buf (Elt Ideal) ℓ)

/-- Every window of the one-point call is its whole array. -/
theorem idx : ∀ t : Fin cfg0.N, win0_0.index t = ![0] ∧ win0_1.index t = ![0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_0.index t = ![0] ∧ win0_1.index t = ![0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0])

/-! ## What each window's block holds, in terms of the arguments -/

theorem r0 (c : Dev nD) (t : Fin cfg0.N) (j) : iblk m c 0 t j = m ((c : Thread nD τ).loc main_arg8) ix0 := by
  blk_simp [iblk, V, idx t]
  entry_read
  pointwise
theorem r1 (c : Dev nD) (t : Fin cfg0.N) (j) : iblk m c 1 t j = m ((c : Thread nD τ).loc main_arg9) ix0 := by
  blk_simp [iblk, V, idx t]
  entry_read
  pointwise
theorem r2 (c : Dev nD) (t : Fin cfg0.N) (a : Fin 7680) (b : Fin 3072) : iblk m c 2 t (ix2 a b) = m ((c : Thread nD τ).loc main_arg0) (ix2 a b) := by
  blk_ext [iblk, V, idx t]
theorem r3 (c : Dev nD) (t : Fin cfg0.N) (a : Fin 7680) (b : Fin 12288) : iblk m c 3 t (ix2 a b) = m ((c : Thread nD τ).loc main_arg1) (ix2 a b) := by
  blk_ext [iblk, V, idx t]
theorem r4 (c : Dev nD) (t : Fin cfg0.N) (a : Fin 15360) (b : Fin 3072) : iblk m c 4 t (ix2 a b) = m ((c : Thread nD τ).loc main_arg2) (ix2 a b) := by
  blk_ext [iblk, V, idx t]
theorem r5 (c : Dev nD) (t : Fin cfg0.N) (a : Fin 1) (b : Fin 3072) : iblk m c 5 t (ix2 a b) = m ((c : Thread nD τ).loc main_arg3) (ix1 b) := by
  blk_simp [iblk, V, idx t]
  entry_read
  rw [show ((win0_5.blk t).view.emb (ix2 a b)) = ix2 a b by blk_ext [idx t]]
  pointwise
theorem r6 (c : Dev nD) (t : Fin cfg0.N) (a : Fin 1) (b : Fin 3072) : iblk m c 6 t (ix2 a b) = m ((c : Thread nD τ).loc main_arg4) (ix1 b) := by
  blk_simp [iblk, V, idx t]
  entry_read
  rw [show ((win0_6.blk t).view.emb (ix2 a b)) = ix2 a b by blk_ext [idx t]]
  pointwise
theorem r8 (c : Dev nD) (t : Fin cfg0.N) (a : Fin 7680) (b : Fin 3072) : iblk m c 8 t (ix2 a b) = m ((c : Thread nD τ).loc main_arg6) (ix2 a b) := by
  blk_ext [iblk, V, idx t]
open Cert.Mine in
theorem r7 (c : Dev nD) (t : Fin cfg0.N) (a : Fin 7680) (b : Fin 3072) : iblk m c 7 t (ix2 a b) = m ((c : Thread nD τ).loc main_arg5) (ix2 (segRow (m ((c : Thread nD τ).loc main_arg7)) a) b) := by
  blk_simp [iblk, V, idx t]
  entry_read
  rw [show (((View.whole main_v17).slice (win0_7.rect t)).emb (ix2 a b)) = ix2 a b by blk_ext [idx t]]
  rw [ix2_eq_valueIdx, ix2_eq_valueIdx]
  refine Routing.gather_row _ rfl rfl rfl rfl rfl _ _ a b _ ?_ (by norm_num)
  rw [← ix2_eq_valueIdx]
  pointwise
  exact segRow_word _ _ (by omega) _ fun k => by rw [show (k.succ : Fin 7) = ⟨1 + k, _⟩ from Fin.ext (by simp; omega)]

/-- The array that the reference leaves is the mathematical function of its arguments. -/
theorem final (c : Dev nD) : (dats m 0 c).arrAt 9 cfg0.N
    = Cert.Mine.out2 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  refine (dats m 0 c).arrAt_eq_of_covers 9 _ (by decide +kernel) fun t hf y => ?_
  blk_simp
  rw [after0_9]
  unfold outsAt0
  frame_out
  idx_vars y
  pointwise [k0_pay1]
  simp only [read_unread_whole]
  rw [show ((win0_9.blk t).view.emb (ix2 y0 y1)) = ix2 y0 y1 by blk_ext [idx t]]
  simp only [r0, r1, r2, r3, r4, r5, r6, r7, r8, Cert.Mine.out2_apply]
end Cert.Linear2RefIdeal.Mine
end
-- ==== Proof.lean ====
module

public import proofs.«01_k».proof.Defs
public import proofs.«01_k».proof.Proof.Gen.Linear2
public import proofs.«01_k».proof.Proof.Gen.Linear2.Skeleton
public import proofs.«01_k».proof.Proof.Gen.Linear2.Launch
public import proofs.«01_k».proof.Proof.Gen.Linear2.Points
public import proofs.«01_k».proof.Proof.Gen.Linear2.Frame
public import proofs.«01_k».proof.Proof.Gen.Linear2Ideal
public import proofs.«01_k».proof.Proof.Gen.Linear2Ideal.Skeleton
public import proofs.«01_k».proof.Proof.Gen.Linear2Ideal.Launch
public import proofs.«01_k».proof.Proof.Gen.Linear2Ideal.Points
public import proofs.«01_k».proof.Proof.Gen.Linear2Ideal.Frame
public import proofs.«01_k».proof.Proof.Gen.Linear2RefIdeal
public import proofs.«01_k».proof.Proof.Gen.Linear2RefIdeal.Skeleton
public import proofs.«01_k».proof.Proof.Gen.Linear2RefIdeal.Launch
public import proofs.«01_k».proof.Proof.Gen.Linear2RefIdeal.Points
public import proofs.«01_k».proof.Proof.Gen.Linear2RefIdeal.Frame
public import proofs.«01_k».proof.Proof.Gen.Linear1
public import proofs.«01_k».proof.Proof.Gen.Linear1.Skeleton
public import proofs.«01_k».proof.Proof.Gen.Linear1.Launch
public import proofs.«01_k».proof.Proof.Gen.Linear1.Points
public import proofs.«01_k».proof.Proof.Gen.Linear1Ideal
public import proofs.«01_k».proof.Proof.Gen.Linear1Ideal.Skeleton
public import proofs.«01_k».proof.Proof.Gen.Linear1Ideal.Launch
public import proofs.«01_k».proof.Proof.Gen.Linear1Ideal.Points
public import proofs.«01_k».proof.Proof.Gen.Linear1RefIdeal
public import proofs.«01_k».proof.Proof.Gen.Linear1RefIdeal.Skeleton
public import proofs.«01_k».proof.Proof.Gen.Linear1RefIdeal.Launch
public import proofs.«01_k».proof.Proof.Gen.Linear1RefIdeal.Points
public import proofs.«01_k».proof.Proof.Gen.Linear1RefIdeal.Frame
public import proofs.«01_k».proof.Proof.Gen.Linear1RefIdeal.Value
public import proofs.«01_k».proof.Proof.Gen.Codes
public import proofs.«01_k».proof.Proof.Gen.Codes.Skeleton
public import proofs.«01_k».proof.Proof.Gen.Codes.Launch
public import proofs.«01_k».proof.Proof.Gen.Codes.Points
public import proofs.«01_k».proof.Proof.Gen.Codes.Loops
public import proofs.«01_k».proof.Proof.Gen.Codes.Frame
public import proofs.«01_k».proof.Proof.Gen.CodesIdeal
public import proofs.«01_k».proof.Proof.Gen.CodesIdeal.Skeleton
public import proofs.«01_k».proof.Proof.Gen.CodesIdeal.Launch
public import proofs.«01_k».proof.Proof.Gen.CodesIdeal.Points
public import proofs.«01_k».proof.Proof.Gen.CodesIdeal.Loops
public import proofs.«01_k».proof.Proof.Gen.CodesIdeal.Frame
public import proofs.«01_k».proof.Proof.Gen.CodesRefIdeal
public import proofs.«01_k».proof.Proof.Gen.CodesRefIdeal.Skeleton
public import proofs.«01_k».proof.Proof.Gen.CodesRefIdeal.Launch
public import proofs.«01_k».proof.Proof.Gen.CodesRefIdeal.Points
public import proofs.«01_k».proof.Proof.Gen.CodesRefIdeal.Frame
public import proofs.«01_k».proof.Proof.Gen.CodesRefIdeal.Value
public import proofs.«01_k».proof.Proof.Gen.Pre_segments_of_32
public import proofs.«01_k».proof.Proof.CodesFrame
public import proofs.«01_k».proof.Proof.CodesIdealFrame
public import proofs.«01_k».proof.Proof.CodesKernel
public import proofs.«01_k».proof.Proof.CodesReference
public import proofs.«01_k».proof.Proof.Boundaries32
public import proofs.«01_k».proof.Proof.Linear1Frame
public import proofs.«01_k».proof.Proof.Linear1IdealFrame
public import proofs.«01_k».proof.Proof.Linear1Run
public import proofs.«01_k».proof.Proof.Linear1KernelQ
public import proofs.«01_k».proof.Proof.Linear1KernelK
public import proofs.«01_k».proof.Proof.Linear1KernelMlp
public import proofs.«01_k».proof.Proof.Linear1Reference
public import proofs.«01_k».proof.Proof.Gen.Pre_segments_of_256
public import proofs.«01_k».proof.Proof.Gen.Linear2Ideal.Value
public import proofs.«01_k».proof.Proof.Gen.Linear2RefIdeal.Value
public import proofs.«01_k».proof.Proof.Linear2Kernel
public import proofs.«01_k».proof.Proof.Linear2Reference
public import proofs.«01_k».proof.Proof.Boundaries
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.SL.Sem Cert.Linear2

/-- The second linear layer's kernel and its reference leave the same array. -/
theorem linear2 : Cert.algebraic_Linear2Ideal_Linear2RefIdeal_pre_segments_of_256
    (hLinear2Ideal := Cert.Linear2Ideal.Gen.facts) (hLinear2RefIdeal := Cert.Linear2RefIdeal.Gen.facts) (hPre_segments_of_256 := Cert.Pre_segments_of_256.Gen.facts) := by
  intro m g m' g' hpre hagree
  refine ⟨fun c => (Cert.Linear2Ideal.Gen.dats m 0 c).arrAt 11 Cert.Linear2Ideal.cfg0.N, Cert.Linear2Ideal.Value.run_blocks m g, ?_⟩
  have e : ∀ c : Dev Cert.Linear2Ideal.nD, (Cert.Linear2RefIdeal.Gen.dats m' 0 c).arrAt 9 Cert.Linear2RefIdeal.cfg0.N
      = (Cert.Linear2Ideal.Gen.dats m 0 c).arrAt 11 Cert.Linear2Ideal.cfg0.N := fun c => by
    obtain ⟨h0, h1, h2, h3, h4, h5, h6, h7, h8, h9⟩ := hagree c
    refine (Cert.Linear2RefIdeal.Mine.final m' c).trans (Eq.trans ?_ (Cert.Linear2Ideal.Mine.final m c (Cert.Mine.apart_of_pre _ _ _ _ _ _ _ _ _ _ (hpre c))).symm)
    rw [h0, h1, h2, h3, h4, h5, h6, h7, h8, h9]
  refine (θ_run _ _ _).mono (fun r h c => ?_) (Cert.Linear2RefIdeal.Value.run_blocks m' g')
  have hc := h c
  rw [e c] at hc
  exact hc

/-- The first linear layer's kernel and its reference leave the same queries, keys and feed-forward codes. -/
theorem linear1 : Cert.algebraic_Linear1Ideal_Linear1RefIdeal (hLinear1Ideal := Cert.Linear1Ideal.Gen.facts) (hLinear1RefIdeal := Cert.Linear1RefIdeal.Gen.facts) := by
  intro m g m' g' hpre hagree
  refine ⟨fun c => (Cert.Linear1Ideal.Own.dats m 0 c).arrAt 10 Cert.Linear1Ideal.cfg0.N, fun c => (Cert.Linear1Ideal.Own.dats m 0 c).arrAt 11 Cert.Linear1Ideal.cfg0.N,
    fun c => (Cert.Linear1Ideal.Own.dats m 0 c).arrAt 15 Cert.Linear1Ideal.cfg0.N, Cert.Linear1Ideal.Own.run_blocks m g, ?_⟩
  have eq : ∀ c : Dev Cert.Linear1Ideal.nD, (Cert.Linear1RefIdeal.Gen.dats m' 0 c).arrAt 10 Cert.Linear1RefIdeal.cfg0.N
      = (Cert.Linear1Ideal.Own.dats m 0 c).arrAt 10 Cert.Linear1Ideal.cfg0.N := fun c => by
    obtain ⟨h0, h1, h2, h3, h4, h5, h6, h7, h8, h9⟩ := hagree c
    refine (Cert.Linear1RefIdeal.Mine.final_q m' c).trans (Eq.trans ?_ (Cert.Linear1Ideal.Mine.final_q m c).symm)
    rw [h0, h1, h2, h3, h4, h6, h7, h8]
  have ek : ∀ c : Dev Cert.Linear1Ideal.nD, (Cert.Linear1RefIdeal.Gen.dats m' 0 c).arrAt 11 Cert.Linear1RefIdeal.cfg0.N
      = (Cert.Linear1Ideal.Own.dats m 0 c).arrAt 11 Cert.Linear1Ideal.cfg0.N := fun c => by
    obtain ⟨h0, h1, h2, h3, h4, h5, h6, h7, h8, h9⟩ := hagree c
    refine (Cert.Linear1RefIdeal.Mine.final_k m' c).trans (Eq.trans ?_ (Cert.Linear1Ideal.Mine.final_k m c).symm)
    rw [h0, h1, h2, h3, h5, h6, h7, h8]
  have em : ∀ c : Dev Cert.Linear1Ideal.nD, (Cert.Linear1RefIdeal.Gen.dats m' 0 c).arrAt 12 Cert.Linear1RefIdeal.cfg0.N
      = (Cert.Linear1Ideal.Own.dats m 0 c).arrAt 15 Cert.Linear1Ideal.cfg0.N := fun c => by
    obtain ⟨h0, h1, h2, h3, h4, h5, h6, h7, h8, h9⟩ := hagree c
    refine (Cert.Linear1RefIdeal.Mine.final_mlp m' c).trans (Eq.trans ?_ (Cert.Linear1Ideal.Mine.final_mlp m c).symm)
    rw [h0, h1, h2, h3, h8, h9]
  refine (θ_run _ _ _).mono (fun r h c => ?_) (Cert.Linear1RefIdeal.Value.run_blocks m' g')
  have hc := h c
  rw [eq c, ek c, em c] at hc
  exact hc

/-- The kernel that normalises and quantises the rows of `x` and its reference leave the same codes. -/
theorem codes : Cert.algebraic_CodesIdeal_CodesRefIdeal_pre_segments_of_32
    (hCodesIdeal := Cert.CodesIdeal.Gen.facts) (hCodesRefIdeal := Cert.CodesRefIdeal.Gen.facts) (hPre_segments_of_32 := Cert.Pre_segments_of_32.Gen.facts) := by
  intro m g m' g' hpre hagree
  refine ⟨fun c => (Cert.CodesIdeal.Own.dats m 0 c).arrAt 5 Cert.CodesIdeal.cfg0.N, Cert.CodesIdeal.Mine.run_blocks m g, ?_⟩
  have e : ∀ c : Dev Cert.CodesIdeal.nD, (Cert.CodesRefIdeal.Gen.dats m' 0 c).arrAt 4 Cert.CodesRefIdeal.cfg0.N
      = (Cert.CodesIdeal.Own.dats m 0 c).arrAt 5 Cert.CodesIdeal.cfg0.N := fun c => by
    obtain ⟨h0, h1, h2, h3, h4⟩ := hagree c
    refine (Cert.CodesRefIdeal.Mine.final m' c).trans (Eq.trans ?_ (Cert.CodesIdeal.Mine.final m c (Cert.Mine.apart_of_pre32 _ _ _ _ _ (hpre c))).symm)
    rw [h0, h1, h2, h3, h4]
  refine (θ_run _ _ _).mono (fun r h c => ?_) (Cert.CodesRefIdeal.Value.run_blocks m' g')
  have hc := h c
  rw [e c] at hc
  exact hc

theorem claim : Cert.Claim := ⟨Cert.Linear2.Gen.facts, Cert.Linear2Ideal.Gen.facts, Cert.Linear2RefIdeal.Gen.facts,
  Cert.Linear1.Gen.facts, Cert.Linear1Ideal.Gen.facts, Cert.Linear1RefIdeal.Gen.facts,
  Cert.Codes.Gen.facts, Cert.CodesIdeal.Gen.facts, Cert.CodesRefIdeal.Gen.facts, Cert.Pre_segments_of_256.Gen.facts, Cert.Pre_segments_of_32.Gen.facts,
  fun m ρ _ => Cert.Linear2.Gen.frame m ρ,
  fun m ρ _ => Cert.Linear2Ideal.Gen.frame m ρ,
  fun m ρ _ => Cert.Linear2Ideal.Gen.frame m ρ,
  fun m ρ _ => Cert.Linear2RefIdeal.Gen.frame m ρ,
  fun m ρ _ => Cert.Linear2RefIdeal.Gen.frame m ρ,
  fun m ρ _ => Cert.Linear1.Own.frame m ρ,
  fun m ρ _ => Cert.Linear1Ideal.Own.frame m ρ,
  fun m ρ _ => Cert.Linear1RefIdeal.Gen.frame m ρ,
  fun m ρ _ => Cert.Codes.Own.frame m ρ,
  fun m ρ _ => Cert.CodesIdeal.Own.frame m ρ,
  fun m ρ _ => Cert.CodesIdeal.Own.frame m ρ,
  fun m ρ _ => Cert.CodesRefIdeal.Gen.frame m ρ,
  fun m ρ _ => Cert.CodesRefIdeal.Gen.frame m ρ,
  trivial,
  linear2,
  ⟨IdealRules.bf16_pair.packStatement _, IdealRules.bf16_pair.statement _ _⟩,
  linear1,
  IdealRules.named_const.statement _ _ _ _ _ rfl,
  codes⟩

end Cert.Proof

end
